-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩
abbrev S512x256 : Shape := ⟨2, ![512, 256]⟩
abbrev S256x512 : Shape := ⟨2, ![256, 512]⟩
abbrev S32x16x512 : Shape := ⟨3, ![32, 16, 512]⟩
abbrev S2x8x512 : Shape := ⟨3, ![2, 8, 512]⟩
abbrev S2x31 : Shape := ⟨2, ![2, 31]⟩
abbrev S2x32 : Shape := ⟨2, ![2, 32]⟩
abbrev S2 : Shape := ⟨1, ![2]⟩
abbrev S256x256 : Shape := ⟨2, ![256, 256]⟩
abbrev S1x256x512 : Shape := ⟨3, ![1, 256, 512]⟩
abbrev S256x64 : Shape := ⟨2, ![256, 64]⟩
abbrev S1x256x1x64 : Shape := ⟨4, ![1, 256, 1, 64]⟩
abbrev S64x256 : Shape := ⟨2, ![64, 256]⟩
abbrev S256 : Shape := ⟨1, ![256]⟩
abbrev S256x1 : Shape := ⟨2, ![256, 1]⟩
abbrev S8x512 : Shape := ⟨2, ![8, 512]⟩
abbrev S1x8x512 : Shape := ⟨3, ![1, 8, 512]⟩
abbrev S1 : Shape := ⟨1, ![1]⟩
abbrev S1x1 : Shape := ⟨2, ![1, 1]⟩
abbrev S32x8x512 : Shape := ⟨3, ![32, 8, 512]⟩

abbrev nBuf : Space → Nat
  | .hbm => 30
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x4x64, .f32⟩
  | .hbm, ⟨3, _⟩ => ⟨S2x256x4x64, .f32⟩
  | .hbm, ⟨4, _⟩ => ⟨S8192x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .f32⟩
  | .hbm, ⟨29, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S32x16x512, .bf16⟩
  | .local _ .vmem, ⟨7, _⟩ => ⟨S32x16x512, .bf16⟩
  | .local _ .vmem, ⟨8, _⟩ => ⟨S32x16x512, .bf16⟩
  | .local _ .vmem, ⟨9, _⟩ => ⟨S2x8x512, .bf16⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_422 : BitVec 32 := 0#32
  let c0_i32_423 : BitVec 32 := 0#32
  ![v2.toNat, 0, 0]
def k0_off2 (d0 : Dev nD) : Fin 2 → Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off3 (d0 : Dev nD) (c1_i32_426 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v686 : BitVec 32 := Scalar.addi v2 c1_i32_426
  let c32_i32_427 : BitVec 32 := 32#32
  let c0_i32_428 : BitVec 32 := 0#32
  let v687 : BitVec 1 := Scalar.cmpi .eq c32_i32_427 c0_i32_428
  let c1_i32_429 : BitVec 32 := 1#32
  let v688 : BitVec 32 := Scalar.select v687 c1_i32_429 c32_i32_427
  let v689 : BitVec 32 := Scalar.remsi v686 v688
  let c0_i32_431 : BitVec 32 := 0#32
  let v691 : BitVec 1 := Scalar.cmpi .slt v689 c0_i32_431
  let c0_i32_432 : BitVec 32 := 0#32
  let v692 : BitVec 1 := Scalar.cmpi .slt v688 c0_i32_432
  let v693 : BitVec 1 := Scalar.xori v691 v692
  let c0_i32_430 : BitVec 32 := 0#32
  let v690 : BitVec 1 := Scalar.cmpi .ne v689 c0_i32_430
  let v694 : BitVec 1 := Scalar.andi v693 v690
  let v695 : BitVec 32 := Scalar.addi v689 v688
  let v696 : BitVec 32 := Scalar.select v694 v695 v689
  let c0_i32_440 : BitVec 32 := 0#32
  let c0_i32_441 : BitVec 32 := 0#32
  ![v696.toNat, 0, 0]
def k0_dev32 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_426 : BitVec 32 := 1#32
  let v686 : BitVec 32 := Scalar.addi v2 c1_i32_426
  let c32_i32_427 : BitVec 32 := 32#32
  let c0_i32_428 : BitVec 32 := 0#32
  let v687 : BitVec 1 := Scalar.cmpi .eq c32_i32_427 c0_i32_428
  let c1_i32_429 : BitVec 32 := 1#32
  let v688 : BitVec 32 := Scalar.select v687 c1_i32_429 c32_i32_427
  let v689 : BitVec 32 := Scalar.remsi v686 v688
  let c0_i32_431 : BitVec 32 := 0#32
  let v691 : BitVec 1 := Scalar.cmpi .slt v689 c0_i32_431
  let c0_i32_432 : BitVec 32 := 0#32
  let v692 : BitVec 1 := Scalar.cmpi .slt v688 c0_i32_432
  let v693 : BitVec 1 := Scalar.xori v691 v692
  let c0_i32_430 : BitVec 32 := 0#32
  let v690 : BitVec 1 := Scalar.cmpi .ne v689 c0_i32_430
  let v694 : BitVec 1 := Scalar.andi v693 v690
  let v695 : BitVec 32 := Scalar.addi v689 v688
  let v696 : BitVec 32 := Scalar.select v694 v695 v689
  let c1_i32_436 : BitVec 32 := 1#32
  let v697 : BitVec 32 := Scalar.muli v696 c1_i32_436
  let v698 : BitVec 32 := Scalar.addi c0_i32_437 v697
  v698.toNat
def k0_dev33 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_442 : BitVec 32 := 2#32
  let v707 : BitVec 32 := Scalar.addi v2 c2_i32_442
  let c32_i32_443 : BitVec 32 := 32#32
  let c0_i32_444 : BitVec 32 := 0#32
  let v708 : BitVec 1 := Scalar.cmpi .eq c32_i32_443 c0_i32_444
  let c1_i32_445 : BitVec 32 := 1#32
  let v709 : BitVec 32 := Scalar.select v708 c1_i32_445 c32_i32_443
  let v710 : BitVec 32 := Scalar.remsi v707 v709
  let c0_i32_447 : BitVec 32 := 0#32
  let v712 : BitVec 1 := Scalar.cmpi .slt v710 c0_i32_447
  let c0_i32_448 : BitVec 32 := 0#32
  let v713 : BitVec 1 := Scalar.cmpi .slt v709 c0_i32_448
  let v714 : BitVec 1 := Scalar.xori v712 v713
  let c0_i32_446 : BitVec 32 := 0#32
  let v711 : BitVec 1 := Scalar.cmpi .ne v710 c0_i32_446
  let v715 : BitVec 1 := Scalar.andi v714 v711
  let v716 : BitVec 32 := Scalar.addi v710 v709
  let v717 : BitVec 32 := Scalar.select v715 v716 v710
  let c1_i32_452 : BitVec 32 := 1#32
  let v718 : BitVec 32 := Scalar.muli v717 c1_i32_452
  let v719 : BitVec 32 := Scalar.addi c0_i32_453 v718
  v719.toNat
def k0_dev34 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_458 : BitVec 32 := 3#32
  let v728 : BitVec 32 := Scalar.addi v2 c3_i32_458
  let c32_i32_459 : BitVec 32 := 32#32
  let c0_i32_460 : BitVec 32 := 0#32
  let v729 : BitVec 1 := Scalar.cmpi .eq c32_i32_459 c0_i32_460
  let c1_i32_461 : BitVec 32 := 1#32
  let v730 : BitVec 32 := Scalar.select v729 c1_i32_461 c32_i32_459
  let v731 : BitVec 32 := Scalar.remsi v728 v730
  let c0_i32_463 : BitVec 32 := 0#32
  let v733 : BitVec 1 := Scalar.cmpi .slt v731 c0_i32_463
  let c0_i32_464 : BitVec 32 := 0#32
  let v734 : BitVec 1 := Scalar.cmpi .slt v730 c0_i32_464
  let v735 : BitVec 1 := Scalar.xori v733 v734
  let c0_i32_462 : BitVec 32 := 0#32
  let v732 : BitVec 1 := Scalar.cmpi .ne v731 c0_i32_462
  let v736 : BitVec 1 := Scalar.andi v735 v732
  let v737 : BitVec 32 := Scalar.addi v731 v730
  let v738 : BitVec 32 := Scalar.select v736 v737 v731
  let c1_i32_468 : BitVec 32 := 1#32
  let v739 : BitVec 32 := Scalar.muli v738 c1_i32_468
  let v740 : BitVec 32 := Scalar.addi c0_i32_469 v739
  v740.toNat
def k0_dev35 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_474 : BitVec 32 := 4#32
  let v749 : BitVec 32 := Scalar.addi v2 c4_i32_474
  let c32_i32_475 : BitVec 32 := 32#32
  let c0_i32_476 : BitVec 32 := 0#32
  let v750 : BitVec 1 := Scalar.cmpi .eq c32_i32_475 c0_i32_476
  let c1_i32_477 : BitVec 32 := 1#32
  let v751 : BitVec 32 := Scalar.select v750 c1_i32_477 c32_i32_475
  let v752 : BitVec 32 := Scalar.remsi v749 v751
  let c0_i32_479 : BitVec 32 := 0#32
  let v754 : BitVec 1 := Scalar.cmpi .slt v752 c0_i32_479
  let c0_i32_480 : BitVec 32 := 0#32
  let v755 : BitVec 1 := Scalar.cmpi .slt v751 c0_i32_480
  let v756 : BitVec 1 := Scalar.xori v754 v755
  let c0_i32_478 : BitVec 32 := 0#32
  let v753 : BitVec 1 := Scalar.cmpi .ne v752 c0_i32_478
  let v757 : BitVec 1 := Scalar.andi v756 v753
  let v758 : BitVec 32 := Scalar.addi v752 v751
  let v759 : BitVec 32 := Scalar.select v757 v758 v752
  let c1_i32_484 : BitVec 32 := 1#32
  let v760 : BitVec 32 := Scalar.muli v759 c1_i32_484
  let v761 : BitVec 32 := Scalar.addi c0_i32_485 v760
  v761.toNat
def k0_dev36 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_490 : BitVec 32 := 5#32
  let v770 : BitVec 32 := Scalar.addi v2 c5_i32_490
  let c32_i32_491 : BitVec 32 := 32#32
  let c0_i32_492 : BitVec 32 := 0#32
  let v771 : BitVec 1 := Scalar.cmpi .eq c32_i32_491 c0_i32_492
  let c1_i32_493 : BitVec 32 := 1#32
  let v772 : BitVec 32 := Scalar.select v771 c1_i32_493 c32_i32_491
  let v773 : BitVec 32 := Scalar.remsi v770 v772
  let c0_i32_495 : BitVec 32 := 0#32
  let v775 : BitVec 1 := Scalar.cmpi .slt v773 c0_i32_495
  let c0_i32_496 : BitVec 32 := 0#32
  let v776 : BitVec 1 := Scalar.cmpi .slt v772 c0_i32_496
  let v777 : BitVec 1 := Scalar.xori v775 v776
  let c0_i32_494 : BitVec 32 := 0#32
  let v774 : BitVec 1 := Scalar.cmpi .ne v773 c0_i32_494
  let v778 : BitVec 1 := Scalar.andi v777 v774
  let v779 : BitVec 32 := Scalar.addi v773 v772
  let v780 : BitVec 32 := Scalar.select v778 v779 v773
  let c1_i32_500 : BitVec 32 := 1#32
  let v781 : BitVec 32 := Scalar.muli v780 c1_i32_500
  let v782 : BitVec 32 := Scalar.addi c0_i32_501 v781
  v782.toNat
def k0_dev37 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_506 : BitVec 32 := 6#32
  let v791 : BitVec 32 := Scalar.addi v2 c6_i32_506
  let c32_i32_507 : BitVec 32 := 32#32
  let c0_i32_508 : BitVec 32 := 0#32
  let v792 : BitVec 1 := Scalar.cmpi .eq c32_i32_507 c0_i32_508
  let c1_i32_509 : BitVec 32 := 1#32
  let v793 : BitVec 32 := Scalar.select v792 c1_i32_509 c32_i32_507
  let v794 : BitVec 32 := Scalar.remsi v791 v793
  let c0_i32_511 : BitVec 32 := 0#32
  let v796 : BitVec 1 := Scalar.cmpi .slt v794 c0_i32_511
  let c0_i32_512 : BitVec 32 := 0#32
  let v797 : BitVec 1 := Scalar.cmpi .slt v793 c0_i32_512
  let v798 : BitVec 1 := Scalar.xori v796 v797
  let c0_i32_510 : BitVec 32 := 0#32
  let v795 : BitVec 1 := Scalar.cmpi .ne v794 c0_i32_510
  let v799 : BitVec 1 := Scalar.andi v798 v795
  let v800 : BitVec 32 := Scalar.addi v794 v793
  let v801 : BitVec 32 := Scalar.select v799 v800 v794
  let c1_i32_516 : BitVec 32 := 1#32
  let v802 : BitVec 32 := Scalar.muli v801 c1_i32_516
  let v803 : BitVec 32 := Scalar.addi c0_i32_517 v802
  v803.toNat
def k0_dev38 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_522 : BitVec 32 := 7#32
  let v812 : BitVec 32 := Scalar.addi v2 c7_i32_522
  let c32_i32_523 : BitVec 32 := 32#32
  let c0_i32_524 : BitVec 32 := 0#32
  let v813 : BitVec 1 := Scalar.cmpi .eq c32_i32_523 c0_i32_524
  let c1_i32_525 : BitVec 32 := 1#32
  let v814 : BitVec 32 := Scalar.select v813 c1_i32_525 c32_i32_523
  let v815 : BitVec 32 := Scalar.remsi v812 v814
  let c0_i32_527 : BitVec 32 := 0#32
  let v817 : BitVec 1 := Scalar.cmpi .slt v815 c0_i32_527
  let c0_i32_528 : BitVec 32 := 0#32
  let v818 : BitVec 1 := Scalar.cmpi .slt v814 c0_i32_528
  let v819 : BitVec 1 := Scalar.xori v817 v818
  let c0_i32_526 : BitVec 32 := 0#32
  let v816 : BitVec 1 := Scalar.cmpi .ne v815 c0_i32_526
  let v820 : BitVec 1 := Scalar.andi v819 v816
  let v821 : BitVec 32 := Scalar.addi v815 v814
  let v822 : BitVec 32 := Scalar.select v820 v821 v815
  let c1_i32_532 : BitVec 32 := 1#32
  let v823 : BitVec 32 := Scalar.muli v822 c1_i32_532
  let v824 : BitVec 32 := Scalar.addi c0_i32_533 v823
  v824.toNat
def k0_dev39 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_538 : BitVec 32 := 8#32
  let v833 : BitVec 32 := Scalar.addi v2 c8_i32_538
  let c32_i32_539 : BitVec 32 := 32#32
  let c0_i32_540 : BitVec 32 := 0#32
  let v834 : BitVec 1 := Scalar.cmpi .eq c32_i32_539 c0_i32_540
  let c1_i32_541 : BitVec 32 := 1#32
  let v835 : BitVec 32 := Scalar.select v834 c1_i32_541 c32_i32_539
  let v836 : BitVec 32 := Scalar.remsi v833 v835
  let c0_i32_543 : BitVec 32 := 0#32
  let v838 : BitVec 1 := Scalar.cmpi .slt v836 c0_i32_543
  let c0_i32_544 : BitVec 32 := 0#32
  let v839 : BitVec 1 := Scalar.cmpi .slt v835 c0_i32_544
  let v840 : BitVec 1 := Scalar.xori v838 v839
  let c0_i32_542 : BitVec 32 := 0#32
  let v837 : BitVec 1 := Scalar.cmpi .ne v836 c0_i32_542
  let v841 : BitVec 1 := Scalar.andi v840 v837
  let v842 : BitVec 32 := Scalar.addi v836 v835
  let v843 : BitVec 32 := Scalar.select v841 v842 v836
  let c1_i32_548 : BitVec 32 := 1#32
  let v844 : BitVec 32 := Scalar.muli v843 c1_i32_548
  let v845 : BitVec 32 := Scalar.addi c0_i32_549 v844
  v845.toNat
def k0_dev40 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_554 : BitVec 32 := 9#32
  let v854 : BitVec 32 := Scalar.addi v2 c9_i32_554
  let c32_i32_555 : BitVec 32 := 32#32
  let c0_i32_556 : BitVec 32 := 0#32
  let v855 : BitVec 1 := Scalar.cmpi .eq c32_i32_555 c0_i32_556
  let c1_i32_557 : BitVec 32 := 1#32
  let v856 : BitVec 32 := Scalar.select v855 c1_i32_557 c32_i32_555
  let v857 : BitVec 32 := Scalar.remsi v854 v856
  let c0_i32_559 : BitVec 32 := 0#32
  let v859 : BitVec 1 := Scalar.cmpi .slt v857 c0_i32_559
  let c0_i32_560 : BitVec 32 := 0#32
  let v860 : BitVec 1 := Scalar.cmpi .slt v856 c0_i32_560
  let v861 : BitVec 1 := Scalar.xori v859 v860
  let c0_i32_558 : BitVec 32 := 0#32
  let v858 : BitVec 1 := Scalar.cmpi .ne v857 c0_i32_558
  let v862 : BitVec 1 := Scalar.andi v861 v858
  let v863 : BitVec 32 := Scalar.addi v857 v856
  let v864 : BitVec 32 := Scalar.select v862 v863 v857
  let c1_i32_564 : BitVec 32 := 1#32
  let v865 : BitVec 32 := Scalar.muli v864 c1_i32_564
  let v866 : BitVec 32 := Scalar.addi c0_i32_565 v865
  v866.toNat
def k0_dev41 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_570 : BitVec 32 := 10#32
  let v875 : BitVec 32 := Scalar.addi v2 c10_i32_570
  let c32_i32_571 : BitVec 32 := 32#32
  let c0_i32_572 : BitVec 32 := 0#32
  let v876 : BitVec 1 := Scalar.cmpi .eq c32_i32_571 c0_i32_572
  let c1_i32_573 : BitVec 32 := 1#32
  let v877 : BitVec 32 := Scalar.select v876 c1_i32_573 c32_i32_571
  let v878 : BitVec 32 := Scalar.remsi v875 v877
  let c0_i32_575 : BitVec 32 := 0#32
  let v880 : BitVec 1 := Scalar.cmpi .slt v878 c0_i32_575
  let c0_i32_576 : BitVec 32 := 0#32
  let v881 : BitVec 1 := Scalar.cmpi .slt v877 c0_i32_576
  let v882 : BitVec 1 := Scalar.xori v880 v881
  let c0_i32_574 : BitVec 32 := 0#32
  let v879 : BitVec 1 := Scalar.cmpi .ne v878 c0_i32_574
  let v883 : BitVec 1 := Scalar.andi v882 v879
  let v884 : BitVec 32 := Scalar.addi v878 v877
  let v885 : BitVec 32 := Scalar.select v883 v884 v878
  let c1_i32_580 : BitVec 32 := 1#32
  let v886 : BitVec 32 := Scalar.muli v885 c1_i32_580
  let v887 : BitVec 32 := Scalar.addi c0_i32_581 v886
  v887.toNat
def k0_dev42 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_586 : BitVec 32 := 11#32
  let v896 : BitVec 32 := Scalar.addi v2 c11_i32_586
  let c32_i32_587 : BitVec 32 := 32#32
  let c0_i32_588 : BitVec 32 := 0#32
  let v897 : BitVec 1 := Scalar.cmpi .eq c32_i32_587 c0_i32_588
  let c1_i32_589 : BitVec 32 := 1#32
  let v898 : BitVec 32 := Scalar.select v897 c1_i32_589 c32_i32_587
  let v899 : BitVec 32 := Scalar.remsi v896 v898
  let c0_i32_591 : BitVec 32 := 0#32
  let v901 : BitVec 1 := Scalar.cmpi .slt v899 c0_i32_591
  let c0_i32_592 : BitVec 32 := 0#32
  let v902 : BitVec 1 := Scalar.cmpi .slt v898 c0_i32_592
  let v903 : BitVec 1 := Scalar.xori v901 v902
  let c0_i32_590 : BitVec 32 := 0#32
  let v900 : BitVec 1 := Scalar.cmpi .ne v899 c0_i32_590
  let v904 : BitVec 1 := Scalar.andi v903 v900
  let v905 : BitVec 32 := Scalar.addi v899 v898
  let v906 : BitVec 32 := Scalar.select v904 v905 v899
  let c1_i32_596 : BitVec 32 := 1#32
  let v907 : BitVec 32 := Scalar.muli v906 c1_i32_596
  let v908 : BitVec 32 := Scalar.addi c0_i32_597 v907
  v908.toNat
def k0_dev43 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_602 : BitVec 32 := 12#32
  let v917 : BitVec 32 := Scalar.addi v2 c12_i32_602
  let c32_i32_603 : BitVec 32 := 32#32
  let c0_i32_604 : BitVec 32 := 0#32
  let v918 : BitVec 1 := Scalar.cmpi .eq c32_i32_603 c0_i32_604
  let c1_i32_605 : BitVec 32 := 1#32
  let v919 : BitVec 32 := Scalar.select v918 c1_i32_605 c32_i32_603
  let v920 : BitVec 32 := Scalar.remsi v917 v919
  let c0_i32_607 : BitVec 32 := 0#32
  let v922 : BitVec 1 := Scalar.cmpi .slt v920 c0_i32_607
  let c0_i32_608 : BitVec 32 := 0#32
  let v923 : BitVec 1 := Scalar.cmpi .slt v919 c0_i32_608
  let v924 : BitVec 1 := Scalar.xori v922 v923
  let c0_i32_606 : BitVec 32 := 0#32
  let v921 : BitVec 1 := Scalar.cmpi .ne v920 c0_i32_606
  let v925 : BitVec 1 := Scalar.andi v924 v921
  let v926 : BitVec 32 := Scalar.addi v920 v919
  let v927 : BitVec 32 := Scalar.select v925 v926 v920
  let c1_i32_612 : BitVec 32 := 1#32
  let v928 : BitVec 32 := Scalar.muli v927 c1_i32_612
  let v929 : BitVec 32 := Scalar.addi c0_i32_613 v928
  v929.toNat
def k0_dev44 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_618 : BitVec 32 := 13#32
  let v938 : BitVec 32 := Scalar.addi v2 c13_i32_618
  let c32_i32_619 : BitVec 32 := 32#32
  let c0_i32_620 : BitVec 32 := 0#32
  let v939 : BitVec 1 := Scalar.cmpi .eq c32_i32_619 c0_i32_620
  let c1_i32_621 : BitVec 32 := 1#32
  let v940 : BitVec 32 := Scalar.select v939 c1_i32_621 c32_i32_619
  let v941 : BitVec 32 := Scalar.remsi v938 v940
  let c0_i32_623 : BitVec 32 := 0#32
  let v943 : BitVec 1 := Scalar.cmpi .slt v941 c0_i32_623
  let c0_i32_624 : BitVec 32 := 0#32
  let v944 : BitVec 1 := Scalar.cmpi .slt v940 c0_i32_624
  let v945 : BitVec 1 := Scalar.xori v943 v944
  let c0_i32_622 : BitVec 32 := 0#32
  let v942 : BitVec 1 := Scalar.cmpi .ne v941 c0_i32_622
  let v946 : BitVec 1 := Scalar.andi v945 v942
  let v947 : BitVec 32 := Scalar.addi v941 v940
  let v948 : BitVec 32 := Scalar.select v946 v947 v941
  let c1_i32_628 : BitVec 32 := 1#32
  let v949 : BitVec 32 := Scalar.muli v948 c1_i32_628
  let v950 : BitVec 32 := Scalar.addi c0_i32_629 v949
  v950.toNat
def k0_dev45 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_634 : BitVec 32 := 14#32
  let v959 : BitVec 32 := Scalar.addi v2 c14_i32_634
  let c32_i32_635 : BitVec 32 := 32#32
  let c0_i32_636 : BitVec 32 := 0#32
  let v960 : BitVec 1 := Scalar.cmpi .eq c32_i32_635 c0_i32_636
  let c1_i32_637 : BitVec 32 := 1#32
  let v961 : BitVec 32 := Scalar.select v960 c1_i32_637 c32_i32_635
  let v962 : BitVec 32 := Scalar.remsi v959 v961
  let c0_i32_639 : BitVec 32 := 0#32
  let v964 : BitVec 1 := Scalar.cmpi .slt v962 c0_i32_639
  let c0_i32_640 : BitVec 32 := 0#32
  let v965 : BitVec 1 := Scalar.cmpi .slt v961 c0_i32_640
  let v966 : BitVec 1 := Scalar.xori v964 v965
  let c0_i32_638 : BitVec 32 := 0#32
  let v963 : BitVec 1 := Scalar.cmpi .ne v962 c0_i32_638
  let v967 : BitVec 1 := Scalar.andi v966 v963
  let v968 : BitVec 32 := Scalar.addi v962 v961
  let v969 : BitVec 32 := Scalar.select v967 v968 v962
  let c1_i32_644 : BitVec 32 := 1#32
  let v970 : BitVec 32 := Scalar.muli v969 c1_i32_644
  let v971 : BitVec 32 := Scalar.addi c0_i32_645 v970
  v971.toNat
def k0_dev46 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_650 : BitVec 32 := 15#32
  let v980 : BitVec 32 := Scalar.addi v2 c15_i32_650
  let c32_i32_651 : BitVec 32 := 32#32
  let c0_i32_652 : BitVec 32 := 0#32
  let v981 : BitVec 1 := Scalar.cmpi .eq c32_i32_651 c0_i32_652
  let c1_i32_653 : BitVec 32 := 1#32
  let v982 : BitVec 32 := Scalar.select v981 c1_i32_653 c32_i32_651
  let v983 : BitVec 32 := Scalar.remsi v980 v982
  let c0_i32_655 : BitVec 32 := 0#32
  let v985 : BitVec 1 := Scalar.cmpi .slt v983 c0_i32_655
  let c0_i32_656 : BitVec 32 := 0#32
  let v986 : BitVec 1 := Scalar.cmpi .slt v982 c0_i32_656
  let v987 : BitVec 1 := Scalar.xori v985 v986
  let c0_i32_654 : BitVec 32 := 0#32
  let v984 : BitVec 1 := Scalar.cmpi .ne v983 c0_i32_654
  let v988 : BitVec 1 := Scalar.andi v987 v984
  let v989 : BitVec 32 := Scalar.addi v983 v982
  let v990 : BitVec 32 := Scalar.select v988 v989 v983
  let c1_i32_660 : BitVec 32 := 1#32
  let v991 : BitVec 32 := Scalar.muli v990 c1_i32_660
  let v992 : BitVec 32 := Scalar.addi c0_i32_661 v991
  v992.toNat
def k0_dev47 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_666 : BitVec 32 := 16#32
  let v1001 : BitVec 32 := Scalar.addi v2 c16_i32_666
  let c32_i32_667 : BitVec 32 := 32#32
  let c0_i32_668 : BitVec 32 := 0#32
  let v1002 : BitVec 1 := Scalar.cmpi .eq c32_i32_667 c0_i32_668
  let c1_i32_669 : BitVec 32 := 1#32
  let v1003 : BitVec 32 := Scalar.select v1002 c1_i32_669 c32_i32_667
  let v1004 : BitVec 32 := Scalar.remsi v1001 v1003
  let c0_i32_671 : BitVec 32 := 0#32
  let v1006 : BitVec 1 := Scalar.cmpi .slt v1004 c0_i32_671
  let c0_i32_672 : BitVec 32 := 0#32
  let v1007 : BitVec 1 := Scalar.cmpi .slt v1003 c0_i32_672
  let v1008 : BitVec 1 := Scalar.xori v1006 v1007
  let c0_i32_670 : BitVec 32 := 0#32
  let v1005 : BitVec 1 := Scalar.cmpi .ne v1004 c0_i32_670
  let v1009 : BitVec 1 := Scalar.andi v1008 v1005
  let v1010 : BitVec 32 := Scalar.addi v1004 v1003
  let v1011 : BitVec 32 := Scalar.select v1009 v1010 v1004
  let c1_i32_676 : BitVec 32 := 1#32
  let v1012 : BitVec 32 := Scalar.muli v1011 c1_i32_676
  let v1013 : BitVec 32 := Scalar.addi c0_i32_677 v1012
  v1013.toNat
def k0_dev48 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_682 : BitVec 32 := 17#32
  let v1022 : BitVec 32 := Scalar.addi v2 c17_i32_682
  let c32_i32_683 : BitVec 32 := 32#32
  let c0_i32_684 : BitVec 32 := 0#32
  let v1023 : BitVec 1 := Scalar.cmpi .eq c32_i32_683 c0_i32_684
  let c1_i32_685 : BitVec 32 := 1#32
  let v1024 : BitVec 32 := Scalar.select v1023 c1_i32_685 c32_i32_683
  let v1025 : BitVec 32 := Scalar.remsi v1022 v1024
  let c0_i32_687 : BitVec 32 := 0#32
  let v1027 : BitVec 1 := Scalar.cmpi .slt v1025 c0_i32_687
  let c0_i32_688 : BitVec 32 := 0#32
  let v1028 : BitVec 1 := Scalar.cmpi .slt v1024 c0_i32_688
  let v1029 : BitVec 1 := Scalar.xori v1027 v1028
  let c0_i32_686 : BitVec 32 := 0#32
  let v1026 : BitVec 1 := Scalar.cmpi .ne v1025 c0_i32_686
  let v1030 : BitVec 1 := Scalar.andi v1029 v1026
  let v1031 : BitVec 32 := Scalar.addi v1025 v1024
  let v1032 : BitVec 32 := Scalar.select v1030 v1031 v1025
  let c1_i32_692 : BitVec 32 := 1#32
  let v1033 : BitVec 32 := Scalar.muli v1032 c1_i32_692
  let v1034 : BitVec 32 := Scalar.addi c0_i32_693 v1033
  v1034.toNat
def k0_dev49 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_698 : BitVec 32 := 18#32
  let v1043 : BitVec 32 := Scalar.addi v2 c18_i32_698
  let c32_i32_699 : BitVec 32 := 32#32
  let c0_i32_700 : BitVec 32 := 0#32
  let v1044 : BitVec 1 := Scalar.cmpi .eq c32_i32_699 c0_i32_700
  let c1_i32_701 : BitVec 32 := 1#32
  let v1045 : BitVec 32 := Scalar.select v1044 c1_i32_701 c32_i32_699
  let v1046 : BitVec 32 := Scalar.remsi v1043 v1045
  let c0_i32_703 : BitVec 32 := 0#32
  let v1048 : BitVec 1 := Scalar.cmpi .slt v1046 c0_i32_703
  let c0_i32_704 : BitVec 32 := 0#32
  let v1049 : BitVec 1 := Scalar.cmpi .slt v1045 c0_i32_704
  let v1050 : BitVec 1 := Scalar.xori v1048 v1049
  let c0_i32_702 : BitVec 32 := 0#32
  let v1047 : BitVec 1 := Scalar.cmpi .ne v1046 c0_i32_702
  let v1051 : BitVec 1 := Scalar.andi v1050 v1047
  let v1052 : BitVec 32 := Scalar.addi v1046 v1045
  let v1053 : BitVec 32 := Scalar.select v1051 v1052 v1046
  let c1_i32_708 : BitVec 32 := 1#32
  let v1054 : BitVec 32 := Scalar.muli v1053 c1_i32_708
  let v1055 : BitVec 32 := Scalar.addi c0_i32_709 v1054
  v1055.toNat
def k0_dev50 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_714 : BitVec 32 := 19#32
  let v1064 : BitVec 32 := Scalar.addi v2 c19_i32_714
  let c32_i32_715 : BitVec 32 := 32#32
  let c0_i32_716 : BitVec 32 := 0#32
  let v1065 : BitVec 1 := Scalar.cmpi .eq c32_i32_715 c0_i32_716
  let c1_i32_717 : BitVec 32 := 1#32
  let v1066 : BitVec 32 := Scalar.select v1065 c1_i32_717 c32_i32_715
  let v1067 : BitVec 32 := Scalar.remsi v1064 v1066
  let c0_i32_719 : BitVec 32 := 0#32
  let v1069 : BitVec 1 := Scalar.cmpi .slt v1067 c0_i32_719
  let c0_i32_720 : BitVec 32 := 0#32
  let v1070 : BitVec 1 := Scalar.cmpi .slt v1066 c0_i32_720
  let v1071 : BitVec 1 := Scalar.xori v1069 v1070
  let c0_i32_718 : BitVec 32 := 0#32
  let v1068 : BitVec 1 := Scalar.cmpi .ne v1067 c0_i32_718
  let v1072 : BitVec 1 := Scalar.andi v1071 v1068
  let v1073 : BitVec 32 := Scalar.addi v1067 v1066
  let v1074 : BitVec 32 := Scalar.select v1072 v1073 v1067
  let c1_i32_724 : BitVec 32 := 1#32
  let v1075 : BitVec 32 := Scalar.muli v1074 c1_i32_724
  let v1076 : BitVec 32 := Scalar.addi c0_i32_725 v1075
  v1076.toNat
def k0_dev51 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_730 : BitVec 32 := 20#32
  let v1085 : BitVec 32 := Scalar.addi v2 c20_i32_730
  let c32_i32_731 : BitVec 32 := 32#32
  let c0_i32_732 : BitVec 32 := 0#32
  let v1086 : BitVec 1 := Scalar.cmpi .eq c32_i32_731 c0_i32_732
  let c1_i32_733 : BitVec 32 := 1#32
  let v1087 : BitVec 32 := Scalar.select v1086 c1_i32_733 c32_i32_731
  let v1088 : BitVec 32 := Scalar.remsi v1085 v1087
  let c0_i32_735 : BitVec 32 := 0#32
  let v1090 : BitVec 1 := Scalar.cmpi .slt v1088 c0_i32_735
  let c0_i32_736 : BitVec 32 := 0#32
  let v1091 : BitVec 1 := Scalar.cmpi .slt v1087 c0_i32_736
  let v1092 : BitVec 1 := Scalar.xori v1090 v1091
  let c0_i32_734 : BitVec 32 := 0#32
  let v1089 : BitVec 1 := Scalar.cmpi .ne v1088 c0_i32_734
  let v1093 : BitVec 1 := Scalar.andi v1092 v1089
  let v1094 : BitVec 32 := Scalar.addi v1088 v1087
  let v1095 : BitVec 32 := Scalar.select v1093 v1094 v1088
  let c1_i32_740 : BitVec 32 := 1#32
  let v1096 : BitVec 32 := Scalar.muli v1095 c1_i32_740
  let v1097 : BitVec 32 := Scalar.addi c0_i32_741 v1096
  v1097.toNat
def k0_dev52 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_746 : BitVec 32 := 21#32
  let v1106 : BitVec 32 := Scalar.addi v2 c21_i32_746
  let c32_i32_747 : BitVec 32 := 32#32
  let c0_i32_748 : BitVec 32 := 0#32
  let v1107 : BitVec 1 := Scalar.cmpi .eq c32_i32_747 c0_i32_748
  let c1_i32_749 : BitVec 32 := 1#32
  let v1108 : BitVec 32 := Scalar.select v1107 c1_i32_749 c32_i32_747
  let v1109 : BitVec 32 := Scalar.remsi v1106 v1108
  let c0_i32_751 : BitVec 32 := 0#32
  let v1111 : BitVec 1 := Scalar.cmpi .slt v1109 c0_i32_751
  let c0_i32_752 : BitVec 32 := 0#32
  let v1112 : BitVec 1 := Scalar.cmpi .slt v1108 c0_i32_752
  let v1113 : BitVec 1 := Scalar.xori v1111 v1112
  let c0_i32_750 : BitVec 32 := 0#32
  let v1110 : BitVec 1 := Scalar.cmpi .ne v1109 c0_i32_750
  let v1114 : BitVec 1 := Scalar.andi v1113 v1110
  let v1115 : BitVec 32 := Scalar.addi v1109 v1108
  let v1116 : BitVec 32 := Scalar.select v1114 v1115 v1109
  let c1_i32_756 : BitVec 32 := 1#32
  let v1117 : BitVec 32 := Scalar.muli v1116 c1_i32_756
  let v1118 : BitVec 32 := Scalar.addi c0_i32_757 v1117
  v1118.toNat
def k0_dev53 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_762 : BitVec 32 := 22#32
  let v1127 : BitVec 32 := Scalar.addi v2 c22_i32_762
  let c32_i32_763 : BitVec 32 := 32#32
  let c0_i32_764 : BitVec 32 := 0#32
  let v1128 : BitVec 1 := Scalar.cmpi .eq c32_i32_763 c0_i32_764
  let c1_i32_765 : BitVec 32 := 1#32
  let v1129 : BitVec 32 := Scalar.select v1128 c1_i32_765 c32_i32_763
  let v1130 : BitVec 32 := Scalar.remsi v1127 v1129
  let c0_i32_767 : BitVec 32 := 0#32
  let v1132 : BitVec 1 := Scalar.cmpi .slt v1130 c0_i32_767
  let c0_i32_768 : BitVec 32 := 0#32
  let v1133 : BitVec 1 := Scalar.cmpi .slt v1129 c0_i32_768
  let v1134 : BitVec 1 := Scalar.xori v1132 v1133
  let c0_i32_766 : BitVec 32 := 0#32
  let v1131 : BitVec 1 := Scalar.cmpi .ne v1130 c0_i32_766
  let v1135 : BitVec 1 := Scalar.andi v1134 v1131
  let v1136 : BitVec 32 := Scalar.addi v1130 v1129
  let v1137 : BitVec 32 := Scalar.select v1135 v1136 v1130
  let c1_i32_772 : BitVec 32 := 1#32
  let v1138 : BitVec 32 := Scalar.muli v1137 c1_i32_772
  let v1139 : BitVec 32 := Scalar.addi c0_i32_773 v1138
  v1139.toNat
def k0_dev54 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_778 : BitVec 32 := 23#32
  let v1148 : BitVec 32 := Scalar.addi v2 c23_i32_778
  let c32_i32_779 : BitVec 32 := 32#32
  let c0_i32_780 : BitVec 32 := 0#32
  let v1149 : BitVec 1 := Scalar.cmpi .eq c32_i32_779 c0_i32_780
  let c1_i32_781 : BitVec 32 := 1#32
  let v1150 : BitVec 32 := Scalar.select v1149 c1_i32_781 c32_i32_779
  let v1151 : BitVec 32 := Scalar.remsi v1148 v1150
  let c0_i32_783 : BitVec 32 := 0#32
  let v1153 : BitVec 1 := Scalar.cmpi .slt v1151 c0_i32_783
  let c0_i32_784 : BitVec 32 := 0#32
  let v1154 : BitVec 1 := Scalar.cmpi .slt v1150 c0_i32_784
  let v1155 : BitVec 1 := Scalar.xori v1153 v1154
  let c0_i32_782 : BitVec 32 := 0#32
  let v1152 : BitVec 1 := Scalar.cmpi .ne v1151 c0_i32_782
  let v1156 : BitVec 1 := Scalar.andi v1155 v1152
  let v1157 : BitVec 32 := Scalar.addi v1151 v1150
  let v1158 : BitVec 32 := Scalar.select v1156 v1157 v1151
  let c1_i32_788 : BitVec 32 := 1#32
  let v1159 : BitVec 32 := Scalar.muli v1158 c1_i32_788
  let v1160 : BitVec 32 := Scalar.addi c0_i32_789 v1159
  v1160.toNat
def k0_dev55 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_794 : BitVec 32 := 24#32
  let v1169 : BitVec 32 := Scalar.addi v2 c24_i32_794
  let c32_i32_795 : BitVec 32 := 32#32
  let c0_i32_796 : BitVec 32 := 0#32
  let v1170 : BitVec 1 := Scalar.cmpi .eq c32_i32_795 c0_i32_796
  let c1_i32_797 : BitVec 32 := 1#32
  let v1171 : BitVec 32 := Scalar.select v1170 c1_i32_797 c32_i32_795
  let v1172 : BitVec 32 := Scalar.remsi v1169 v1171
  let c0_i32_799 : BitVec 32 := 0#32
  let v1174 : BitVec 1 := Scalar.cmpi .slt v1172 c0_i32_799
  let c0_i32_800 : BitVec 32 := 0#32
  let v1175 : BitVec 1 := Scalar.cmpi .slt v1171 c0_i32_800
  let v1176 : BitVec 1 := Scalar.xori v1174 v1175
  let c0_i32_798 : BitVec 32 := 0#32
  let v1173 : BitVec 1 := Scalar.cmpi .ne v1172 c0_i32_798
  let v1177 : BitVec 1 := Scalar.andi v1176 v1173
  let v1178 : BitVec 32 := Scalar.addi v1172 v1171
  let v1179 : BitVec 32 := Scalar.select v1177 v1178 v1172
  let c1_i32_804 : BitVec 32 := 1#32
  let v1180 : BitVec 32 := Scalar.muli v1179 c1_i32_804
  let v1181 : BitVec 32 := Scalar.addi c0_i32_805 v1180
  v1181.toNat
def k0_dev56 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_810 : BitVec 32 := 25#32
  let v1190 : BitVec 32 := Scalar.addi v2 c25_i32_810
  let c32_i32_811 : BitVec 32 := 32#32
  let c0_i32_812 : BitVec 32 := 0#32
  let v1191 : BitVec 1 := Scalar.cmpi .eq c32_i32_811 c0_i32_812
  let c1_i32_813 : BitVec 32 := 1#32
  let v1192 : BitVec 32 := Scalar.select v1191 c1_i32_813 c32_i32_811
  let v1193 : BitVec 32 := Scalar.remsi v1190 v1192
  let c0_i32_815 : BitVec 32 := 0#32
  let v1195 : BitVec 1 := Scalar.cmpi .slt v1193 c0_i32_815
  let c0_i32_816 : BitVec 32 := 0#32
  let v1196 : BitVec 1 := Scalar.cmpi .slt v1192 c0_i32_816
  let v1197 : BitVec 1 := Scalar.xori v1195 v1196
  let c0_i32_814 : BitVec 32 := 0#32
  let v1194 : BitVec 1 := Scalar.cmpi .ne v1193 c0_i32_814
  let v1198 : BitVec 1 := Scalar.andi v1197 v1194
  let v1199 : BitVec 32 := Scalar.addi v1193 v1192
  let v1200 : BitVec 32 := Scalar.select v1198 v1199 v1193
  let c1_i32_820 : BitVec 32 := 1#32
  let v1201 : BitVec 32 := Scalar.muli v1200 c1_i32_820
  let v1202 : BitVec 32 := Scalar.addi c0_i32_821 v1201
  v1202.toNat
def k0_dev57 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_826 : BitVec 32 := 26#32
  let v1211 : BitVec 32 := Scalar.addi v2 c26_i32_826
  let c32_i32_827 : BitVec 32 := 32#32
  let c0_i32_828 : BitVec 32 := 0#32
  let v1212 : BitVec 1 := Scalar.cmpi .eq c32_i32_827 c0_i32_828
  let c1_i32_829 : BitVec 32 := 1#32
  let v1213 : BitVec 32 := Scalar.select v1212 c1_i32_829 c32_i32_827
  let v1214 : BitVec 32 := Scalar.remsi v1211 v1213
  let c0_i32_831 : BitVec 32 := 0#32
  let v1216 : BitVec 1 := Scalar.cmpi .slt v1214 c0_i32_831
  let c0_i32_832 : BitVec 32 := 0#32
  let v1217 : BitVec 1 := Scalar.cmpi .slt v1213 c0_i32_832
  let v1218 : BitVec 1 := Scalar.xori v1216 v1217
  let c0_i32_830 : BitVec 32 := 0#32
  let v1215 : BitVec 1 := Scalar.cmpi .ne v1214 c0_i32_830
  let v1219 : BitVec 1 := Scalar.andi v1218 v1215
  let v1220 : BitVec 32 := Scalar.addi v1214 v1213
  let v1221 : BitVec 32 := Scalar.select v1219 v1220 v1214
  let c1_i32_836 : BitVec 32 := 1#32
  let v1222 : BitVec 32 := Scalar.muli v1221 c1_i32_836
  let v1223 : BitVec 32 := Scalar.addi c0_i32_837 v1222
  v1223.toNat
def k0_dev58 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_842 : BitVec 32 := 27#32
  let v1232 : BitVec 32 := Scalar.addi v2 c27_i32_842
  let c32_i32_843 : BitVec 32 := 32#32
  let c0_i32_844 : BitVec 32 := 0#32
  let v1233 : BitVec 1 := Scalar.cmpi .eq c32_i32_843 c0_i32_844
  let c1_i32_845 : BitVec 32 := 1#32
  let v1234 : BitVec 32 := Scalar.select v1233 c1_i32_845 c32_i32_843
  let v1235 : BitVec 32 := Scalar.remsi v1232 v1234
  let c0_i32_847 : BitVec 32 := 0#32
  let v1237 : BitVec 1 := Scalar.cmpi .slt v1235 c0_i32_847
  let c0_i32_848 : BitVec 32 := 0#32
  let v1238 : BitVec 1 := Scalar.cmpi .slt v1234 c0_i32_848
  let v1239 : BitVec 1 := Scalar.xori v1237 v1238
  let c0_i32_846 : BitVec 32 := 0#32
  let v1236 : BitVec 1 := Scalar.cmpi .ne v1235 c0_i32_846
  let v1240 : BitVec 1 := Scalar.andi v1239 v1236
  let v1241 : BitVec 32 := Scalar.addi v1235 v1234
  let v1242 : BitVec 32 := Scalar.select v1240 v1241 v1235
  let c1_i32_852 : BitVec 32 := 1#32
  let v1243 : BitVec 32 := Scalar.muli v1242 c1_i32_852
  let v1244 : BitVec 32 := Scalar.addi c0_i32_853 v1243
  v1244.toNat
def k0_dev59 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_858 : BitVec 32 := 28#32
  let v1253 : BitVec 32 := Scalar.addi v2 c28_i32_858
  let c32_i32_859 : BitVec 32 := 32#32
  let c0_i32_860 : BitVec 32 := 0#32
  let v1254 : BitVec 1 := Scalar.cmpi .eq c32_i32_859 c0_i32_860
  let c1_i32_861 : BitVec 32 := 1#32
  let v1255 : BitVec 32 := Scalar.select v1254 c1_i32_861 c32_i32_859
  let v1256 : BitVec 32 := Scalar.remsi v1253 v1255
  let c0_i32_863 : BitVec 32 := 0#32
  let v1258 : BitVec 1 := Scalar.cmpi .slt v1256 c0_i32_863
  let c0_i32_864 : BitVec 32 := 0#32
  let v1259 : BitVec 1 := Scalar.cmpi .slt v1255 c0_i32_864
  let v1260 : BitVec 1 := Scalar.xori v1258 v1259
  let c0_i32_862 : BitVec 32 := 0#32
  let v1257 : BitVec 1 := Scalar.cmpi .ne v1256 c0_i32_862
  let v1261 : BitVec 1 := Scalar.andi v1260 v1257
  let v1262 : BitVec 32 := Scalar.addi v1256 v1255
  let v1263 : BitVec 32 := Scalar.select v1261 v1262 v1256
  let c1_i32_868 : BitVec 32 := 1#32
  let v1264 : BitVec 32 := Scalar.muli v1263 c1_i32_868
  let v1265 : BitVec 32 := Scalar.addi c0_i32_869 v1264
  v1265.toNat
def k0_dev60 (d0 : Dev nD) : Nat :=
  let c0_i32_885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_874 : BitVec 32 := 29#32
  let v1274 : BitVec 32 := Scalar.addi v2 c29_i32_874
  let c32_i32_875 : BitVec 32 := 32#32
  let c0_i32_876 : BitVec 32 := 0#32
  let v1275 : BitVec 1 := Scalar.cmpi .eq c32_i32_875 c0_i32_876
  let c1_i32_877 : BitVec 32 := 1#32
  let v1276 : BitVec 32 := Scalar.select v1275 c1_i32_877 c32_i32_875
  let v1277 : BitVec 32 := Scalar.remsi v1274 v1276
  let c0_i32_879 : BitVec 32 := 0#32
  let v1279 : BitVec 1 := Scalar.cmpi .slt v1277 c0_i32_879
  let c0_i32_880 : BitVec 32 := 0#32
  let v1280 : BitVec 1 := Scalar.cmpi .slt v1276 c0_i32_880
  let v1281 : BitVec 1 := Scalar.xori v1279 v1280
  let c0_i32_878 : BitVec 32 := 0#32
  let v1278 : BitVec 1 := Scalar.cmpi .ne v1277 c0_i32_878
  let v1282 : BitVec 1 := Scalar.andi v1281 v1278
  let v1283 : BitVec 32 := Scalar.addi v1277 v1276
  let v1284 : BitVec 32 := Scalar.select v1282 v1283 v1277
  let c1_i32_884 : BitVec 32 := 1#32
  let v1285 : BitVec 32 := Scalar.muli v1284 c1_i32_884
  let v1286 : BitVec 32 := Scalar.addi c0_i32_885 v1285
  v1286.toNat
def k0_dev61 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_890 : BitVec 32 := 30#32
  let v1295 : BitVec 32 := Scalar.addi v2 c30_i32_890
  let c32_i32_891 : BitVec 32 := 32#32
  let c0_i32_892 : BitVec 32 := 0#32
  let v1296 : BitVec 1 := Scalar.cmpi .eq c32_i32_891 c0_i32_892
  let c1_i32_893 : BitVec 32 := 1#32
  let v1297 : BitVec 32 := Scalar.select v1296 c1_i32_893 c32_i32_891
  let v1298 : BitVec 32 := Scalar.remsi v1295 v1297
  let c0_i32_895 : BitVec 32 := 0#32
  let v1300 : BitVec 1 := Scalar.cmpi .slt v1298 c0_i32_895
  let c0_i32_896 : BitVec 32 := 0#32
  let v1301 : BitVec 1 := Scalar.cmpi .slt v1297 c0_i32_896
  let v1302 : BitVec 1 := Scalar.xori v1300 v1301
  let c0_i32_894 : BitVec 32 := 0#32
  let v1299 : BitVec 1 := Scalar.cmpi .ne v1298 c0_i32_894
  let v1303 : BitVec 1 := Scalar.andi v1302 v1299
  let v1304 : BitVec 32 := Scalar.addi v1298 v1297
  let v1305 : BitVec 32 := Scalar.select v1303 v1304 v1298
  let c1_i32_900 : BitVec 32 := 1#32
  let v1306 : BitVec 32 := Scalar.muli v1305 c1_i32_900
  let v1307 : BitVec 32 := Scalar.addi c0_i32_901 v1306
  v1307.toNat
def k0_dev62 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_906 : BitVec 32 := 31#32
  let v1316 : BitVec 32 := Scalar.addi v2 c31_i32_906
  let c32_i32_907 : BitVec 32 := 32#32
  let c0_i32_908 : BitVec 32 := 0#32
  let v1317 : BitVec 1 := Scalar.cmpi .eq c32_i32_907 c0_i32_908
  let c1_i32_909 : BitVec 32 := 1#32
  let v1318 : BitVec 32 := Scalar.select v1317 c1_i32_909 c32_i32_907
  let v1319 : BitVec 32 := Scalar.remsi v1316 v1318
  let c0_i32_911 : BitVec 32 := 0#32
  let v1321 : BitVec 1 := Scalar.cmpi .slt v1319 c0_i32_911
  let c0_i32_912 : BitVec 32 := 0#32
  let v1322 : BitVec 1 := Scalar.cmpi .slt v1318 c0_i32_912
  let v1323 : BitVec 1 := Scalar.xori v1321 v1322
  let c0_i32_910 : BitVec 32 := 0#32
  let v1320 : BitVec 1 := Scalar.cmpi .ne v1319 c0_i32_910
  let v1324 : BitVec 1 := Scalar.andi v1323 v1320
  let v1325 : BitVec 32 := Scalar.addi v1319 v1318
  let v1326 : BitVec 32 := Scalar.select v1324 v1325 v1319
  let c1_i32_916 : BitVec 32 := 1#32
  let v1327 : BitVec 32 := Scalar.muli v1326 c1_i32_916
  let v1328 : BitVec 32 := Scalar.addi c0_i32_917 v1327
  v1328.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1084 : BitVec 32 := 8#32
  let c0_i32_1085 : BitVec 32 := 0#32
  ![v2.toNat, 8, 0]
def k0_off5 (d0 : Dev nD) : Fin 2 → Nat :=
  let c1_i32_1095 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off6 (d0 : Dev nD) (c1_i32_1088 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1565 : BitVec 32 := Scalar.addi v2 c1_i32_1088
  let c32_i32_1089 : BitVec 32 := 32#32
  let c0_i32_1090 : BitVec 32 := 0#32
  let v1566 : BitVec 1 := Scalar.cmpi .eq c32_i32_1089 c0_i32_1090
  let c1_i32_1091 : BitVec 32 := 1#32
  let v1567 : BitVec 32 := Scalar.select v1566 c1_i32_1091 c32_i32_1089
  let v1568 : BitVec 32 := Scalar.remsi v1565 v1567
  let c0_i32_1093 : BitVec 32 := 0#32
  let v1570 : BitVec 1 := Scalar.cmpi .slt v1568 c0_i32_1093
  let c0_i32_1094 : BitVec 32 := 0#32
  let v1571 : BitVec 1 := Scalar.cmpi .slt v1567 c0_i32_1094
  let v1572 : BitVec 1 := Scalar.xori v1570 v1571
  let c0_i32_1092 : BitVec 32 := 0#32
  let v1569 : BitVec 1 := Scalar.cmpi .ne v1568 c0_i32_1092
  let v1573 : BitVec 1 := Scalar.andi v1572 v1569
  let v1574 : BitVec 32 := Scalar.addi v1568 v1567
  let v1575 : BitVec 32 := Scalar.select v1573 v1574 v1568
  let c8_i32_1102 : BitVec 32 := 8#32
  let c0_i32_1103 : BitVec 32 := 0#32
  ![v1575.toNat, 8, 0]
def k0_dev63 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1088 : BitVec 32 := 1#32
  let v1565 : BitVec 32 := Scalar.addi v2 c1_i32_1088
  let c32_i32_1089 : BitVec 32 := 32#32
  let c0_i32_1090 : BitVec 32 := 0#32
  let v1566 : BitVec 1 := Scalar.cmpi .eq c32_i32_1089 c0_i32_1090
  let c1_i32_1091 : BitVec 32 := 1#32
  let v1567 : BitVec 32 := Scalar.select v1566 c1_i32_1091 c32_i32_1089
  let v1568 : BitVec 32 := Scalar.remsi v1565 v1567
  let c0_i32_1093 : BitVec 32 := 0#32
  let v1570 : BitVec 1 := Scalar.cmpi .slt v1568 c0_i32_1093
  let c0_i32_1094 : BitVec 32 := 0#32
  let v1571 : BitVec 1 := Scalar.cmpi .slt v1567 c0_i32_1094
  let v1572 : BitVec 1 := Scalar.xori v1570 v1571
  let c0_i32_1092 : BitVec 32 := 0#32
  let v1569 : BitVec 1 := Scalar.cmpi .ne v1568 c0_i32_1092
  let v1573 : BitVec 1 := Scalar.andi v1572 v1569
  let v1574 : BitVec 32 := Scalar.addi v1568 v1567
  let v1575 : BitVec 32 := Scalar.select v1573 v1574 v1568
  let c1_i32_1098 : BitVec 32 := 1#32
  let v1576 : BitVec 32 := Scalar.muli v1575 c1_i32_1098
  let v1577 : BitVec 32 := Scalar.addi c0_i32_1099 v1576
  v1577.toNat
def k0_dev64 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1104 : BitVec 32 := 2#32
  let v1586 : BitVec 32 := Scalar.addi v2 c2_i32_1104
  let c32_i32_1105 : BitVec 32 := 32#32
  let c0_i32_1106 : BitVec 32 := 0#32
  let v1587 : BitVec 1 := Scalar.cmpi .eq c32_i32_1105 c0_i32_1106
  let c1_i32_1107 : BitVec 32 := 1#32
  let v1588 : BitVec 32 := Scalar.select v1587 c1_i32_1107 c32_i32_1105
  let v1589 : BitVec 32 := Scalar.remsi v1586 v1588
  let c0_i32_1109 : BitVec 32 := 0#32
  let v1591 : BitVec 1 := Scalar.cmpi .slt v1589 c0_i32_1109
  let c0_i32_1110 : BitVec 32 := 0#32
  let v1592 : BitVec 1 := Scalar.cmpi .slt v1588 c0_i32_1110
  let v1593 : BitVec 1 := Scalar.xori v1591 v1592
  let c0_i32_1108 : BitVec 32 := 0#32
  let v1590 : BitVec 1 := Scalar.cmpi .ne v1589 c0_i32_1108
  let v1594 : BitVec 1 := Scalar.andi v1593 v1590
  let v1595 : BitVec 32 := Scalar.addi v1589 v1588
  let v1596 : BitVec 32 := Scalar.select v1594 v1595 v1589
  let c1_i32_1114 : BitVec 32 := 1#32
  let v1597 : BitVec 32 := Scalar.muli v1596 c1_i32_1114
  let v1598 : BitVec 32 := Scalar.addi c0_i32_1115 v1597
  v1598.toNat
def k0_dev65 (d0 : Dev nD) : Nat :=
  let c0_i32_1131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1120 : BitVec 32 := 3#32
  let v1607 : BitVec 32 := Scalar.addi v2 c3_i32_1120
  let c32_i32_1121 : BitVec 32 := 32#32
  let c0_i32_1122 : BitVec 32 := 0#32
  let v1608 : BitVec 1 := Scalar.cmpi .eq c32_i32_1121 c0_i32_1122
  let c1_i32_1123 : BitVec 32 := 1#32
  let v1609 : BitVec 32 := Scalar.select v1608 c1_i32_1123 c32_i32_1121
  let v1610 : BitVec 32 := Scalar.remsi v1607 v1609
  let c0_i32_1125 : BitVec 32 := 0#32
  let v1612 : BitVec 1 := Scalar.cmpi .slt v1610 c0_i32_1125
  let c0_i32_1126 : BitVec 32 := 0#32
  let v1613 : BitVec 1 := Scalar.cmpi .slt v1609 c0_i32_1126
  let v1614 : BitVec 1 := Scalar.xori v1612 v1613
  let c0_i32_1124 : BitVec 32 := 0#32
  let v1611 : BitVec 1 := Scalar.cmpi .ne v1610 c0_i32_1124
  let v1615 : BitVec 1 := Scalar.andi v1614 v1611
  let v1616 : BitVec 32 := Scalar.addi v1610 v1609
  let v1617 : BitVec 32 := Scalar.select v1615 v1616 v1610
  let c1_i32_1130 : BitVec 32 := 1#32
  let v1618 : BitVec 32 := Scalar.muli v1617 c1_i32_1130
  let v1619 : BitVec 32 := Scalar.addi c0_i32_1131 v1618
  v1619.toNat
def k0_dev66 (d0 : Dev nD) : Nat :=
  let c0_i32_1147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1136 : BitVec 32 := 4#32
  let v1628 : BitVec 32 := Scalar.addi v2 c4_i32_1136
  let c32_i32_1137 : BitVec 32 := 32#32
  let c0_i32_1138 : BitVec 32 := 0#32
  let v1629 : BitVec 1 := Scalar.cmpi .eq c32_i32_1137 c0_i32_1138
  let c1_i32_1139 : BitVec 32 := 1#32
  let v1630 : BitVec 32 := Scalar.select v1629 c1_i32_1139 c32_i32_1137
  let v1631 : BitVec 32 := Scalar.remsi v1628 v1630
  let c0_i32_1141 : BitVec 32 := 0#32
  let v1633 : BitVec 1 := Scalar.cmpi .slt v1631 c0_i32_1141
  let c0_i32_1142 : BitVec 32 := 0#32
  let v1634 : BitVec 1 := Scalar.cmpi .slt v1630 c0_i32_1142
  let v1635 : BitVec 1 := Scalar.xori v1633 v1634
  let c0_i32_1140 : BitVec 32 := 0#32
  let v1632 : BitVec 1 := Scalar.cmpi .ne v1631 c0_i32_1140
  let v1636 : BitVec 1 := Scalar.andi v1635 v1632
  let v1637 : BitVec 32 := Scalar.addi v1631 v1630
  let v1638 : BitVec 32 := Scalar.select v1636 v1637 v1631
  let c1_i32_1146 : BitVec 32 := 1#32
  let v1639 : BitVec 32 := Scalar.muli v1638 c1_i32_1146
  let v1640 : BitVec 32 := Scalar.addi c0_i32_1147 v1639
  v1640.toNat
def k0_dev67 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1152 : BitVec 32 := 5#32
  let v1649 : BitVec 32 := Scalar.addi v2 c5_i32_1152
  let c32_i32_1153 : BitVec 32 := 32#32
  let c0_i32_1154 : BitVec 32 := 0#32
  let v1650 : BitVec 1 := Scalar.cmpi .eq c32_i32_1153 c0_i32_1154
  let c1_i32_1155 : BitVec 32 := 1#32
  let v1651 : BitVec 32 := Scalar.select v1650 c1_i32_1155 c32_i32_1153
  let v1652 : BitVec 32 := Scalar.remsi v1649 v1651
  let c0_i32_1157 : BitVec 32 := 0#32
  let v1654 : BitVec 1 := Scalar.cmpi .slt v1652 c0_i32_1157
  let c0_i32_1158 : BitVec 32 := 0#32
  let v1655 : BitVec 1 := Scalar.cmpi .slt v1651 c0_i32_1158
  let v1656 : BitVec 1 := Scalar.xori v1654 v1655
  let c0_i32_1156 : BitVec 32 := 0#32
  let v1653 : BitVec 1 := Scalar.cmpi .ne v1652 c0_i32_1156
  let v1657 : BitVec 1 := Scalar.andi v1656 v1653
  let v1658 : BitVec 32 := Scalar.addi v1652 v1651
  let v1659 : BitVec 32 := Scalar.select v1657 v1658 v1652
  let c1_i32_1162 : BitVec 32 := 1#32
  let v1660 : BitVec 32 := Scalar.muli v1659 c1_i32_1162
  let v1661 : BitVec 32 := Scalar.addi c0_i32_1163 v1660
  v1661.toNat
def k0_dev68 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1168 : BitVec 32 := 6#32
  let v1670 : BitVec 32 := Scalar.addi v2 c6_i32_1168
  let c32_i32_1169 : BitVec 32 := 32#32
  let c0_i32_1170 : BitVec 32 := 0#32
  let v1671 : BitVec 1 := Scalar.cmpi .eq c32_i32_1169 c0_i32_1170
  let c1_i32_1171 : BitVec 32 := 1#32
  let v1672 : BitVec 32 := Scalar.select v1671 c1_i32_1171 c32_i32_1169
  let v1673 : BitVec 32 := Scalar.remsi v1670 v1672
  let c0_i32_1173 : BitVec 32 := 0#32
  let v1675 : BitVec 1 := Scalar.cmpi .slt v1673 c0_i32_1173
  let c0_i32_1174 : BitVec 32 := 0#32
  let v1676 : BitVec 1 := Scalar.cmpi .slt v1672 c0_i32_1174
  let v1677 : BitVec 1 := Scalar.xori v1675 v1676
  let c0_i32_1172 : BitVec 32 := 0#32
  let v1674 : BitVec 1 := Scalar.cmpi .ne v1673 c0_i32_1172
  let v1678 : BitVec 1 := Scalar.andi v1677 v1674
  let v1679 : BitVec 32 := Scalar.addi v1673 v1672
  let v1680 : BitVec 32 := Scalar.select v1678 v1679 v1673
  let c1_i32_1178 : BitVec 32 := 1#32
  let v1681 : BitVec 32 := Scalar.muli v1680 c1_i32_1178
  let v1682 : BitVec 32 := Scalar.addi c0_i32_1179 v1681
  v1682.toNat
def k0_dev69 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1184 : BitVec 32 := 7#32
  let v1691 : BitVec 32 := Scalar.addi v2 c7_i32_1184
  let c32_i32_1185 : BitVec 32 := 32#32
  let c0_i32_1186 : BitVec 32 := 0#32
  let v1692 : BitVec 1 := Scalar.cmpi .eq c32_i32_1185 c0_i32_1186
  let c1_i32_1187 : BitVec 32 := 1#32
  let v1693 : BitVec 32 := Scalar.select v1692 c1_i32_1187 c32_i32_1185
  let v1694 : BitVec 32 := Scalar.remsi v1691 v1693
  let c0_i32_1189 : BitVec 32 := 0#32
  let v1696 : BitVec 1 := Scalar.cmpi .slt v1694 c0_i32_1189
  let c0_i32_1190 : BitVec 32 := 0#32
  let v1697 : BitVec 1 := Scalar.cmpi .slt v1693 c0_i32_1190
  let v1698 : BitVec 1 := Scalar.xori v1696 v1697
  let c0_i32_1188 : BitVec 32 := 0#32
  let v1695 : BitVec 1 := Scalar.cmpi .ne v1694 c0_i32_1188
  let v1699 : BitVec 1 := Scalar.andi v1698 v1695
  let v1700 : BitVec 32 := Scalar.addi v1694 v1693
  let v1701 : BitVec 32 := Scalar.select v1699 v1700 v1694
  let c1_i32_1194 : BitVec 32 := 1#32
  let v1702 : BitVec 32 := Scalar.muli v1701 c1_i32_1194
  let v1703 : BitVec 32 := Scalar.addi c0_i32_1195 v1702
  v1703.toNat
def k0_dev70 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1200 : BitVec 32 := 8#32
  let v1712 : BitVec 32 := Scalar.addi v2 c8_i32_1200
  let c32_i32_1201 : BitVec 32 := 32#32
  let c0_i32_1202 : BitVec 32 := 0#32
  let v1713 : BitVec 1 := Scalar.cmpi .eq c32_i32_1201 c0_i32_1202
  let c1_i32_1203 : BitVec 32 := 1#32
  let v1714 : BitVec 32 := Scalar.select v1713 c1_i32_1203 c32_i32_1201
  let v1715 : BitVec 32 := Scalar.remsi v1712 v1714
  let c0_i32_1205 : BitVec 32 := 0#32
  let v1717 : BitVec 1 := Scalar.cmpi .slt v1715 c0_i32_1205
  let c0_i32_1206 : BitVec 32 := 0#32
  let v1718 : BitVec 1 := Scalar.cmpi .slt v1714 c0_i32_1206
  let v1719 : BitVec 1 := Scalar.xori v1717 v1718
  let c0_i32_1204 : BitVec 32 := 0#32
  let v1716 : BitVec 1 := Scalar.cmpi .ne v1715 c0_i32_1204
  let v1720 : BitVec 1 := Scalar.andi v1719 v1716
  let v1721 : BitVec 32 := Scalar.addi v1715 v1714
  let v1722 : BitVec 32 := Scalar.select v1720 v1721 v1715
  let c1_i32_1210 : BitVec 32 := 1#32
  let v1723 : BitVec 32 := Scalar.muli v1722 c1_i32_1210
  let v1724 : BitVec 32 := Scalar.addi c0_i32_1211 v1723
  v1724.toNat
def k0_dev71 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1216 : BitVec 32 := 9#32
  let v1733 : BitVec 32 := Scalar.addi v2 c9_i32_1216
  let c32_i32_1217 : BitVec 32 := 32#32
  let c0_i32_1218 : BitVec 32 := 0#32
  let v1734 : BitVec 1 := Scalar.cmpi .eq c32_i32_1217 c0_i32_1218
  let c1_i32_1219 : BitVec 32 := 1#32
  let v1735 : BitVec 32 := Scalar.select v1734 c1_i32_1219 c32_i32_1217
  let v1736 : BitVec 32 := Scalar.remsi v1733 v1735
  let c0_i32_1221 : BitVec 32 := 0#32
  let v1738 : BitVec 1 := Scalar.cmpi .slt v1736 c0_i32_1221
  let c0_i32_1222 : BitVec 32 := 0#32
  let v1739 : BitVec 1 := Scalar.cmpi .slt v1735 c0_i32_1222
  let v1740 : BitVec 1 := Scalar.xori v1738 v1739
  let c0_i32_1220 : BitVec 32 := 0#32
  let v1737 : BitVec 1 := Scalar.cmpi .ne v1736 c0_i32_1220
  let v1741 : BitVec 1 := Scalar.andi v1740 v1737
  let v1742 : BitVec 32 := Scalar.addi v1736 v1735
  let v1743 : BitVec 32 := Scalar.select v1741 v1742 v1736
  let c1_i32_1226 : BitVec 32 := 1#32
  let v1744 : BitVec 32 := Scalar.muli v1743 c1_i32_1226
  let v1745 : BitVec 32 := Scalar.addi c0_i32_1227 v1744
  v1745.toNat
def k0_dev72 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1232 : BitVec 32 := 10#32
  let v1754 : BitVec 32 := Scalar.addi v2 c10_i32_1232
  let c32_i32_1233 : BitVec 32 := 32#32
  let c0_i32_1234 : BitVec 32 := 0#32
  let v1755 : BitVec 1 := Scalar.cmpi .eq c32_i32_1233 c0_i32_1234
  let c1_i32_1235 : BitVec 32 := 1#32
  let v1756 : BitVec 32 := Scalar.select v1755 c1_i32_1235 c32_i32_1233
  let v1757 : BitVec 32 := Scalar.remsi v1754 v1756
  let c0_i32_1237 : BitVec 32 := 0#32
  let v1759 : BitVec 1 := Scalar.cmpi .slt v1757 c0_i32_1237
  let c0_i32_1238 : BitVec 32 := 0#32
  let v1760 : BitVec 1 := Scalar.cmpi .slt v1756 c0_i32_1238
  let v1761 : BitVec 1 := Scalar.xori v1759 v1760
  let c0_i32_1236 : BitVec 32 := 0#32
  let v1758 : BitVec 1 := Scalar.cmpi .ne v1757 c0_i32_1236
  let v1762 : BitVec 1 := Scalar.andi v1761 v1758
  let v1763 : BitVec 32 := Scalar.addi v1757 v1756
  let v1764 : BitVec 32 := Scalar.select v1762 v1763 v1757
  let c1_i32_1242 : BitVec 32 := 1#32
  let v1765 : BitVec 32 := Scalar.muli v1764 c1_i32_1242
  let v1766 : BitVec 32 := Scalar.addi c0_i32_1243 v1765
  v1766.toNat
def k0_dev73 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1248 : BitVec 32 := 11#32
  let v1775 : BitVec 32 := Scalar.addi v2 c11_i32_1248
  let c32_i32_1249 : BitVec 32 := 32#32
  let c0_i32_1250 : BitVec 32 := 0#32
  let v1776 : BitVec 1 := Scalar.cmpi .eq c32_i32_1249 c0_i32_1250
  let c1_i32_1251 : BitVec 32 := 1#32
  let v1777 : BitVec 32 := Scalar.select v1776 c1_i32_1251 c32_i32_1249
  let v1778 : BitVec 32 := Scalar.remsi v1775 v1777
  let c0_i32_1253 : BitVec 32 := 0#32
  let v1780 : BitVec 1 := Scalar.cmpi .slt v1778 c0_i32_1253
  let c0_i32_1254 : BitVec 32 := 0#32
  let v1781 : BitVec 1 := Scalar.cmpi .slt v1777 c0_i32_1254
  let v1782 : BitVec 1 := Scalar.xori v1780 v1781
  let c0_i32_1252 : BitVec 32 := 0#32
  let v1779 : BitVec 1 := Scalar.cmpi .ne v1778 c0_i32_1252
  let v1783 : BitVec 1 := Scalar.andi v1782 v1779
  let v1784 : BitVec 32 := Scalar.addi v1778 v1777
  let v1785 : BitVec 32 := Scalar.select v1783 v1784 v1778
  let c1_i32_1258 : BitVec 32 := 1#32
  let v1786 : BitVec 32 := Scalar.muli v1785 c1_i32_1258
  let v1787 : BitVec 32 := Scalar.addi c0_i32_1259 v1786
  v1787.toNat
def k0_dev74 (d0 : Dev nD) : Nat :=
  let c0_i32_1275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1264 : BitVec 32 := 12#32
  let v1796 : BitVec 32 := Scalar.addi v2 c12_i32_1264
  let c32_i32_1265 : BitVec 32 := 32#32
  let c0_i32_1266 : BitVec 32 := 0#32
  let v1797 : BitVec 1 := Scalar.cmpi .eq c32_i32_1265 c0_i32_1266
  let c1_i32_1267 : BitVec 32 := 1#32
  let v1798 : BitVec 32 := Scalar.select v1797 c1_i32_1267 c32_i32_1265
  let v1799 : BitVec 32 := Scalar.remsi v1796 v1798
  let c0_i32_1269 : BitVec 32 := 0#32
  let v1801 : BitVec 1 := Scalar.cmpi .slt v1799 c0_i32_1269
  let c0_i32_1270 : BitVec 32 := 0#32
  let v1802 : BitVec 1 := Scalar.cmpi .slt v1798 c0_i32_1270
  let v1803 : BitVec 1 := Scalar.xori v1801 v1802
  let c0_i32_1268 : BitVec 32 := 0#32
  let v1800 : BitVec 1 := Scalar.cmpi .ne v1799 c0_i32_1268
  let v1804 : BitVec 1 := Scalar.andi v1803 v1800
  let v1805 : BitVec 32 := Scalar.addi v1799 v1798
  let v1806 : BitVec 32 := Scalar.select v1804 v1805 v1799
  let c1_i32_1274 : BitVec 32 := 1#32
  let v1807 : BitVec 32 := Scalar.muli v1806 c1_i32_1274
  let v1808 : BitVec 32 := Scalar.addi c0_i32_1275 v1807
  v1808.toNat
def k0_dev75 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1280 : BitVec 32 := 13#32
  let v1817 : BitVec 32 := Scalar.addi v2 c13_i32_1280
  let c32_i32_1281 : BitVec 32 := 32#32
  let c0_i32_1282 : BitVec 32 := 0#32
  let v1818 : BitVec 1 := Scalar.cmpi .eq c32_i32_1281 c0_i32_1282
  let c1_i32_1283 : BitVec 32 := 1#32
  let v1819 : BitVec 32 := Scalar.select v1818 c1_i32_1283 c32_i32_1281
  let v1820 : BitVec 32 := Scalar.remsi v1817 v1819
  let c0_i32_1285 : BitVec 32 := 0#32
  let v1822 : BitVec 1 := Scalar.cmpi .slt v1820 c0_i32_1285
  let c0_i32_1286 : BitVec 32 := 0#32
  let v1823 : BitVec 1 := Scalar.cmpi .slt v1819 c0_i32_1286
  let v1824 : BitVec 1 := Scalar.xori v1822 v1823
  let c0_i32_1284 : BitVec 32 := 0#32
  let v1821 : BitVec 1 := Scalar.cmpi .ne v1820 c0_i32_1284
  let v1825 : BitVec 1 := Scalar.andi v1824 v1821
  let v1826 : BitVec 32 := Scalar.addi v1820 v1819
  let v1827 : BitVec 32 := Scalar.select v1825 v1826 v1820
  let c1_i32_1290 : BitVec 32 := 1#32
  let v1828 : BitVec 32 := Scalar.muli v1827 c1_i32_1290
  let v1829 : BitVec 32 := Scalar.addi c0_i32_1291 v1828
  v1829.toNat
def k0_dev76 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1296 : BitVec 32 := 14#32
  let v1838 : BitVec 32 := Scalar.addi v2 c14_i32_1296
  let c32_i32_1297 : BitVec 32 := 32#32
  let c0_i32_1298 : BitVec 32 := 0#32
  let v1839 : BitVec 1 := Scalar.cmpi .eq c32_i32_1297 c0_i32_1298
  let c1_i32_1299 : BitVec 32 := 1#32
  let v1840 : BitVec 32 := Scalar.select v1839 c1_i32_1299 c32_i32_1297
  let v1841 : BitVec 32 := Scalar.remsi v1838 v1840
  let c0_i32_1301 : BitVec 32 := 0#32
  let v1843 : BitVec 1 := Scalar.cmpi .slt v1841 c0_i32_1301
  let c0_i32_1302 : BitVec 32 := 0#32
  let v1844 : BitVec 1 := Scalar.cmpi .slt v1840 c0_i32_1302
  let v1845 : BitVec 1 := Scalar.xori v1843 v1844
  let c0_i32_1300 : BitVec 32 := 0#32
  let v1842 : BitVec 1 := Scalar.cmpi .ne v1841 c0_i32_1300
  let v1846 : BitVec 1 := Scalar.andi v1845 v1842
  let v1847 : BitVec 32 := Scalar.addi v1841 v1840
  let v1848 : BitVec 32 := Scalar.select v1846 v1847 v1841
  let c1_i32_1306 : BitVec 32 := 1#32
  let v1849 : BitVec 32 := Scalar.muli v1848 c1_i32_1306
  let v1850 : BitVec 32 := Scalar.addi c0_i32_1307 v1849
  v1850.toNat
def k0_dev77 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1312 : BitVec 32 := 15#32
  let v1859 : BitVec 32 := Scalar.addi v2 c15_i32_1312
  let c32_i32_1313 : BitVec 32 := 32#32
  let c0_i32_1314 : BitVec 32 := 0#32
  let v1860 : BitVec 1 := Scalar.cmpi .eq c32_i32_1313 c0_i32_1314
  let c1_i32_1315 : BitVec 32 := 1#32
  let v1861 : BitVec 32 := Scalar.select v1860 c1_i32_1315 c32_i32_1313
  let v1862 : BitVec 32 := Scalar.remsi v1859 v1861
  let c0_i32_1317 : BitVec 32 := 0#32
  let v1864 : BitVec 1 := Scalar.cmpi .slt v1862 c0_i32_1317
  let c0_i32_1318 : BitVec 32 := 0#32
  let v1865 : BitVec 1 := Scalar.cmpi .slt v1861 c0_i32_1318
  let v1866 : BitVec 1 := Scalar.xori v1864 v1865
  let c0_i32_1316 : BitVec 32 := 0#32
  let v1863 : BitVec 1 := Scalar.cmpi .ne v1862 c0_i32_1316
  let v1867 : BitVec 1 := Scalar.andi v1866 v1863
  let v1868 : BitVec 32 := Scalar.addi v1862 v1861
  let v1869 : BitVec 32 := Scalar.select v1867 v1868 v1862
  let c1_i32_1322 : BitVec 32 := 1#32
  let v1870 : BitVec 32 := Scalar.muli v1869 c1_i32_1322
  let v1871 : BitVec 32 := Scalar.addi c0_i32_1323 v1870
  v1871.toNat
def k0_dev78 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1328 : BitVec 32 := 16#32
  let v1880 : BitVec 32 := Scalar.addi v2 c16_i32_1328
  let c32_i32_1329 : BitVec 32 := 32#32
  let c0_i32_1330 : BitVec 32 := 0#32
  let v1881 : BitVec 1 := Scalar.cmpi .eq c32_i32_1329 c0_i32_1330
  let c1_i32_1331 : BitVec 32 := 1#32
  let v1882 : BitVec 32 := Scalar.select v1881 c1_i32_1331 c32_i32_1329
  let v1883 : BitVec 32 := Scalar.remsi v1880 v1882
  let c0_i32_1333 : BitVec 32 := 0#32
  let v1885 : BitVec 1 := Scalar.cmpi .slt v1883 c0_i32_1333
  let c0_i32_1334 : BitVec 32 := 0#32
  let v1886 : BitVec 1 := Scalar.cmpi .slt v1882 c0_i32_1334
  let v1887 : BitVec 1 := Scalar.xori v1885 v1886
  let c0_i32_1332 : BitVec 32 := 0#32
  let v1884 : BitVec 1 := Scalar.cmpi .ne v1883 c0_i32_1332
  let v1888 : BitVec 1 := Scalar.andi v1887 v1884
  let v1889 : BitVec 32 := Scalar.addi v1883 v1882
  let v1890 : BitVec 32 := Scalar.select v1888 v1889 v1883
  let c1_i32_1338 : BitVec 32 := 1#32
  let v1891 : BitVec 32 := Scalar.muli v1890 c1_i32_1338
  let v1892 : BitVec 32 := Scalar.addi c0_i32_1339 v1891
  v1892.toNat
def k0_dev79 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1344 : BitVec 32 := 17#32
  let v1901 : BitVec 32 := Scalar.addi v2 c17_i32_1344
  let c32_i32_1345 : BitVec 32 := 32#32
  let c0_i32_1346 : BitVec 32 := 0#32
  let v1902 : BitVec 1 := Scalar.cmpi .eq c32_i32_1345 c0_i32_1346
  let c1_i32_1347 : BitVec 32 := 1#32
  let v1903 : BitVec 32 := Scalar.select v1902 c1_i32_1347 c32_i32_1345
  let v1904 : BitVec 32 := Scalar.remsi v1901 v1903
  let c0_i32_1349 : BitVec 32 := 0#32
  let v1906 : BitVec 1 := Scalar.cmpi .slt v1904 c0_i32_1349
  let c0_i32_1350 : BitVec 32 := 0#32
  let v1907 : BitVec 1 := Scalar.cmpi .slt v1903 c0_i32_1350
  let v1908 : BitVec 1 := Scalar.xori v1906 v1907
  let c0_i32_1348 : BitVec 32 := 0#32
  let v1905 : BitVec 1 := Scalar.cmpi .ne v1904 c0_i32_1348
  let v1909 : BitVec 1 := Scalar.andi v1908 v1905
  let v1910 : BitVec 32 := Scalar.addi v1904 v1903
  let v1911 : BitVec 32 := Scalar.select v1909 v1910 v1904
  let c1_i32_1354 : BitVec 32 := 1#32
  let v1912 : BitVec 32 := Scalar.muli v1911 c1_i32_1354
  let v1913 : BitVec 32 := Scalar.addi c0_i32_1355 v1912
  v1913.toNat
def k0_dev80 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1360 : BitVec 32 := 18#32
  let v1922 : BitVec 32 := Scalar.addi v2 c18_i32_1360
  let c32_i32_1361 : BitVec 32 := 32#32
  let c0_i32_1362 : BitVec 32 := 0#32
  let v1923 : BitVec 1 := Scalar.cmpi .eq c32_i32_1361 c0_i32_1362
  let c1_i32_1363 : BitVec 32 := 1#32
  let v1924 : BitVec 32 := Scalar.select v1923 c1_i32_1363 c32_i32_1361
  let v1925 : BitVec 32 := Scalar.remsi v1922 v1924
  let c0_i32_1365 : BitVec 32 := 0#32
  let v1927 : BitVec 1 := Scalar.cmpi .slt v1925 c0_i32_1365
  let c0_i32_1366 : BitVec 32 := 0#32
  let v1928 : BitVec 1 := Scalar.cmpi .slt v1924 c0_i32_1366
  let v1929 : BitVec 1 := Scalar.xori v1927 v1928
  let c0_i32_1364 : BitVec 32 := 0#32
  let v1926 : BitVec 1 := Scalar.cmpi .ne v1925 c0_i32_1364
  let v1930 : BitVec 1 := Scalar.andi v1929 v1926
  let v1931 : BitVec 32 := Scalar.addi v1925 v1924
  let v1932 : BitVec 32 := Scalar.select v1930 v1931 v1925
  let c1_i32_1370 : BitVec 32 := 1#32
  let v1933 : BitVec 32 := Scalar.muli v1932 c1_i32_1370
  let v1934 : BitVec 32 := Scalar.addi c0_i32_1371 v1933
  v1934.toNat
def k0_dev81 (d0 : Dev nD) : Nat :=
  let c0_i32_1387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1376 : BitVec 32 := 19#32
  let v1943 : BitVec 32 := Scalar.addi v2 c19_i32_1376
  let c32_i32_1377 : BitVec 32 := 32#32
  let c0_i32_1378 : BitVec 32 := 0#32
  let v1944 : BitVec 1 := Scalar.cmpi .eq c32_i32_1377 c0_i32_1378
  let c1_i32_1379 : BitVec 32 := 1#32
  let v1945 : BitVec 32 := Scalar.select v1944 c1_i32_1379 c32_i32_1377
  let v1946 : BitVec 32 := Scalar.remsi v1943 v1945
  let c0_i32_1381 : BitVec 32 := 0#32
  let v1948 : BitVec 1 := Scalar.cmpi .slt v1946 c0_i32_1381
  let c0_i32_1382 : BitVec 32 := 0#32
  let v1949 : BitVec 1 := Scalar.cmpi .slt v1945 c0_i32_1382
  let v1950 : BitVec 1 := Scalar.xori v1948 v1949
  let c0_i32_1380 : BitVec 32 := 0#32
  let v1947 : BitVec 1 := Scalar.cmpi .ne v1946 c0_i32_1380
  let v1951 : BitVec 1 := Scalar.andi v1950 v1947
  let v1952 : BitVec 32 := Scalar.addi v1946 v1945
  let v1953 : BitVec 32 := Scalar.select v1951 v1952 v1946
  let c1_i32_1386 : BitVec 32 := 1#32
  let v1954 : BitVec 32 := Scalar.muli v1953 c1_i32_1386
  let v1955 : BitVec 32 := Scalar.addi c0_i32_1387 v1954
  v1955.toNat
def k0_dev82 (d0 : Dev nD) : Nat :=
  let c0_i32_1403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1392 : BitVec 32 := 20#32
  let v1964 : BitVec 32 := Scalar.addi v2 c20_i32_1392
  let c32_i32_1393 : BitVec 32 := 32#32
  let c0_i32_1394 : BitVec 32 := 0#32
  let v1965 : BitVec 1 := Scalar.cmpi .eq c32_i32_1393 c0_i32_1394
  let c1_i32_1395 : BitVec 32 := 1#32
  let v1966 : BitVec 32 := Scalar.select v1965 c1_i32_1395 c32_i32_1393
  let v1967 : BitVec 32 := Scalar.remsi v1964 v1966
  let c0_i32_1397 : BitVec 32 := 0#32
  let v1969 : BitVec 1 := Scalar.cmpi .slt v1967 c0_i32_1397
  let c0_i32_1398 : BitVec 32 := 0#32
  let v1970 : BitVec 1 := Scalar.cmpi .slt v1966 c0_i32_1398
  let v1971 : BitVec 1 := Scalar.xori v1969 v1970
  let c0_i32_1396 : BitVec 32 := 0#32
  let v1968 : BitVec 1 := Scalar.cmpi .ne v1967 c0_i32_1396
  let v1972 : BitVec 1 := Scalar.andi v1971 v1968
  let v1973 : BitVec 32 := Scalar.addi v1967 v1966
  let v1974 : BitVec 32 := Scalar.select v1972 v1973 v1967
  let c1_i32_1402 : BitVec 32 := 1#32
  let v1975 : BitVec 32 := Scalar.muli v1974 c1_i32_1402
  let v1976 : BitVec 32 := Scalar.addi c0_i32_1403 v1975
  v1976.toNat
def k0_dev83 (d0 : Dev nD) : Nat :=
  let c0_i32_1419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1408 : BitVec 32 := 21#32
  let v1985 : BitVec 32 := Scalar.addi v2 c21_i32_1408
  let c32_i32_1409 : BitVec 32 := 32#32
  let c0_i32_1410 : BitVec 32 := 0#32
  let v1986 : BitVec 1 := Scalar.cmpi .eq c32_i32_1409 c0_i32_1410
  let c1_i32_1411 : BitVec 32 := 1#32
  let v1987 : BitVec 32 := Scalar.select v1986 c1_i32_1411 c32_i32_1409
  let v1988 : BitVec 32 := Scalar.remsi v1985 v1987
  let c0_i32_1413 : BitVec 32 := 0#32
  let v1990 : BitVec 1 := Scalar.cmpi .slt v1988 c0_i32_1413
  let c0_i32_1414 : BitVec 32 := 0#32
  let v1991 : BitVec 1 := Scalar.cmpi .slt v1987 c0_i32_1414
  let v1992 : BitVec 1 := Scalar.xori v1990 v1991
  let c0_i32_1412 : BitVec 32 := 0#32
  let v1989 : BitVec 1 := Scalar.cmpi .ne v1988 c0_i32_1412
  let v1993 : BitVec 1 := Scalar.andi v1992 v1989
  let v1994 : BitVec 32 := Scalar.addi v1988 v1987
  let v1995 : BitVec 32 := Scalar.select v1993 v1994 v1988
  let c1_i32_1418 : BitVec 32 := 1#32
  let v1996 : BitVec 32 := Scalar.muli v1995 c1_i32_1418
  let v1997 : BitVec 32 := Scalar.addi c0_i32_1419 v1996
  v1997.toNat
def k0_dev84 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1424 : BitVec 32 := 22#32
  let v2006 : BitVec 32 := Scalar.addi v2 c22_i32_1424
  let c32_i32_1425 : BitVec 32 := 32#32
  let c0_i32_1426 : BitVec 32 := 0#32
  let v2007 : BitVec 1 := Scalar.cmpi .eq c32_i32_1425 c0_i32_1426
  let c1_i32_1427 : BitVec 32 := 1#32
  let v2008 : BitVec 32 := Scalar.select v2007 c1_i32_1427 c32_i32_1425
  let v2009 : BitVec 32 := Scalar.remsi v2006 v2008
  let c0_i32_1429 : BitVec 32 := 0#32
  let v2011 : BitVec 1 := Scalar.cmpi .slt v2009 c0_i32_1429
  let c0_i32_1430 : BitVec 32 := 0#32
  let v2012 : BitVec 1 := Scalar.cmpi .slt v2008 c0_i32_1430
  let v2013 : BitVec 1 := Scalar.xori v2011 v2012
  let c0_i32_1428 : BitVec 32 := 0#32
  let v2010 : BitVec 1 := Scalar.cmpi .ne v2009 c0_i32_1428
  let v2014 : BitVec 1 := Scalar.andi v2013 v2010
  let v2015 : BitVec 32 := Scalar.addi v2009 v2008
  let v2016 : BitVec 32 := Scalar.select v2014 v2015 v2009
  let c1_i32_1434 : BitVec 32 := 1#32
  let v2017 : BitVec 32 := Scalar.muli v2016 c1_i32_1434
  let v2018 : BitVec 32 := Scalar.addi c0_i32_1435 v2017
  v2018.toNat
def k0_dev85 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1440 : BitVec 32 := 23#32
  let v2027 : BitVec 32 := Scalar.addi v2 c23_i32_1440
  let c32_i32_1441 : BitVec 32 := 32#32
  let c0_i32_1442 : BitVec 32 := 0#32
  let v2028 : BitVec 1 := Scalar.cmpi .eq c32_i32_1441 c0_i32_1442
  let c1_i32_1443 : BitVec 32 := 1#32
  let v2029 : BitVec 32 := Scalar.select v2028 c1_i32_1443 c32_i32_1441
  let v2030 : BitVec 32 := Scalar.remsi v2027 v2029
  let c0_i32_1445 : BitVec 32 := 0#32
  let v2032 : BitVec 1 := Scalar.cmpi .slt v2030 c0_i32_1445
  let c0_i32_1446 : BitVec 32 := 0#32
  let v2033 : BitVec 1 := Scalar.cmpi .slt v2029 c0_i32_1446
  let v2034 : BitVec 1 := Scalar.xori v2032 v2033
  let c0_i32_1444 : BitVec 32 := 0#32
  let v2031 : BitVec 1 := Scalar.cmpi .ne v2030 c0_i32_1444
  let v2035 : BitVec 1 := Scalar.andi v2034 v2031
  let v2036 : BitVec 32 := Scalar.addi v2030 v2029
  let v2037 : BitVec 32 := Scalar.select v2035 v2036 v2030
  let c1_i32_1450 : BitVec 32 := 1#32
  let v2038 : BitVec 32 := Scalar.muli v2037 c1_i32_1450
  let v2039 : BitVec 32 := Scalar.addi c0_i32_1451 v2038
  v2039.toNat
def k0_dev86 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1456 : BitVec 32 := 24#32
  let v2048 : BitVec 32 := Scalar.addi v2 c24_i32_1456
  let c32_i32_1457 : BitVec 32 := 32#32
  let c0_i32_1458 : BitVec 32 := 0#32
  let v2049 : BitVec 1 := Scalar.cmpi .eq c32_i32_1457 c0_i32_1458
  let c1_i32_1459 : BitVec 32 := 1#32
  let v2050 : BitVec 32 := Scalar.select v2049 c1_i32_1459 c32_i32_1457
  let v2051 : BitVec 32 := Scalar.remsi v2048 v2050
  let c0_i32_1461 : BitVec 32 := 0#32
  let v2053 : BitVec 1 := Scalar.cmpi .slt v2051 c0_i32_1461
  let c0_i32_1462 : BitVec 32 := 0#32
  let v2054 : BitVec 1 := Scalar.cmpi .slt v2050 c0_i32_1462
  let v2055 : BitVec 1 := Scalar.xori v2053 v2054
  let c0_i32_1460 : BitVec 32 := 0#32
  let v2052 : BitVec 1 := Scalar.cmpi .ne v2051 c0_i32_1460
  let v2056 : BitVec 1 := Scalar.andi v2055 v2052
  let v2057 : BitVec 32 := Scalar.addi v2051 v2050
  let v2058 : BitVec 32 := Scalar.select v2056 v2057 v2051
  let c1_i32_1466 : BitVec 32 := 1#32
  let v2059 : BitVec 32 := Scalar.muli v2058 c1_i32_1466
  let v2060 : BitVec 32 := Scalar.addi c0_i32_1467 v2059
  v2060.toNat
def k0_dev87 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1472 : BitVec 32 := 25#32
  let v2069 : BitVec 32 := Scalar.addi v2 c25_i32_1472
  let c32_i32_1473 : BitVec 32 := 32#32
  let c0_i32_1474 : BitVec 32 := 0#32
  let v2070 : BitVec 1 := Scalar.cmpi .eq c32_i32_1473 c0_i32_1474
  let c1_i32_1475 : BitVec 32 := 1#32
  let v2071 : BitVec 32 := Scalar.select v2070 c1_i32_1475 c32_i32_1473
  let v2072 : BitVec 32 := Scalar.remsi v2069 v2071
  let c0_i32_1477 : BitVec 32 := 0#32
  let v2074 : BitVec 1 := Scalar.cmpi .slt v2072 c0_i32_1477
  let c0_i32_1478 : BitVec 32 := 0#32
  let v2075 : BitVec 1 := Scalar.cmpi .slt v2071 c0_i32_1478
  let v2076 : BitVec 1 := Scalar.xori v2074 v2075
  let c0_i32_1476 : BitVec 32 := 0#32
  let v2073 : BitVec 1 := Scalar.cmpi .ne v2072 c0_i32_1476
  let v2077 : BitVec 1 := Scalar.andi v2076 v2073
  let v2078 : BitVec 32 := Scalar.addi v2072 v2071
  let v2079 : BitVec 32 := Scalar.select v2077 v2078 v2072
  let c1_i32_1482 : BitVec 32 := 1#32
  let v2080 : BitVec 32 := Scalar.muli v2079 c1_i32_1482
  let v2081 : BitVec 32 := Scalar.addi c0_i32_1483 v2080
  v2081.toNat
def k0_dev88 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1488 : BitVec 32 := 26#32
  let v2090 : BitVec 32 := Scalar.addi v2 c26_i32_1488
  let c32_i32_1489 : BitVec 32 := 32#32
  let c0_i32_1490 : BitVec 32 := 0#32
  let v2091 : BitVec 1 := Scalar.cmpi .eq c32_i32_1489 c0_i32_1490
  let c1_i32_1491 : BitVec 32 := 1#32
  let v2092 : BitVec 32 := Scalar.select v2091 c1_i32_1491 c32_i32_1489
  let v2093 : BitVec 32 := Scalar.remsi v2090 v2092
  let c0_i32_1493 : BitVec 32 := 0#32
  let v2095 : BitVec 1 := Scalar.cmpi .slt v2093 c0_i32_1493
  let c0_i32_1494 : BitVec 32 := 0#32
  let v2096 : BitVec 1 := Scalar.cmpi .slt v2092 c0_i32_1494
  let v2097 : BitVec 1 := Scalar.xori v2095 v2096
  let c0_i32_1492 : BitVec 32 := 0#32
  let v2094 : BitVec 1 := Scalar.cmpi .ne v2093 c0_i32_1492
  let v2098 : BitVec 1 := Scalar.andi v2097 v2094
  let v2099 : BitVec 32 := Scalar.addi v2093 v2092
  let v2100 : BitVec 32 := Scalar.select v2098 v2099 v2093
  let c1_i32_1498 : BitVec 32 := 1#32
  let v2101 : BitVec 32 := Scalar.muli v2100 c1_i32_1498
  let v2102 : BitVec 32 := Scalar.addi c0_i32_1499 v2101
  v2102.toNat
def k0_dev89 (d0 : Dev nD) : Nat :=
  let c0_i32_1515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1504 : BitVec 32 := 27#32
  let v2111 : BitVec 32 := Scalar.addi v2 c27_i32_1504
  let c32_i32_1505 : BitVec 32 := 32#32
  let c0_i32_1506 : BitVec 32 := 0#32
  let v2112 : BitVec 1 := Scalar.cmpi .eq c32_i32_1505 c0_i32_1506
  let c1_i32_1507 : BitVec 32 := 1#32
  let v2113 : BitVec 32 := Scalar.select v2112 c1_i32_1507 c32_i32_1505
  let v2114 : BitVec 32 := Scalar.remsi v2111 v2113
  let c0_i32_1509 : BitVec 32 := 0#32
  let v2116 : BitVec 1 := Scalar.cmpi .slt v2114 c0_i32_1509
  let c0_i32_1510 : BitVec 32 := 0#32
  let v2117 : BitVec 1 := Scalar.cmpi .slt v2113 c0_i32_1510
  let v2118 : BitVec 1 := Scalar.xori v2116 v2117
  let c0_i32_1508 : BitVec 32 := 0#32
  let v2115 : BitVec 1 := Scalar.cmpi .ne v2114 c0_i32_1508
  let v2119 : BitVec 1 := Scalar.andi v2118 v2115
  let v2120 : BitVec 32 := Scalar.addi v2114 v2113
  let v2121 : BitVec 32 := Scalar.select v2119 v2120 v2114
  let c1_i32_1514 : BitVec 32 := 1#32
  let v2122 : BitVec 32 := Scalar.muli v2121 c1_i32_1514
  let v2123 : BitVec 32 := Scalar.addi c0_i32_1515 v2122
  v2123.toNat
def k0_dev90 (d0 : Dev nD) : Nat :=
  let c0_i32_1531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1520 : BitVec 32 := 28#32
  let v2132 : BitVec 32 := Scalar.addi v2 c28_i32_1520
  let c32_i32_1521 : BitVec 32 := 32#32
  let c0_i32_1522 : BitVec 32 := 0#32
  let v2133 : BitVec 1 := Scalar.cmpi .eq c32_i32_1521 c0_i32_1522
  let c1_i32_1523 : BitVec 32 := 1#32
  let v2134 : BitVec 32 := Scalar.select v2133 c1_i32_1523 c32_i32_1521
  let v2135 : BitVec 32 := Scalar.remsi v2132 v2134
  let c0_i32_1525 : BitVec 32 := 0#32
  let v2137 : BitVec 1 := Scalar.cmpi .slt v2135 c0_i32_1525
  let c0_i32_1526 : BitVec 32 := 0#32
  let v2138 : BitVec 1 := Scalar.cmpi .slt v2134 c0_i32_1526
  let v2139 : BitVec 1 := Scalar.xori v2137 v2138
  let c0_i32_1524 : BitVec 32 := 0#32
  let v2136 : BitVec 1 := Scalar.cmpi .ne v2135 c0_i32_1524
  let v2140 : BitVec 1 := Scalar.andi v2139 v2136
  let v2141 : BitVec 32 := Scalar.addi v2135 v2134
  let v2142 : BitVec 32 := Scalar.select v2140 v2141 v2135
  let c1_i32_1530 : BitVec 32 := 1#32
  let v2143 : BitVec 32 := Scalar.muli v2142 c1_i32_1530
  let v2144 : BitVec 32 := Scalar.addi c0_i32_1531 v2143
  v2144.toNat
def k0_dev91 (d0 : Dev nD) : Nat :=
  let c0_i32_1547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1536 : BitVec 32 := 29#32
  let v2153 : BitVec 32 := Scalar.addi v2 c29_i32_1536
  let c32_i32_1537 : BitVec 32 := 32#32
  let c0_i32_1538 : BitVec 32 := 0#32
  let v2154 : BitVec 1 := Scalar.cmpi .eq c32_i32_1537 c0_i32_1538
  let c1_i32_1539 : BitVec 32 := 1#32
  let v2155 : BitVec 32 := Scalar.select v2154 c1_i32_1539 c32_i32_1537
  let v2156 : BitVec 32 := Scalar.remsi v2153 v2155
  let c0_i32_1541 : BitVec 32 := 0#32
  let v2158 : BitVec 1 := Scalar.cmpi .slt v2156 c0_i32_1541
  let c0_i32_1542 : BitVec 32 := 0#32
  let v2159 : BitVec 1 := Scalar.cmpi .slt v2155 c0_i32_1542
  let v2160 : BitVec 1 := Scalar.xori v2158 v2159
  let c0_i32_1540 : BitVec 32 := 0#32
  let v2157 : BitVec 1 := Scalar.cmpi .ne v2156 c0_i32_1540
  let v2161 : BitVec 1 := Scalar.andi v2160 v2157
  let v2162 : BitVec 32 := Scalar.addi v2156 v2155
  let v2163 : BitVec 32 := Scalar.select v2161 v2162 v2156
  let c1_i32_1546 : BitVec 32 := 1#32
  let v2164 : BitVec 32 := Scalar.muli v2163 c1_i32_1546
  let v2165 : BitVec 32 := Scalar.addi c0_i32_1547 v2164
  v2165.toNat
def k0_dev92 (d0 : Dev nD) : Nat :=
  let c0_i32_1563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1552 : BitVec 32 := 30#32
  let v2174 : BitVec 32 := Scalar.addi v2 c30_i32_1552
  let c32_i32_1553 : BitVec 32 := 32#32
  let c0_i32_1554 : BitVec 32 := 0#32
  let v2175 : BitVec 1 := Scalar.cmpi .eq c32_i32_1553 c0_i32_1554
  let c1_i32_1555 : BitVec 32 := 1#32
  let v2176 : BitVec 32 := Scalar.select v2175 c1_i32_1555 c32_i32_1553
  let v2177 : BitVec 32 := Scalar.remsi v2174 v2176
  let c0_i32_1557 : BitVec 32 := 0#32
  let v2179 : BitVec 1 := Scalar.cmpi .slt v2177 c0_i32_1557
  let c0_i32_1558 : BitVec 32 := 0#32
  let v2180 : BitVec 1 := Scalar.cmpi .slt v2176 c0_i32_1558
  let v2181 : BitVec 1 := Scalar.xori v2179 v2180
  let c0_i32_1556 : BitVec 32 := 0#32
  let v2178 : BitVec 1 := Scalar.cmpi .ne v2177 c0_i32_1556
  let v2182 : BitVec 1 := Scalar.andi v2181 v2178
  let v2183 : BitVec 32 := Scalar.addi v2177 v2176
  let v2184 : BitVec 32 := Scalar.select v2182 v2183 v2177
  let c1_i32_1562 : BitVec 32 := 1#32
  let v2185 : BitVec 32 := Scalar.muli v2184 c1_i32_1562
  let v2186 : BitVec 32 := Scalar.addi c0_i32_1563 v2185
  v2186.toNat
def k0_dev93 (d0 : Dev nD) : Nat :=
  let c0_i32_1579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1568 : BitVec 32 := 31#32
  let v2195 : BitVec 32 := Scalar.addi v2 c31_i32_1568
  let c32_i32_1569 : BitVec 32 := 32#32
  let c0_i32_1570 : BitVec 32 := 0#32
  let v2196 : BitVec 1 := Scalar.cmpi .eq c32_i32_1569 c0_i32_1570
  let c1_i32_1571 : BitVec 32 := 1#32
  let v2197 : BitVec 32 := Scalar.select v2196 c1_i32_1571 c32_i32_1569
  let v2198 : BitVec 32 := Scalar.remsi v2195 v2197
  let c0_i32_1573 : BitVec 32 := 0#32
  let v2200 : BitVec 1 := Scalar.cmpi .slt v2198 c0_i32_1573
  let c0_i32_1574 : BitVec 32 := 0#32
  let v2201 : BitVec 1 := Scalar.cmpi .slt v2197 c0_i32_1574
  let v2202 : BitVec 1 := Scalar.xori v2200 v2201
  let c0_i32_1572 : BitVec 32 := 0#32
  let v2199 : BitVec 1 := Scalar.cmpi .ne v2198 c0_i32_1572
  let v2203 : BitVec 1 := Scalar.andi v2202 v2199
  let v2204 : BitVec 32 := Scalar.addi v2198 v2197
  let v2205 : BitVec 32 := Scalar.select v2203 v2204 v2198
  let c1_i32_1578 : BitVec 32 := 1#32
  let v2206 : BitVec 32 := Scalar.muli v2205 c1_i32_1578
  let v2207 : BitVec 32 := Scalar.addi c0_i32_1579 v2206
  v2207.toNat
def k0_off7 (d0 : Dev nD) (c1_i32_1584 : BitVec 32) : Fin 2 → Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2216 : BitVec 32 := Scalar.subi v2 c1_i32_1584
  let c32_i32_1585 : BitVec 32 := 32#32
  let c0_i32_1586 : BitVec 32 := 0#32
  let v2217 : BitVec 1 := Scalar.cmpi .eq c32_i32_1585 c0_i32_1586
  let c1_i32_1587 : BitVec 32 := 1#32
  let v2218 : BitVec 32 := Scalar.select v2217 c1_i32_1587 c32_i32_1585
  let v2219 : BitVec 32 := Scalar.remsi v2216 v2218
  let c0_i32_1589 : BitVec 32 := 0#32
  let v2221 : BitVec 1 := Scalar.cmpi .slt v2219 c0_i32_1589
  let c0_i32_1590 : BitVec 32 := 0#32
  let v2222 : BitVec 1 := Scalar.cmpi .slt v2218 c0_i32_1590
  let v2223 : BitVec 1 := Scalar.xori v2221 v2222
  let c0_i32_1588 : BitVec 32 := 0#32
  let v2220 : BitVec 1 := Scalar.cmpi .ne v2219 c0_i32_1588
  let v2224 : BitVec 1 := Scalar.andi v2223 v2220
  let v2225 : BitVec 32 := Scalar.addi v2219 v2218
  let v2226 : BitVec 32 := Scalar.select v2224 v2225 v2219
  ![0, v2226.toNat]
def k0_off8 (d0 : Dev nD) (c1_i32_1584 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2216 : BitVec 32 := Scalar.subi v2 c1_i32_1584
  let c32_i32_1585 : BitVec 32 := 32#32
  let c0_i32_1586 : BitVec 32 := 0#32
  let v2217 : BitVec 1 := Scalar.cmpi .eq c32_i32_1585 c0_i32_1586
  let c1_i32_1587 : BitVec 32 := 1#32
  let v2218 : BitVec 32 := Scalar.select v2217 c1_i32_1587 c32_i32_1585
  let v2219 : BitVec 32 := Scalar.remsi v2216 v2218
  let c0_i32_1589 : BitVec 32 := 0#32
  let v2221 : BitVec 1 := Scalar.cmpi .slt v2219 c0_i32_1589
  let c0_i32_1590 : BitVec 32 := 0#32
  let v2222 : BitVec 1 := Scalar.cmpi .slt v2218 c0_i32_1590
  let v2223 : BitVec 1 := Scalar.xori v2221 v2222
  let c0_i32_1588 : BitVec 32 := 0#32
  let v2220 : BitVec 1 := Scalar.cmpi .ne v2219 c0_i32_1588
  let v2224 : BitVec 1 := Scalar.andi v2223 v2220
  let v2225 : BitVec 32 := Scalar.addi v2219 v2218
  let v2226 : BitVec 32 := Scalar.select v2224 v2225 v2219
  let c0_i32_1596 : BitVec 32 := 0#32
  let c0_i32_1597 : BitVec 32 := 0#32
  ![v2226.toNat, 0, 0]
def k0_dev94 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2098 : BitVec 32 := 1#32
  let v2824 : BitVec 32 := Scalar.addi v2 c1_i32_2098
  let c32_i32_2099 : BitVec 32 := 32#32
  let c0_i32_2100 : BitVec 32 := 0#32
  let v2825 : BitVec 1 := Scalar.cmpi .eq c32_i32_2099 c0_i32_2100
  let c1_i32_2101 : BitVec 32 := 1#32
  let v2826 : BitVec 32 := Scalar.select v2825 c1_i32_2101 c32_i32_2099
  let v2827 : BitVec 32 := Scalar.remsi v2824 v2826
  let c0_i32_2103 : BitVec 32 := 0#32
  let v2829 : BitVec 1 := Scalar.cmpi .slt v2827 c0_i32_2103
  let c0_i32_2104 : BitVec 32 := 0#32
  let v2830 : BitVec 1 := Scalar.cmpi .slt v2826 c0_i32_2104
  let v2831 : BitVec 1 := Scalar.xori v2829 v2830
  let c0_i32_2102 : BitVec 32 := 0#32
  let v2828 : BitVec 1 := Scalar.cmpi .ne v2827 c0_i32_2102
  let v2832 : BitVec 1 := Scalar.andi v2831 v2828
  let v2833 : BitVec 32 := Scalar.addi v2827 v2826
  let v2834 : BitVec 32 := Scalar.select v2832 v2833 v2827
  let c1_i32_2109 : BitVec 32 := 1#32
  let v2835 : BitVec 32 := Scalar.muli v2834 c1_i32_2109
  let v2836 : BitVec 32 := Scalar.addi c0_i32_2110 v2835
  v2836.toNat
def k0_dev95 (d0 : Dev nD) : Nat :=
  let c0_i32_2127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2115 : BitVec 32 := 2#32
  let v2845 : BitVec 32 := Scalar.addi v2 c2_i32_2115
  let c32_i32_2116 : BitVec 32 := 32#32
  let c0_i32_2117 : BitVec 32 := 0#32
  let v2846 : BitVec 1 := Scalar.cmpi .eq c32_i32_2116 c0_i32_2117
  let c1_i32_2118 : BitVec 32 := 1#32
  let v2847 : BitVec 32 := Scalar.select v2846 c1_i32_2118 c32_i32_2116
  let v2848 : BitVec 32 := Scalar.remsi v2845 v2847
  let c0_i32_2120 : BitVec 32 := 0#32
  let v2850 : BitVec 1 := Scalar.cmpi .slt v2848 c0_i32_2120
  let c0_i32_2121 : BitVec 32 := 0#32
  let v2851 : BitVec 1 := Scalar.cmpi .slt v2847 c0_i32_2121
  let v2852 : BitVec 1 := Scalar.xori v2850 v2851
  let c0_i32_2119 : BitVec 32 := 0#32
  let v2849 : BitVec 1 := Scalar.cmpi .ne v2848 c0_i32_2119
  let v2853 : BitVec 1 := Scalar.andi v2852 v2849
  let v2854 : BitVec 32 := Scalar.addi v2848 v2847
  let v2855 : BitVec 32 := Scalar.select v2853 v2854 v2848
  let c1_i32_2126 : BitVec 32 := 1#32
  let v2856 : BitVec 32 := Scalar.muli v2855 c1_i32_2126
  let v2857 : BitVec 32 := Scalar.addi c0_i32_2127 v2856
  v2857.toNat
def k0_dev96 (d0 : Dev nD) : Nat :=
  let c0_i32_2144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2132 : BitVec 32 := 3#32
  let v2866 : BitVec 32 := Scalar.addi v2 c3_i32_2132
  let c32_i32_2133 : BitVec 32 := 32#32
  let c0_i32_2134 : BitVec 32 := 0#32
  let v2867 : BitVec 1 := Scalar.cmpi .eq c32_i32_2133 c0_i32_2134
  let c1_i32_2135 : BitVec 32 := 1#32
  let v2868 : BitVec 32 := Scalar.select v2867 c1_i32_2135 c32_i32_2133
  let v2869 : BitVec 32 := Scalar.remsi v2866 v2868
  let c0_i32_2137 : BitVec 32 := 0#32
  let v2871 : BitVec 1 := Scalar.cmpi .slt v2869 c0_i32_2137
  let c0_i32_2138 : BitVec 32 := 0#32
  let v2872 : BitVec 1 := Scalar.cmpi .slt v2868 c0_i32_2138
  let v2873 : BitVec 1 := Scalar.xori v2871 v2872
  let c0_i32_2136 : BitVec 32 := 0#32
  let v2870 : BitVec 1 := Scalar.cmpi .ne v2869 c0_i32_2136
  let v2874 : BitVec 1 := Scalar.andi v2873 v2870
  let v2875 : BitVec 32 := Scalar.addi v2869 v2868
  let v2876 : BitVec 32 := Scalar.select v2874 v2875 v2869
  let c1_i32_2143 : BitVec 32 := 1#32
  let v2877 : BitVec 32 := Scalar.muli v2876 c1_i32_2143
  let v2878 : BitVec 32 := Scalar.addi c0_i32_2144 v2877
  v2878.toNat
def k0_dev97 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2149 : BitVec 32 := 4#32
  let v2887 : BitVec 32 := Scalar.addi v2 c4_i32_2149
  let c32_i32_2150 : BitVec 32 := 32#32
  let c0_i32_2151 : BitVec 32 := 0#32
  let v2888 : BitVec 1 := Scalar.cmpi .eq c32_i32_2150 c0_i32_2151
  let c1_i32_2152 : BitVec 32 := 1#32
  let v2889 : BitVec 32 := Scalar.select v2888 c1_i32_2152 c32_i32_2150
  let v2890 : BitVec 32 := Scalar.remsi v2887 v2889
  let c0_i32_2154 : BitVec 32 := 0#32
  let v2892 : BitVec 1 := Scalar.cmpi .slt v2890 c0_i32_2154
  let c0_i32_2155 : BitVec 32 := 0#32
  let v2893 : BitVec 1 := Scalar.cmpi .slt v2889 c0_i32_2155
  let v2894 : BitVec 1 := Scalar.xori v2892 v2893
  let c0_i32_2153 : BitVec 32 := 0#32
  let v2891 : BitVec 1 := Scalar.cmpi .ne v2890 c0_i32_2153
  let v2895 : BitVec 1 := Scalar.andi v2894 v2891
  let v2896 : BitVec 32 := Scalar.addi v2890 v2889
  let v2897 : BitVec 32 := Scalar.select v2895 v2896 v2890
  let c1_i32_2160 : BitVec 32 := 1#32
  let v2898 : BitVec 32 := Scalar.muli v2897 c1_i32_2160
  let v2899 : BitVec 32 := Scalar.addi c0_i32_2161 v2898
  v2899.toNat
def k0_dev98 (d0 : Dev nD) : Nat :=
  let c0_i32_2178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2166 : BitVec 32 := 5#32
  let v2908 : BitVec 32 := Scalar.addi v2 c5_i32_2166
  let c32_i32_2167 : BitVec 32 := 32#32
  let c0_i32_2168 : BitVec 32 := 0#32
  let v2909 : BitVec 1 := Scalar.cmpi .eq c32_i32_2167 c0_i32_2168
  let c1_i32_2169 : BitVec 32 := 1#32
  let v2910 : BitVec 32 := Scalar.select v2909 c1_i32_2169 c32_i32_2167
  let v2911 : BitVec 32 := Scalar.remsi v2908 v2910
  let c0_i32_2171 : BitVec 32 := 0#32
  let v2913 : BitVec 1 := Scalar.cmpi .slt v2911 c0_i32_2171
  let c0_i32_2172 : BitVec 32 := 0#32
  let v2914 : BitVec 1 := Scalar.cmpi .slt v2910 c0_i32_2172
  let v2915 : BitVec 1 := Scalar.xori v2913 v2914
  let c0_i32_2170 : BitVec 32 := 0#32
  let v2912 : BitVec 1 := Scalar.cmpi .ne v2911 c0_i32_2170
  let v2916 : BitVec 1 := Scalar.andi v2915 v2912
  let v2917 : BitVec 32 := Scalar.addi v2911 v2910
  let v2918 : BitVec 32 := Scalar.select v2916 v2917 v2911
  let c1_i32_2177 : BitVec 32 := 1#32
  let v2919 : BitVec 32 := Scalar.muli v2918 c1_i32_2177
  let v2920 : BitVec 32 := Scalar.addi c0_i32_2178 v2919
  v2920.toNat
def k0_dev99 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2183 : BitVec 32 := 6#32
  let v2929 : BitVec 32 := Scalar.addi v2 c6_i32_2183
  let c32_i32_2184 : BitVec 32 := 32#32
  let c0_i32_2185 : BitVec 32 := 0#32
  let v2930 : BitVec 1 := Scalar.cmpi .eq c32_i32_2184 c0_i32_2185
  let c1_i32_2186 : BitVec 32 := 1#32
  let v2931 : BitVec 32 := Scalar.select v2930 c1_i32_2186 c32_i32_2184
  let v2932 : BitVec 32 := Scalar.remsi v2929 v2931
  let c0_i32_2188 : BitVec 32 := 0#32
  let v2934 : BitVec 1 := Scalar.cmpi .slt v2932 c0_i32_2188
  let c0_i32_2189 : BitVec 32 := 0#32
  let v2935 : BitVec 1 := Scalar.cmpi .slt v2931 c0_i32_2189
  let v2936 : BitVec 1 := Scalar.xori v2934 v2935
  let c0_i32_2187 : BitVec 32 := 0#32
  let v2933 : BitVec 1 := Scalar.cmpi .ne v2932 c0_i32_2187
  let v2937 : BitVec 1 := Scalar.andi v2936 v2933
  let v2938 : BitVec 32 := Scalar.addi v2932 v2931
  let v2939 : BitVec 32 := Scalar.select v2937 v2938 v2932
  let c1_i32_2194 : BitVec 32 := 1#32
  let v2940 : BitVec 32 := Scalar.muli v2939 c1_i32_2194
  let v2941 : BitVec 32 := Scalar.addi c0_i32_2195 v2940
  v2941.toNat
def k0_dev100 (d0 : Dev nD) : Nat :=
  let c0_i32_2212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2200 : BitVec 32 := 7#32
  let v2950 : BitVec 32 := Scalar.addi v2 c7_i32_2200
  let c32_i32_2201 : BitVec 32 := 32#32
  let c0_i32_2202 : BitVec 32 := 0#32
  let v2951 : BitVec 1 := Scalar.cmpi .eq c32_i32_2201 c0_i32_2202
  let c1_i32_2203 : BitVec 32 := 1#32
  let v2952 : BitVec 32 := Scalar.select v2951 c1_i32_2203 c32_i32_2201
  let v2953 : BitVec 32 := Scalar.remsi v2950 v2952
  let c0_i32_2205 : BitVec 32 := 0#32
  let v2955 : BitVec 1 := Scalar.cmpi .slt v2953 c0_i32_2205
  let c0_i32_2206 : BitVec 32 := 0#32
  let v2956 : BitVec 1 := Scalar.cmpi .slt v2952 c0_i32_2206
  let v2957 : BitVec 1 := Scalar.xori v2955 v2956
  let c0_i32_2204 : BitVec 32 := 0#32
  let v2954 : BitVec 1 := Scalar.cmpi .ne v2953 c0_i32_2204
  let v2958 : BitVec 1 := Scalar.andi v2957 v2954
  let v2959 : BitVec 32 := Scalar.addi v2953 v2952
  let v2960 : BitVec 32 := Scalar.select v2958 v2959 v2953
  let c1_i32_2211 : BitVec 32 := 1#32
  let v2961 : BitVec 32 := Scalar.muli v2960 c1_i32_2211
  let v2962 : BitVec 32 := Scalar.addi c0_i32_2212 v2961
  v2962.toNat
def k0_dev101 (d0 : Dev nD) : Nat :=
  let c0_i32_2229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2217 : BitVec 32 := 8#32
  let v2971 : BitVec 32 := Scalar.addi v2 c8_i32_2217
  let c32_i32_2218 : BitVec 32 := 32#32
  let c0_i32_2219 : BitVec 32 := 0#32
  let v2972 : BitVec 1 := Scalar.cmpi .eq c32_i32_2218 c0_i32_2219
  let c1_i32_2220 : BitVec 32 := 1#32
  let v2973 : BitVec 32 := Scalar.select v2972 c1_i32_2220 c32_i32_2218
  let v2974 : BitVec 32 := Scalar.remsi v2971 v2973
  let c0_i32_2222 : BitVec 32 := 0#32
  let v2976 : BitVec 1 := Scalar.cmpi .slt v2974 c0_i32_2222
  let c0_i32_2223 : BitVec 32 := 0#32
  let v2977 : BitVec 1 := Scalar.cmpi .slt v2973 c0_i32_2223
  let v2978 : BitVec 1 := Scalar.xori v2976 v2977
  let c0_i32_2221 : BitVec 32 := 0#32
  let v2975 : BitVec 1 := Scalar.cmpi .ne v2974 c0_i32_2221
  let v2979 : BitVec 1 := Scalar.andi v2978 v2975
  let v2980 : BitVec 32 := Scalar.addi v2974 v2973
  let v2981 : BitVec 32 := Scalar.select v2979 v2980 v2974
  let c1_i32_2228 : BitVec 32 := 1#32
  let v2982 : BitVec 32 := Scalar.muli v2981 c1_i32_2228
  let v2983 : BitVec 32 := Scalar.addi c0_i32_2229 v2982
  v2983.toNat
def k0_dev102 (d0 : Dev nD) : Nat :=
  let c0_i32_2246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2234 : BitVec 32 := 9#32
  let v2992 : BitVec 32 := Scalar.addi v2 c9_i32_2234
  let c32_i32_2235 : BitVec 32 := 32#32
  let c0_i32_2236 : BitVec 32 := 0#32
  let v2993 : BitVec 1 := Scalar.cmpi .eq c32_i32_2235 c0_i32_2236
  let c1_i32_2237 : BitVec 32 := 1#32
  let v2994 : BitVec 32 := Scalar.select v2993 c1_i32_2237 c32_i32_2235
  let v2995 : BitVec 32 := Scalar.remsi v2992 v2994
  let c0_i32_2239 : BitVec 32 := 0#32
  let v2997 : BitVec 1 := Scalar.cmpi .slt v2995 c0_i32_2239
  let c0_i32_2240 : BitVec 32 := 0#32
  let v2998 : BitVec 1 := Scalar.cmpi .slt v2994 c0_i32_2240
  let v2999 : BitVec 1 := Scalar.xori v2997 v2998
  let c0_i32_2238 : BitVec 32 := 0#32
  let v2996 : BitVec 1 := Scalar.cmpi .ne v2995 c0_i32_2238
  let v3000 : BitVec 1 := Scalar.andi v2999 v2996
  let v3001 : BitVec 32 := Scalar.addi v2995 v2994
  let v3002 : BitVec 32 := Scalar.select v3000 v3001 v2995
  let c1_i32_2245 : BitVec 32 := 1#32
  let v3003 : BitVec 32 := Scalar.muli v3002 c1_i32_2245
  let v3004 : BitVec 32 := Scalar.addi c0_i32_2246 v3003
  v3004.toNat
def k0_dev103 (d0 : Dev nD) : Nat :=
  let c0_i32_2263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2251 : BitVec 32 := 10#32
  let v3013 : BitVec 32 := Scalar.addi v2 c10_i32_2251
  let c32_i32_2252 : BitVec 32 := 32#32
  let c0_i32_2253 : BitVec 32 := 0#32
  let v3014 : BitVec 1 := Scalar.cmpi .eq c32_i32_2252 c0_i32_2253
  let c1_i32_2254 : BitVec 32 := 1#32
  let v3015 : BitVec 32 := Scalar.select v3014 c1_i32_2254 c32_i32_2252
  let v3016 : BitVec 32 := Scalar.remsi v3013 v3015
  let c0_i32_2256 : BitVec 32 := 0#32
  let v3018 : BitVec 1 := Scalar.cmpi .slt v3016 c0_i32_2256
  let c0_i32_2257 : BitVec 32 := 0#32
  let v3019 : BitVec 1 := Scalar.cmpi .slt v3015 c0_i32_2257
  let v3020 : BitVec 1 := Scalar.xori v3018 v3019
  let c0_i32_2255 : BitVec 32 := 0#32
  let v3017 : BitVec 1 := Scalar.cmpi .ne v3016 c0_i32_2255
  let v3021 : BitVec 1 := Scalar.andi v3020 v3017
  let v3022 : BitVec 32 := Scalar.addi v3016 v3015
  let v3023 : BitVec 32 := Scalar.select v3021 v3022 v3016
  let c1_i32_2262 : BitVec 32 := 1#32
  let v3024 : BitVec 32 := Scalar.muli v3023 c1_i32_2262
  let v3025 : BitVec 32 := Scalar.addi c0_i32_2263 v3024
  v3025.toNat
def k0_dev104 (d0 : Dev nD) : Nat :=
  let c0_i32_2280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2268 : BitVec 32 := 11#32
  let v3034 : BitVec 32 := Scalar.addi v2 c11_i32_2268
  let c32_i32_2269 : BitVec 32 := 32#32
  let c0_i32_2270 : BitVec 32 := 0#32
  let v3035 : BitVec 1 := Scalar.cmpi .eq c32_i32_2269 c0_i32_2270
  let c1_i32_2271 : BitVec 32 := 1#32
  let v3036 : BitVec 32 := Scalar.select v3035 c1_i32_2271 c32_i32_2269
  let v3037 : BitVec 32 := Scalar.remsi v3034 v3036
  let c0_i32_2273 : BitVec 32 := 0#32
  let v3039 : BitVec 1 := Scalar.cmpi .slt v3037 c0_i32_2273
  let c0_i32_2274 : BitVec 32 := 0#32
  let v3040 : BitVec 1 := Scalar.cmpi .slt v3036 c0_i32_2274
  let v3041 : BitVec 1 := Scalar.xori v3039 v3040
  let c0_i32_2272 : BitVec 32 := 0#32
  let v3038 : BitVec 1 := Scalar.cmpi .ne v3037 c0_i32_2272
  let v3042 : BitVec 1 := Scalar.andi v3041 v3038
  let v3043 : BitVec 32 := Scalar.addi v3037 v3036
  let v3044 : BitVec 32 := Scalar.select v3042 v3043 v3037
  let c1_i32_2279 : BitVec 32 := 1#32
  let v3045 : BitVec 32 := Scalar.muli v3044 c1_i32_2279
  let v3046 : BitVec 32 := Scalar.addi c0_i32_2280 v3045
  v3046.toNat
def k0_dev105 (d0 : Dev nD) : Nat :=
  let c0_i32_2297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2285 : BitVec 32 := 12#32
  let v3055 : BitVec 32 := Scalar.addi v2 c12_i32_2285
  let c32_i32_2286 : BitVec 32 := 32#32
  let c0_i32_2287 : BitVec 32 := 0#32
  let v3056 : BitVec 1 := Scalar.cmpi .eq c32_i32_2286 c0_i32_2287
  let c1_i32_2288 : BitVec 32 := 1#32
  let v3057 : BitVec 32 := Scalar.select v3056 c1_i32_2288 c32_i32_2286
  let v3058 : BitVec 32 := Scalar.remsi v3055 v3057
  let c0_i32_2290 : BitVec 32 := 0#32
  let v3060 : BitVec 1 := Scalar.cmpi .slt v3058 c0_i32_2290
  let c0_i32_2291 : BitVec 32 := 0#32
  let v3061 : BitVec 1 := Scalar.cmpi .slt v3057 c0_i32_2291
  let v3062 : BitVec 1 := Scalar.xori v3060 v3061
  let c0_i32_2289 : BitVec 32 := 0#32
  let v3059 : BitVec 1 := Scalar.cmpi .ne v3058 c0_i32_2289
  let v3063 : BitVec 1 := Scalar.andi v3062 v3059
  let v3064 : BitVec 32 := Scalar.addi v3058 v3057
  let v3065 : BitVec 32 := Scalar.select v3063 v3064 v3058
  let c1_i32_2296 : BitVec 32 := 1#32
  let v3066 : BitVec 32 := Scalar.muli v3065 c1_i32_2296
  let v3067 : BitVec 32 := Scalar.addi c0_i32_2297 v3066
  v3067.toNat
def k0_dev106 (d0 : Dev nD) : Nat :=
  let c0_i32_2314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2302 : BitVec 32 := 13#32
  let v3076 : BitVec 32 := Scalar.addi v2 c13_i32_2302
  let c32_i32_2303 : BitVec 32 := 32#32
  let c0_i32_2304 : BitVec 32 := 0#32
  let v3077 : BitVec 1 := Scalar.cmpi .eq c32_i32_2303 c0_i32_2304
  let c1_i32_2305 : BitVec 32 := 1#32
  let v3078 : BitVec 32 := Scalar.select v3077 c1_i32_2305 c32_i32_2303
  let v3079 : BitVec 32 := Scalar.remsi v3076 v3078
  let c0_i32_2307 : BitVec 32 := 0#32
  let v3081 : BitVec 1 := Scalar.cmpi .slt v3079 c0_i32_2307
  let c0_i32_2308 : BitVec 32 := 0#32
  let v3082 : BitVec 1 := Scalar.cmpi .slt v3078 c0_i32_2308
  let v3083 : BitVec 1 := Scalar.xori v3081 v3082
  let c0_i32_2306 : BitVec 32 := 0#32
  let v3080 : BitVec 1 := Scalar.cmpi .ne v3079 c0_i32_2306
  let v3084 : BitVec 1 := Scalar.andi v3083 v3080
  let v3085 : BitVec 32 := Scalar.addi v3079 v3078
  let v3086 : BitVec 32 := Scalar.select v3084 v3085 v3079
  let c1_i32_2313 : BitVec 32 := 1#32
  let v3087 : BitVec 32 := Scalar.muli v3086 c1_i32_2313
  let v3088 : BitVec 32 := Scalar.addi c0_i32_2314 v3087
  v3088.toNat
def k0_dev107 (d0 : Dev nD) : Nat :=
  let c0_i32_2331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2319 : BitVec 32 := 14#32
  let v3097 : BitVec 32 := Scalar.addi v2 c14_i32_2319
  let c32_i32_2320 : BitVec 32 := 32#32
  let c0_i32_2321 : BitVec 32 := 0#32
  let v3098 : BitVec 1 := Scalar.cmpi .eq c32_i32_2320 c0_i32_2321
  let c1_i32_2322 : BitVec 32 := 1#32
  let v3099 : BitVec 32 := Scalar.select v3098 c1_i32_2322 c32_i32_2320
  let v3100 : BitVec 32 := Scalar.remsi v3097 v3099
  let c0_i32_2324 : BitVec 32 := 0#32
  let v3102 : BitVec 1 := Scalar.cmpi .slt v3100 c0_i32_2324
  let c0_i32_2325 : BitVec 32 := 0#32
  let v3103 : BitVec 1 := Scalar.cmpi .slt v3099 c0_i32_2325
  let v3104 : BitVec 1 := Scalar.xori v3102 v3103
  let c0_i32_2323 : BitVec 32 := 0#32
  let v3101 : BitVec 1 := Scalar.cmpi .ne v3100 c0_i32_2323
  let v3105 : BitVec 1 := Scalar.andi v3104 v3101
  let v3106 : BitVec 32 := Scalar.addi v3100 v3099
  let v3107 : BitVec 32 := Scalar.select v3105 v3106 v3100
  let c1_i32_2330 : BitVec 32 := 1#32
  let v3108 : BitVec 32 := Scalar.muli v3107 c1_i32_2330
  let v3109 : BitVec 32 := Scalar.addi c0_i32_2331 v3108
  v3109.toNat
def k0_dev108 (d0 : Dev nD) : Nat :=
  let c0_i32_2348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2336 : BitVec 32 := 15#32
  let v3118 : BitVec 32 := Scalar.addi v2 c15_i32_2336
  let c32_i32_2337 : BitVec 32 := 32#32
  let c0_i32_2338 : BitVec 32 := 0#32
  let v3119 : BitVec 1 := Scalar.cmpi .eq c32_i32_2337 c0_i32_2338
  let c1_i32_2339 : BitVec 32 := 1#32
  let v3120 : BitVec 32 := Scalar.select v3119 c1_i32_2339 c32_i32_2337
  let v3121 : BitVec 32 := Scalar.remsi v3118 v3120
  let c0_i32_2341 : BitVec 32 := 0#32
  let v3123 : BitVec 1 := Scalar.cmpi .slt v3121 c0_i32_2341
  let c0_i32_2342 : BitVec 32 := 0#32
  let v3124 : BitVec 1 := Scalar.cmpi .slt v3120 c0_i32_2342
  let v3125 : BitVec 1 := Scalar.xori v3123 v3124
  let c0_i32_2340 : BitVec 32 := 0#32
  let v3122 : BitVec 1 := Scalar.cmpi .ne v3121 c0_i32_2340
  let v3126 : BitVec 1 := Scalar.andi v3125 v3122
  let v3127 : BitVec 32 := Scalar.addi v3121 v3120
  let v3128 : BitVec 32 := Scalar.select v3126 v3127 v3121
  let c1_i32_2347 : BitVec 32 := 1#32
  let v3129 : BitVec 32 := Scalar.muli v3128 c1_i32_2347
  let v3130 : BitVec 32 := Scalar.addi c0_i32_2348 v3129
  v3130.toNat
def k0_dev109 (d0 : Dev nD) : Nat :=
  let c0_i32_2365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2353 : BitVec 32 := 16#32
  let v3139 : BitVec 32 := Scalar.addi v2 c16_i32_2353
  let c32_i32_2354 : BitVec 32 := 32#32
  let c0_i32_2355 : BitVec 32 := 0#32
  let v3140 : BitVec 1 := Scalar.cmpi .eq c32_i32_2354 c0_i32_2355
  let c1_i32_2356 : BitVec 32 := 1#32
  let v3141 : BitVec 32 := Scalar.select v3140 c1_i32_2356 c32_i32_2354
  let v3142 : BitVec 32 := Scalar.remsi v3139 v3141
  let c0_i32_2358 : BitVec 32 := 0#32
  let v3144 : BitVec 1 := Scalar.cmpi .slt v3142 c0_i32_2358
  let c0_i32_2359 : BitVec 32 := 0#32
  let v3145 : BitVec 1 := Scalar.cmpi .slt v3141 c0_i32_2359
  let v3146 : BitVec 1 := Scalar.xori v3144 v3145
  let c0_i32_2357 : BitVec 32 := 0#32
  let v3143 : BitVec 1 := Scalar.cmpi .ne v3142 c0_i32_2357
  let v3147 : BitVec 1 := Scalar.andi v3146 v3143
  let v3148 : BitVec 32 := Scalar.addi v3142 v3141
  let v3149 : BitVec 32 := Scalar.select v3147 v3148 v3142
  let c1_i32_2364 : BitVec 32 := 1#32
  let v3150 : BitVec 32 := Scalar.muli v3149 c1_i32_2364
  let v3151 : BitVec 32 := Scalar.addi c0_i32_2365 v3150
  v3151.toNat
def k0_dev110 (d0 : Dev nD) : Nat :=
  let c0_i32_2382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2370 : BitVec 32 := 17#32
  let v3160 : BitVec 32 := Scalar.addi v2 c17_i32_2370
  let c32_i32_2371 : BitVec 32 := 32#32
  let c0_i32_2372 : BitVec 32 := 0#32
  let v3161 : BitVec 1 := Scalar.cmpi .eq c32_i32_2371 c0_i32_2372
  let c1_i32_2373 : BitVec 32 := 1#32
  let v3162 : BitVec 32 := Scalar.select v3161 c1_i32_2373 c32_i32_2371
  let v3163 : BitVec 32 := Scalar.remsi v3160 v3162
  let c0_i32_2375 : BitVec 32 := 0#32
  let v3165 : BitVec 1 := Scalar.cmpi .slt v3163 c0_i32_2375
  let c0_i32_2376 : BitVec 32 := 0#32
  let v3166 : BitVec 1 := Scalar.cmpi .slt v3162 c0_i32_2376
  let v3167 : BitVec 1 := Scalar.xori v3165 v3166
  let c0_i32_2374 : BitVec 32 := 0#32
  let v3164 : BitVec 1 := Scalar.cmpi .ne v3163 c0_i32_2374
  let v3168 : BitVec 1 := Scalar.andi v3167 v3164
  let v3169 : BitVec 32 := Scalar.addi v3163 v3162
  let v3170 : BitVec 32 := Scalar.select v3168 v3169 v3163
  let c1_i32_2381 : BitVec 32 := 1#32
  let v3171 : BitVec 32 := Scalar.muli v3170 c1_i32_2381
  let v3172 : BitVec 32 := Scalar.addi c0_i32_2382 v3171
  v3172.toNat
def k0_dev111 (d0 : Dev nD) : Nat :=
  let c0_i32_2399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2387 : BitVec 32 := 18#32
  let v3181 : BitVec 32 := Scalar.addi v2 c18_i32_2387
  let c32_i32_2388 : BitVec 32 := 32#32
  let c0_i32_2389 : BitVec 32 := 0#32
  let v3182 : BitVec 1 := Scalar.cmpi .eq c32_i32_2388 c0_i32_2389
  let c1_i32_2390 : BitVec 32 := 1#32
  let v3183 : BitVec 32 := Scalar.select v3182 c1_i32_2390 c32_i32_2388
  let v3184 : BitVec 32 := Scalar.remsi v3181 v3183
  let c0_i32_2392 : BitVec 32 := 0#32
  let v3186 : BitVec 1 := Scalar.cmpi .slt v3184 c0_i32_2392
  let c0_i32_2393 : BitVec 32 := 0#32
  let v3187 : BitVec 1 := Scalar.cmpi .slt v3183 c0_i32_2393
  let v3188 : BitVec 1 := Scalar.xori v3186 v3187
  let c0_i32_2391 : BitVec 32 := 0#32
  let v3185 : BitVec 1 := Scalar.cmpi .ne v3184 c0_i32_2391
  let v3189 : BitVec 1 := Scalar.andi v3188 v3185
  let v3190 : BitVec 32 := Scalar.addi v3184 v3183
  let v3191 : BitVec 32 := Scalar.select v3189 v3190 v3184
  let c1_i32_2398 : BitVec 32 := 1#32
  let v3192 : BitVec 32 := Scalar.muli v3191 c1_i32_2398
  let v3193 : BitVec 32 := Scalar.addi c0_i32_2399 v3192
  v3193.toNat
def k0_dev112 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2404 : BitVec 32 := 19#32
  let v3202 : BitVec 32 := Scalar.addi v2 c19_i32_2404
  let c32_i32_2405 : BitVec 32 := 32#32
  let c0_i32_2406 : BitVec 32 := 0#32
  let v3203 : BitVec 1 := Scalar.cmpi .eq c32_i32_2405 c0_i32_2406
  let c1_i32_2407 : BitVec 32 := 1#32
  let v3204 : BitVec 32 := Scalar.select v3203 c1_i32_2407 c32_i32_2405
  let v3205 : BitVec 32 := Scalar.remsi v3202 v3204
  let c0_i32_2409 : BitVec 32 := 0#32
  let v3207 : BitVec 1 := Scalar.cmpi .slt v3205 c0_i32_2409
  let c0_i32_2410 : BitVec 32 := 0#32
  let v3208 : BitVec 1 := Scalar.cmpi .slt v3204 c0_i32_2410
  let v3209 : BitVec 1 := Scalar.xori v3207 v3208
  let c0_i32_2408 : BitVec 32 := 0#32
  let v3206 : BitVec 1 := Scalar.cmpi .ne v3205 c0_i32_2408
  let v3210 : BitVec 1 := Scalar.andi v3209 v3206
  let v3211 : BitVec 32 := Scalar.addi v3205 v3204
  let v3212 : BitVec 32 := Scalar.select v3210 v3211 v3205
  let c1_i32_2415 : BitVec 32 := 1#32
  let v3213 : BitVec 32 := Scalar.muli v3212 c1_i32_2415
  let v3214 : BitVec 32 := Scalar.addi c0_i32_2416 v3213
  v3214.toNat
def k0_dev113 (d0 : Dev nD) : Nat :=
  let c0_i32_2433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2421 : BitVec 32 := 20#32
  let v3223 : BitVec 32 := Scalar.addi v2 c20_i32_2421
  let c32_i32_2422 : BitVec 32 := 32#32
  let c0_i32_2423 : BitVec 32 := 0#32
  let v3224 : BitVec 1 := Scalar.cmpi .eq c32_i32_2422 c0_i32_2423
  let c1_i32_2424 : BitVec 32 := 1#32
  let v3225 : BitVec 32 := Scalar.select v3224 c1_i32_2424 c32_i32_2422
  let v3226 : BitVec 32 := Scalar.remsi v3223 v3225
  let c0_i32_2426 : BitVec 32 := 0#32
  let v3228 : BitVec 1 := Scalar.cmpi .slt v3226 c0_i32_2426
  let c0_i32_2427 : BitVec 32 := 0#32
  let v3229 : BitVec 1 := Scalar.cmpi .slt v3225 c0_i32_2427
  let v3230 : BitVec 1 := Scalar.xori v3228 v3229
  let c0_i32_2425 : BitVec 32 := 0#32
  let v3227 : BitVec 1 := Scalar.cmpi .ne v3226 c0_i32_2425
  let v3231 : BitVec 1 := Scalar.andi v3230 v3227
  let v3232 : BitVec 32 := Scalar.addi v3226 v3225
  let v3233 : BitVec 32 := Scalar.select v3231 v3232 v3226
  let c1_i32_2432 : BitVec 32 := 1#32
  let v3234 : BitVec 32 := Scalar.muli v3233 c1_i32_2432
  let v3235 : BitVec 32 := Scalar.addi c0_i32_2433 v3234
  v3235.toNat
def k0_dev114 (d0 : Dev nD) : Nat :=
  let c0_i32_2450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2438 : BitVec 32 := 21#32
  let v3244 : BitVec 32 := Scalar.addi v2 c21_i32_2438
  let c32_i32_2439 : BitVec 32 := 32#32
  let c0_i32_2440 : BitVec 32 := 0#32
  let v3245 : BitVec 1 := Scalar.cmpi .eq c32_i32_2439 c0_i32_2440
  let c1_i32_2441 : BitVec 32 := 1#32
  let v3246 : BitVec 32 := Scalar.select v3245 c1_i32_2441 c32_i32_2439
  let v3247 : BitVec 32 := Scalar.remsi v3244 v3246
  let c0_i32_2443 : BitVec 32 := 0#32
  let v3249 : BitVec 1 := Scalar.cmpi .slt v3247 c0_i32_2443
  let c0_i32_2444 : BitVec 32 := 0#32
  let v3250 : BitVec 1 := Scalar.cmpi .slt v3246 c0_i32_2444
  let v3251 : BitVec 1 := Scalar.xori v3249 v3250
  let c0_i32_2442 : BitVec 32 := 0#32
  let v3248 : BitVec 1 := Scalar.cmpi .ne v3247 c0_i32_2442
  let v3252 : BitVec 1 := Scalar.andi v3251 v3248
  let v3253 : BitVec 32 := Scalar.addi v3247 v3246
  let v3254 : BitVec 32 := Scalar.select v3252 v3253 v3247
  let c1_i32_2449 : BitVec 32 := 1#32
  let v3255 : BitVec 32 := Scalar.muli v3254 c1_i32_2449
  let v3256 : BitVec 32 := Scalar.addi c0_i32_2450 v3255
  v3256.toNat
def k0_dev115 (d0 : Dev nD) : Nat :=
  let c0_i32_2467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2455 : BitVec 32 := 22#32
  let v3265 : BitVec 32 := Scalar.addi v2 c22_i32_2455
  let c32_i32_2456 : BitVec 32 := 32#32
  let c0_i32_2457 : BitVec 32 := 0#32
  let v3266 : BitVec 1 := Scalar.cmpi .eq c32_i32_2456 c0_i32_2457
  let c1_i32_2458 : BitVec 32 := 1#32
  let v3267 : BitVec 32 := Scalar.select v3266 c1_i32_2458 c32_i32_2456
  let v3268 : BitVec 32 := Scalar.remsi v3265 v3267
  let c0_i32_2460 : BitVec 32 := 0#32
  let v3270 : BitVec 1 := Scalar.cmpi .slt v3268 c0_i32_2460
  let c0_i32_2461 : BitVec 32 := 0#32
  let v3271 : BitVec 1 := Scalar.cmpi .slt v3267 c0_i32_2461
  let v3272 : BitVec 1 := Scalar.xori v3270 v3271
  let c0_i32_2459 : BitVec 32 := 0#32
  let v3269 : BitVec 1 := Scalar.cmpi .ne v3268 c0_i32_2459
  let v3273 : BitVec 1 := Scalar.andi v3272 v3269
  let v3274 : BitVec 32 := Scalar.addi v3268 v3267
  let v3275 : BitVec 32 := Scalar.select v3273 v3274 v3268
  let c1_i32_2466 : BitVec 32 := 1#32
  let v3276 : BitVec 32 := Scalar.muli v3275 c1_i32_2466
  let v3277 : BitVec 32 := Scalar.addi c0_i32_2467 v3276
  v3277.toNat
def k0_dev116 (d0 : Dev nD) : Nat :=
  let c0_i32_2484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2472 : BitVec 32 := 23#32
  let v3286 : BitVec 32 := Scalar.addi v2 c23_i32_2472
  let c32_i32_2473 : BitVec 32 := 32#32
  let c0_i32_2474 : BitVec 32 := 0#32
  let v3287 : BitVec 1 := Scalar.cmpi .eq c32_i32_2473 c0_i32_2474
  let c1_i32_2475 : BitVec 32 := 1#32
  let v3288 : BitVec 32 := Scalar.select v3287 c1_i32_2475 c32_i32_2473
  let v3289 : BitVec 32 := Scalar.remsi v3286 v3288
  let c0_i32_2477 : BitVec 32 := 0#32
  let v3291 : BitVec 1 := Scalar.cmpi .slt v3289 c0_i32_2477
  let c0_i32_2478 : BitVec 32 := 0#32
  let v3292 : BitVec 1 := Scalar.cmpi .slt v3288 c0_i32_2478
  let v3293 : BitVec 1 := Scalar.xori v3291 v3292
  let c0_i32_2476 : BitVec 32 := 0#32
  let v3290 : BitVec 1 := Scalar.cmpi .ne v3289 c0_i32_2476
  let v3294 : BitVec 1 := Scalar.andi v3293 v3290
  let v3295 : BitVec 32 := Scalar.addi v3289 v3288
  let v3296 : BitVec 32 := Scalar.select v3294 v3295 v3289
  let c1_i32_2483 : BitVec 32 := 1#32
  let v3297 : BitVec 32 := Scalar.muli v3296 c1_i32_2483
  let v3298 : BitVec 32 := Scalar.addi c0_i32_2484 v3297
  v3298.toNat
def k0_dev117 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2489 : BitVec 32 := 24#32
  let v3307 : BitVec 32 := Scalar.addi v2 c24_i32_2489
  let c32_i32_2490 : BitVec 32 := 32#32
  let c0_i32_2491 : BitVec 32 := 0#32
  let v3308 : BitVec 1 := Scalar.cmpi .eq c32_i32_2490 c0_i32_2491
  let c1_i32_2492 : BitVec 32 := 1#32
  let v3309 : BitVec 32 := Scalar.select v3308 c1_i32_2492 c32_i32_2490
  let v3310 : BitVec 32 := Scalar.remsi v3307 v3309
  let c0_i32_2494 : BitVec 32 := 0#32
  let v3312 : BitVec 1 := Scalar.cmpi .slt v3310 c0_i32_2494
  let c0_i32_2495 : BitVec 32 := 0#32
  let v3313 : BitVec 1 := Scalar.cmpi .slt v3309 c0_i32_2495
  let v3314 : BitVec 1 := Scalar.xori v3312 v3313
  let c0_i32_2493 : BitVec 32 := 0#32
  let v3311 : BitVec 1 := Scalar.cmpi .ne v3310 c0_i32_2493
  let v3315 : BitVec 1 := Scalar.andi v3314 v3311
  let v3316 : BitVec 32 := Scalar.addi v3310 v3309
  let v3317 : BitVec 32 := Scalar.select v3315 v3316 v3310
  let c1_i32_2500 : BitVec 32 := 1#32
  let v3318 : BitVec 32 := Scalar.muli v3317 c1_i32_2500
  let v3319 : BitVec 32 := Scalar.addi c0_i32_2501 v3318
  v3319.toNat
def k0_dev118 (d0 : Dev nD) : Nat :=
  let c0_i32_2518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2506 : BitVec 32 := 25#32
  let v3328 : BitVec 32 := Scalar.addi v2 c25_i32_2506
  let c32_i32_2507 : BitVec 32 := 32#32
  let c0_i32_2508 : BitVec 32 := 0#32
  let v3329 : BitVec 1 := Scalar.cmpi .eq c32_i32_2507 c0_i32_2508
  let c1_i32_2509 : BitVec 32 := 1#32
  let v3330 : BitVec 32 := Scalar.select v3329 c1_i32_2509 c32_i32_2507
  let v3331 : BitVec 32 := Scalar.remsi v3328 v3330
  let c0_i32_2511 : BitVec 32 := 0#32
  let v3333 : BitVec 1 := Scalar.cmpi .slt v3331 c0_i32_2511
  let c0_i32_2512 : BitVec 32 := 0#32
  let v3334 : BitVec 1 := Scalar.cmpi .slt v3330 c0_i32_2512
  let v3335 : BitVec 1 := Scalar.xori v3333 v3334
  let c0_i32_2510 : BitVec 32 := 0#32
  let v3332 : BitVec 1 := Scalar.cmpi .ne v3331 c0_i32_2510
  let v3336 : BitVec 1 := Scalar.andi v3335 v3332
  let v3337 : BitVec 32 := Scalar.addi v3331 v3330
  let v3338 : BitVec 32 := Scalar.select v3336 v3337 v3331
  let c1_i32_2517 : BitVec 32 := 1#32
  let v3339 : BitVec 32 := Scalar.muli v3338 c1_i32_2517
  let v3340 : BitVec 32 := Scalar.addi c0_i32_2518 v3339
  v3340.toNat
def k0_dev119 (d0 : Dev nD) : Nat :=
  let c0_i32_2535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2523 : BitVec 32 := 26#32
  let v3349 : BitVec 32 := Scalar.addi v2 c26_i32_2523
  let c32_i32_2524 : BitVec 32 := 32#32
  let c0_i32_2525 : BitVec 32 := 0#32
  let v3350 : BitVec 1 := Scalar.cmpi .eq c32_i32_2524 c0_i32_2525
  let c1_i32_2526 : BitVec 32 := 1#32
  let v3351 : BitVec 32 := Scalar.select v3350 c1_i32_2526 c32_i32_2524
  let v3352 : BitVec 32 := Scalar.remsi v3349 v3351
  let c0_i32_2528 : BitVec 32 := 0#32
  let v3354 : BitVec 1 := Scalar.cmpi .slt v3352 c0_i32_2528
  let c0_i32_2529 : BitVec 32 := 0#32
  let v3355 : BitVec 1 := Scalar.cmpi .slt v3351 c0_i32_2529
  let v3356 : BitVec 1 := Scalar.xori v3354 v3355
  let c0_i32_2527 : BitVec 32 := 0#32
  let v3353 : BitVec 1 := Scalar.cmpi .ne v3352 c0_i32_2527
  let v3357 : BitVec 1 := Scalar.andi v3356 v3353
  let v3358 : BitVec 32 := Scalar.addi v3352 v3351
  let v3359 : BitVec 32 := Scalar.select v3357 v3358 v3352
  let c1_i32_2534 : BitVec 32 := 1#32
  let v3360 : BitVec 32 := Scalar.muli v3359 c1_i32_2534
  let v3361 : BitVec 32 := Scalar.addi c0_i32_2535 v3360
  v3361.toNat
def k0_dev120 (d0 : Dev nD) : Nat :=
  let c0_i32_2552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2540 : BitVec 32 := 27#32
  let v3370 : BitVec 32 := Scalar.addi v2 c27_i32_2540
  let c32_i32_2541 : BitVec 32 := 32#32
  let c0_i32_2542 : BitVec 32 := 0#32
  let v3371 : BitVec 1 := Scalar.cmpi .eq c32_i32_2541 c0_i32_2542
  let c1_i32_2543 : BitVec 32 := 1#32
  let v3372 : BitVec 32 := Scalar.select v3371 c1_i32_2543 c32_i32_2541
  let v3373 : BitVec 32 := Scalar.remsi v3370 v3372
  let c0_i32_2545 : BitVec 32 := 0#32
  let v3375 : BitVec 1 := Scalar.cmpi .slt v3373 c0_i32_2545
  let c0_i32_2546 : BitVec 32 := 0#32
  let v3376 : BitVec 1 := Scalar.cmpi .slt v3372 c0_i32_2546
  let v3377 : BitVec 1 := Scalar.xori v3375 v3376
  let c0_i32_2544 : BitVec 32 := 0#32
  let v3374 : BitVec 1 := Scalar.cmpi .ne v3373 c0_i32_2544
  let v3378 : BitVec 1 := Scalar.andi v3377 v3374
  let v3379 : BitVec 32 := Scalar.addi v3373 v3372
  let v3380 : BitVec 32 := Scalar.select v3378 v3379 v3373
  let c1_i32_2551 : BitVec 32 := 1#32
  let v3381 : BitVec 32 := Scalar.muli v3380 c1_i32_2551
  let v3382 : BitVec 32 := Scalar.addi c0_i32_2552 v3381
  v3382.toNat
def k0_dev121 (d0 : Dev nD) : Nat :=
  let c0_i32_2569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2557 : BitVec 32 := 28#32
  let v3391 : BitVec 32 := Scalar.addi v2 c28_i32_2557
  let c32_i32_2558 : BitVec 32 := 32#32
  let c0_i32_2559 : BitVec 32 := 0#32
  let v3392 : BitVec 1 := Scalar.cmpi .eq c32_i32_2558 c0_i32_2559
  let c1_i32_2560 : BitVec 32 := 1#32
  let v3393 : BitVec 32 := Scalar.select v3392 c1_i32_2560 c32_i32_2558
  let v3394 : BitVec 32 := Scalar.remsi v3391 v3393
  let c0_i32_2562 : BitVec 32 := 0#32
  let v3396 : BitVec 1 := Scalar.cmpi .slt v3394 c0_i32_2562
  let c0_i32_2563 : BitVec 32 := 0#32
  let v3397 : BitVec 1 := Scalar.cmpi .slt v3393 c0_i32_2563
  let v3398 : BitVec 1 := Scalar.xori v3396 v3397
  let c0_i32_2561 : BitVec 32 := 0#32
  let v3395 : BitVec 1 := Scalar.cmpi .ne v3394 c0_i32_2561
  let v3399 : BitVec 1 := Scalar.andi v3398 v3395
  let v3400 : BitVec 32 := Scalar.addi v3394 v3393
  let v3401 : BitVec 32 := Scalar.select v3399 v3400 v3394
  let c1_i32_2568 : BitVec 32 := 1#32
  let v3402 : BitVec 32 := Scalar.muli v3401 c1_i32_2568
  let v3403 : BitVec 32 := Scalar.addi c0_i32_2569 v3402
  v3403.toNat
def k0_dev122 (d0 : Dev nD) : Nat :=
  let c0_i32_2586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2574 : BitVec 32 := 29#32
  let v3412 : BitVec 32 := Scalar.addi v2 c29_i32_2574
  let c32_i32_2575 : BitVec 32 := 32#32
  let c0_i32_2576 : BitVec 32 := 0#32
  let v3413 : BitVec 1 := Scalar.cmpi .eq c32_i32_2575 c0_i32_2576
  let c1_i32_2577 : BitVec 32 := 1#32
  let v3414 : BitVec 32 := Scalar.select v3413 c1_i32_2577 c32_i32_2575
  let v3415 : BitVec 32 := Scalar.remsi v3412 v3414
  let c0_i32_2579 : BitVec 32 := 0#32
  let v3417 : BitVec 1 := Scalar.cmpi .slt v3415 c0_i32_2579
  let c0_i32_2580 : BitVec 32 := 0#32
  let v3418 : BitVec 1 := Scalar.cmpi .slt v3414 c0_i32_2580
  let v3419 : BitVec 1 := Scalar.xori v3417 v3418
  let c0_i32_2578 : BitVec 32 := 0#32
  let v3416 : BitVec 1 := Scalar.cmpi .ne v3415 c0_i32_2578
  let v3420 : BitVec 1 := Scalar.andi v3419 v3416
  let v3421 : BitVec 32 := Scalar.addi v3415 v3414
  let v3422 : BitVec 32 := Scalar.select v3420 v3421 v3415
  let c1_i32_2585 : BitVec 32 := 1#32
  let v3423 : BitVec 32 := Scalar.muli v3422 c1_i32_2585
  let v3424 : BitVec 32 := Scalar.addi c0_i32_2586 v3423
  v3424.toNat
def k0_dev123 (d0 : Dev nD) : Nat :=
  let c0_i32_2603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2591 : BitVec 32 := 30#32
  let v3433 : BitVec 32 := Scalar.addi v2 c30_i32_2591
  let c32_i32_2592 : BitVec 32 := 32#32
  let c0_i32_2593 : BitVec 32 := 0#32
  let v3434 : BitVec 1 := Scalar.cmpi .eq c32_i32_2592 c0_i32_2593
  let c1_i32_2594 : BitVec 32 := 1#32
  let v3435 : BitVec 32 := Scalar.select v3434 c1_i32_2594 c32_i32_2592
  let v3436 : BitVec 32 := Scalar.remsi v3433 v3435
  let c0_i32_2596 : BitVec 32 := 0#32
  let v3438 : BitVec 1 := Scalar.cmpi .slt v3436 c0_i32_2596
  let c0_i32_2597 : BitVec 32 := 0#32
  let v3439 : BitVec 1 := Scalar.cmpi .slt v3435 c0_i32_2597
  let v3440 : BitVec 1 := Scalar.xori v3438 v3439
  let c0_i32_2595 : BitVec 32 := 0#32
  let v3437 : BitVec 1 := Scalar.cmpi .ne v3436 c0_i32_2595
  let v3441 : BitVec 1 := Scalar.andi v3440 v3437
  let v3442 : BitVec 32 := Scalar.addi v3436 v3435
  let v3443 : BitVec 32 := Scalar.select v3441 v3442 v3436
  let c1_i32_2602 : BitVec 32 := 1#32
  let v3444 : BitVec 32 := Scalar.muli v3443 c1_i32_2602
  let v3445 : BitVec 32 := Scalar.addi c0_i32_2603 v3444
  v3445.toNat
def k0_dev124 (d0 : Dev nD) : Nat :=
  let c0_i32_2620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2608 : BitVec 32 := 31#32
  let v3454 : BitVec 32 := Scalar.addi v2 c31_i32_2608
  let c32_i32_2609 : BitVec 32 := 32#32
  let c0_i32_2610 : BitVec 32 := 0#32
  let v3455 : BitVec 1 := Scalar.cmpi .eq c32_i32_2609 c0_i32_2610
  let c1_i32_2611 : BitVec 32 := 1#32
  let v3456 : BitVec 32 := Scalar.select v3455 c1_i32_2611 c32_i32_2609
  let v3457 : BitVec 32 := Scalar.remsi v3454 v3456
  let c0_i32_2613 : BitVec 32 := 0#32
  let v3459 : BitVec 1 := Scalar.cmpi .slt v3457 c0_i32_2613
  let c0_i32_2614 : BitVec 32 := 0#32
  let v3460 : BitVec 1 := Scalar.cmpi .slt v3456 c0_i32_2614
  let v3461 : BitVec 1 := Scalar.xori v3459 v3460
  let c0_i32_2612 : BitVec 32 := 0#32
  let v3458 : BitVec 1 := Scalar.cmpi .ne v3457 c0_i32_2612
  let v3462 : BitVec 1 := Scalar.andi v3461 v3458
  let v3463 : BitVec 32 := Scalar.addi v3457 v3456
  let v3464 : BitVec 32 := Scalar.select v3462 v3463 v3457
  let c1_i32_2619 : BitVec 32 := 1#32
  let v3465 : BitVec 32 := Scalar.muli v3464 c1_i32_2619
  let v3466 : BitVec 32 := Scalar.addi c0_i32_2620 v3465
  v3466.toNat
def k0_off9 (d0 : Dev nD) (c1_i32_2625 : BitVec 32) : Fin 2 → Nat :=
  let c1_i32_2632 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3475 : BitVec 32 := Scalar.subi v2 c1_i32_2625
  let c32_i32_2626 : BitVec 32 := 32#32
  let c0_i32_2627 : BitVec 32 := 0#32
  let v3476 : BitVec 1 := Scalar.cmpi .eq c32_i32_2626 c0_i32_2627
  let c1_i32_2628 : BitVec 32 := 1#32
  let v3477 : BitVec 32 := Scalar.select v3476 c1_i32_2628 c32_i32_2626
  let v3478 : BitVec 32 := Scalar.remsi v3475 v3477
  let c0_i32_2630 : BitVec 32 := 0#32
  let v3480 : BitVec 1 := Scalar.cmpi .slt v3478 c0_i32_2630
  let c0_i32_2631 : BitVec 32 := 0#32
  let v3481 : BitVec 1 := Scalar.cmpi .slt v3477 c0_i32_2631
  let v3482 : BitVec 1 := Scalar.xori v3480 v3481
  let c0_i32_2629 : BitVec 32 := 0#32
  let v3479 : BitVec 1 := Scalar.cmpi .ne v3478 c0_i32_2629
  let v3483 : BitVec 1 := Scalar.andi v3482 v3479
  let v3484 : BitVec 32 := Scalar.addi v3478 v3477
  let v3485 : BitVec 32 := Scalar.select v3483 v3484 v3478
  ![1, v3485.toNat]
def k0_off10 (d0 : Dev nD) (c1_i32_2625 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3475 : BitVec 32 := Scalar.subi v2 c1_i32_2625
  let c32_i32_2626 : BitVec 32 := 32#32
  let c0_i32_2627 : BitVec 32 := 0#32
  let v3476 : BitVec 1 := Scalar.cmpi .eq c32_i32_2626 c0_i32_2627
  let c1_i32_2628 : BitVec 32 := 1#32
  let v3477 : BitVec 32 := Scalar.select v3476 c1_i32_2628 c32_i32_2626
  let v3478 : BitVec 32 := Scalar.remsi v3475 v3477
  let c0_i32_2630 : BitVec 32 := 0#32
  let v3480 : BitVec 1 := Scalar.cmpi .slt v3478 c0_i32_2630
  let c0_i32_2631 : BitVec 32 := 0#32
  let v3481 : BitVec 1 := Scalar.cmpi .slt v3477 c0_i32_2631
  let v3482 : BitVec 1 := Scalar.xori v3480 v3481
  let c0_i32_2629 : BitVec 32 := 0#32
  let v3479 : BitVec 1 := Scalar.cmpi .ne v3478 c0_i32_2629
  let v3483 : BitVec 1 := Scalar.andi v3482 v3479
  let v3484 : BitVec 32 := Scalar.addi v3478 v3477
  let v3485 : BitVec 32 := Scalar.select v3483 v3484 v3478
  let c8_i32_2637 : BitVec 32 := 8#32
  let c0_i32_2638 : BitVec 32 := 0#32
  ![v3485.toNat, 8, 0]
def k0_dev125 (d0 : Dev nD) : Nat :=
  let c0_i32_3151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3139 : BitVec 32 := 1#32
  let v4083 : BitVec 32 := Scalar.addi v2 c1_i32_3139
  let c32_i32_3140 : BitVec 32 := 32#32
  let c0_i32_3141 : BitVec 32 := 0#32
  let v4084 : BitVec 1 := Scalar.cmpi .eq c32_i32_3140 c0_i32_3141
  let c1_i32_3142 : BitVec 32 := 1#32
  let v4085 : BitVec 32 := Scalar.select v4084 c1_i32_3142 c32_i32_3140
  let v4086 : BitVec 32 := Scalar.remsi v4083 v4085
  let c0_i32_3144 : BitVec 32 := 0#32
  let v4088 : BitVec 1 := Scalar.cmpi .slt v4086 c0_i32_3144
  let c0_i32_3145 : BitVec 32 := 0#32
  let v4089 : BitVec 1 := Scalar.cmpi .slt v4085 c0_i32_3145
  let v4090 : BitVec 1 := Scalar.xori v4088 v4089
  let c0_i32_3143 : BitVec 32 := 0#32
  let v4087 : BitVec 1 := Scalar.cmpi .ne v4086 c0_i32_3143
  let v4091 : BitVec 1 := Scalar.andi v4090 v4087
  let v4092 : BitVec 32 := Scalar.addi v4086 v4085
  let v4093 : BitVec 32 := Scalar.select v4091 v4092 v4086
  let c1_i32_3150 : BitVec 32 := 1#32
  let v4094 : BitVec 32 := Scalar.muli v4093 c1_i32_3150
  let v4095 : BitVec 32 := Scalar.addi c0_i32_3151 v4094
  v4095.toNat
def k0_dev126 (d0 : Dev nD) : Nat :=
  let c0_i32_3168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3156 : BitVec 32 := 2#32
  let v4104 : BitVec 32 := Scalar.addi v2 c2_i32_3156
  let c32_i32_3157 : BitVec 32 := 32#32
  let c0_i32_3158 : BitVec 32 := 0#32
  let v4105 : BitVec 1 := Scalar.cmpi .eq c32_i32_3157 c0_i32_3158
  let c1_i32_3159 : BitVec 32 := 1#32
  let v4106 : BitVec 32 := Scalar.select v4105 c1_i32_3159 c32_i32_3157
  let v4107 : BitVec 32 := Scalar.remsi v4104 v4106
  let c0_i32_3161 : BitVec 32 := 0#32
  let v4109 : BitVec 1 := Scalar.cmpi .slt v4107 c0_i32_3161
  let c0_i32_3162 : BitVec 32 := 0#32
  let v4110 : BitVec 1 := Scalar.cmpi .slt v4106 c0_i32_3162
  let v4111 : BitVec 1 := Scalar.xori v4109 v4110
  let c0_i32_3160 : BitVec 32 := 0#32
  let v4108 : BitVec 1 := Scalar.cmpi .ne v4107 c0_i32_3160
  let v4112 : BitVec 1 := Scalar.andi v4111 v4108
  let v4113 : BitVec 32 := Scalar.addi v4107 v4106
  let v4114 : BitVec 32 := Scalar.select v4112 v4113 v4107
  let c1_i32_3167 : BitVec 32 := 1#32
  let v4115 : BitVec 32 := Scalar.muli v4114 c1_i32_3167
  let v4116 : BitVec 32 := Scalar.addi c0_i32_3168 v4115
  v4116.toNat
def k0_dev127 (d0 : Dev nD) : Nat :=
  let c0_i32_3185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3173 : BitVec 32 := 3#32
  let v4125 : BitVec 32 := Scalar.addi v2 c3_i32_3173
  let c32_i32_3174 : BitVec 32 := 32#32
  let c0_i32_3175 : BitVec 32 := 0#32
  let v4126 : BitVec 1 := Scalar.cmpi .eq c32_i32_3174 c0_i32_3175
  let c1_i32_3176 : BitVec 32 := 1#32
  let v4127 : BitVec 32 := Scalar.select v4126 c1_i32_3176 c32_i32_3174
  let v4128 : BitVec 32 := Scalar.remsi v4125 v4127
  let c0_i32_3178 : BitVec 32 := 0#32
  let v4130 : BitVec 1 := Scalar.cmpi .slt v4128 c0_i32_3178
  let c0_i32_3179 : BitVec 32 := 0#32
  let v4131 : BitVec 1 := Scalar.cmpi .slt v4127 c0_i32_3179
  let v4132 : BitVec 1 := Scalar.xori v4130 v4131
  let c0_i32_3177 : BitVec 32 := 0#32
  let v4129 : BitVec 1 := Scalar.cmpi .ne v4128 c0_i32_3177
  let v4133 : BitVec 1 := Scalar.andi v4132 v4129
  let v4134 : BitVec 32 := Scalar.addi v4128 v4127
  let v4135 : BitVec 32 := Scalar.select v4133 v4134 v4128
  let c1_i32_3184 : BitVec 32 := 1#32
  let v4136 : BitVec 32 := Scalar.muli v4135 c1_i32_3184
  let v4137 : BitVec 32 := Scalar.addi c0_i32_3185 v4136
  v4137.toNat
def k0_dev128 (d0 : Dev nD) : Nat :=
  let c0_i32_3202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3190 : BitVec 32 := 4#32
  let v4146 : BitVec 32 := Scalar.addi v2 c4_i32_3190
  let c32_i32_3191 : BitVec 32 := 32#32
  let c0_i32_3192 : BitVec 32 := 0#32
  let v4147 : BitVec 1 := Scalar.cmpi .eq c32_i32_3191 c0_i32_3192
  let c1_i32_3193 : BitVec 32 := 1#32
  let v4148 : BitVec 32 := Scalar.select v4147 c1_i32_3193 c32_i32_3191
  let v4149 : BitVec 32 := Scalar.remsi v4146 v4148
  let c0_i32_3195 : BitVec 32 := 0#32
  let v4151 : BitVec 1 := Scalar.cmpi .slt v4149 c0_i32_3195
  let c0_i32_3196 : BitVec 32 := 0#32
  let v4152 : BitVec 1 := Scalar.cmpi .slt v4148 c0_i32_3196
  let v4153 : BitVec 1 := Scalar.xori v4151 v4152
  let c0_i32_3194 : BitVec 32 := 0#32
  let v4150 : BitVec 1 := Scalar.cmpi .ne v4149 c0_i32_3194
  let v4154 : BitVec 1 := Scalar.andi v4153 v4150
  let v4155 : BitVec 32 := Scalar.addi v4149 v4148
  let v4156 : BitVec 32 := Scalar.select v4154 v4155 v4149
  let c1_i32_3201 : BitVec 32 := 1#32
  let v4157 : BitVec 32 := Scalar.muli v4156 c1_i32_3201
  let v4158 : BitVec 32 := Scalar.addi c0_i32_3202 v4157
  v4158.toNat
def k0_dev129 (d0 : Dev nD) : Nat :=
  let c0_i32_3219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3207 : BitVec 32 := 5#32
  let v4167 : BitVec 32 := Scalar.addi v2 c5_i32_3207
  let c32_i32_3208 : BitVec 32 := 32#32
  let c0_i32_3209 : BitVec 32 := 0#32
  let v4168 : BitVec 1 := Scalar.cmpi .eq c32_i32_3208 c0_i32_3209
  let c1_i32_3210 : BitVec 32 := 1#32
  let v4169 : BitVec 32 := Scalar.select v4168 c1_i32_3210 c32_i32_3208
  let v4170 : BitVec 32 := Scalar.remsi v4167 v4169
  let c0_i32_3212 : BitVec 32 := 0#32
  let v4172 : BitVec 1 := Scalar.cmpi .slt v4170 c0_i32_3212
  let c0_i32_3213 : BitVec 32 := 0#32
  let v4173 : BitVec 1 := Scalar.cmpi .slt v4169 c0_i32_3213
  let v4174 : BitVec 1 := Scalar.xori v4172 v4173
  let c0_i32_3211 : BitVec 32 := 0#32
  let v4171 : BitVec 1 := Scalar.cmpi .ne v4170 c0_i32_3211
  let v4175 : BitVec 1 := Scalar.andi v4174 v4171
  let v4176 : BitVec 32 := Scalar.addi v4170 v4169
  let v4177 : BitVec 32 := Scalar.select v4175 v4176 v4170
  let c1_i32_3218 : BitVec 32 := 1#32
  let v4178 : BitVec 32 := Scalar.muli v4177 c1_i32_3218
  let v4179 : BitVec 32 := Scalar.addi c0_i32_3219 v4178
  v4179.toNat
def k0_dev130 (d0 : Dev nD) : Nat :=
  let c0_i32_3236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3224 : BitVec 32 := 6#32
  let v4188 : BitVec 32 := Scalar.addi v2 c6_i32_3224
  let c32_i32_3225 : BitVec 32 := 32#32
  let c0_i32_3226 : BitVec 32 := 0#32
  let v4189 : BitVec 1 := Scalar.cmpi .eq c32_i32_3225 c0_i32_3226
  let c1_i32_3227 : BitVec 32 := 1#32
  let v4190 : BitVec 32 := Scalar.select v4189 c1_i32_3227 c32_i32_3225
  let v4191 : BitVec 32 := Scalar.remsi v4188 v4190
  let c0_i32_3229 : BitVec 32 := 0#32
  let v4193 : BitVec 1 := Scalar.cmpi .slt v4191 c0_i32_3229
  let c0_i32_3230 : BitVec 32 := 0#32
  let v4194 : BitVec 1 := Scalar.cmpi .slt v4190 c0_i32_3230
  let v4195 : BitVec 1 := Scalar.xori v4193 v4194
  let c0_i32_3228 : BitVec 32 := 0#32
  let v4192 : BitVec 1 := Scalar.cmpi .ne v4191 c0_i32_3228
  let v4196 : BitVec 1 := Scalar.andi v4195 v4192
  let v4197 : BitVec 32 := Scalar.addi v4191 v4190
  let v4198 : BitVec 32 := Scalar.select v4196 v4197 v4191
  let c1_i32_3235 : BitVec 32 := 1#32
  let v4199 : BitVec 32 := Scalar.muli v4198 c1_i32_3235
  let v4200 : BitVec 32 := Scalar.addi c0_i32_3236 v4199
  v4200.toNat
def k0_dev131 (d0 : Dev nD) : Nat :=
  let c0_i32_3253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3241 : BitVec 32 := 7#32
  let v4209 : BitVec 32 := Scalar.addi v2 c7_i32_3241
  let c32_i32_3242 : BitVec 32 := 32#32
  let c0_i32_3243 : BitVec 32 := 0#32
  let v4210 : BitVec 1 := Scalar.cmpi .eq c32_i32_3242 c0_i32_3243
  let c1_i32_3244 : BitVec 32 := 1#32
  let v4211 : BitVec 32 := Scalar.select v4210 c1_i32_3244 c32_i32_3242
  let v4212 : BitVec 32 := Scalar.remsi v4209 v4211
  let c0_i32_3246 : BitVec 32 := 0#32
  let v4214 : BitVec 1 := Scalar.cmpi .slt v4212 c0_i32_3246
  let c0_i32_3247 : BitVec 32 := 0#32
  let v4215 : BitVec 1 := Scalar.cmpi .slt v4211 c0_i32_3247
  let v4216 : BitVec 1 := Scalar.xori v4214 v4215
  let c0_i32_3245 : BitVec 32 := 0#32
  let v4213 : BitVec 1 := Scalar.cmpi .ne v4212 c0_i32_3245
  let v4217 : BitVec 1 := Scalar.andi v4216 v4213
  let v4218 : BitVec 32 := Scalar.addi v4212 v4211
  let v4219 : BitVec 32 := Scalar.select v4217 v4218 v4212
  let c1_i32_3252 : BitVec 32 := 1#32
  let v4220 : BitVec 32 := Scalar.muli v4219 c1_i32_3252
  let v4221 : BitVec 32 := Scalar.addi c0_i32_3253 v4220
  v4221.toNat
def k0_dev132 (d0 : Dev nD) : Nat :=
  let c0_i32_3270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3258 : BitVec 32 := 8#32
  let v4230 : BitVec 32 := Scalar.addi v2 c8_i32_3258
  let c32_i32_3259 : BitVec 32 := 32#32
  let c0_i32_3260 : BitVec 32 := 0#32
  let v4231 : BitVec 1 := Scalar.cmpi .eq c32_i32_3259 c0_i32_3260
  let c1_i32_3261 : BitVec 32 := 1#32
  let v4232 : BitVec 32 := Scalar.select v4231 c1_i32_3261 c32_i32_3259
  let v4233 : BitVec 32 := Scalar.remsi v4230 v4232
  let c0_i32_3263 : BitVec 32 := 0#32
  let v4235 : BitVec 1 := Scalar.cmpi .slt v4233 c0_i32_3263
  let c0_i32_3264 : BitVec 32 := 0#32
  let v4236 : BitVec 1 := Scalar.cmpi .slt v4232 c0_i32_3264
  let v4237 : BitVec 1 := Scalar.xori v4235 v4236
  let c0_i32_3262 : BitVec 32 := 0#32
  let v4234 : BitVec 1 := Scalar.cmpi .ne v4233 c0_i32_3262
  let v4238 : BitVec 1 := Scalar.andi v4237 v4234
  let v4239 : BitVec 32 := Scalar.addi v4233 v4232
  let v4240 : BitVec 32 := Scalar.select v4238 v4239 v4233
  let c1_i32_3269 : BitVec 32 := 1#32
  let v4241 : BitVec 32 := Scalar.muli v4240 c1_i32_3269
  let v4242 : BitVec 32 := Scalar.addi c0_i32_3270 v4241
  v4242.toNat
def k0_dev133 (d0 : Dev nD) : Nat :=
  let c0_i32_3287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3275 : BitVec 32 := 9#32
  let v4251 : BitVec 32 := Scalar.addi v2 c9_i32_3275
  let c32_i32_3276 : BitVec 32 := 32#32
  let c0_i32_3277 : BitVec 32 := 0#32
  let v4252 : BitVec 1 := Scalar.cmpi .eq c32_i32_3276 c0_i32_3277
  let c1_i32_3278 : BitVec 32 := 1#32
  let v4253 : BitVec 32 := Scalar.select v4252 c1_i32_3278 c32_i32_3276
  let v4254 : BitVec 32 := Scalar.remsi v4251 v4253
  let c0_i32_3280 : BitVec 32 := 0#32
  let v4256 : BitVec 1 := Scalar.cmpi .slt v4254 c0_i32_3280
  let c0_i32_3281 : BitVec 32 := 0#32
  let v4257 : BitVec 1 := Scalar.cmpi .slt v4253 c0_i32_3281
  let v4258 : BitVec 1 := Scalar.xori v4256 v4257
  let c0_i32_3279 : BitVec 32 := 0#32
  let v4255 : BitVec 1 := Scalar.cmpi .ne v4254 c0_i32_3279
  let v4259 : BitVec 1 := Scalar.andi v4258 v4255
  let v4260 : BitVec 32 := Scalar.addi v4254 v4253
  let v4261 : BitVec 32 := Scalar.select v4259 v4260 v4254
  let c1_i32_3286 : BitVec 32 := 1#32
  let v4262 : BitVec 32 := Scalar.muli v4261 c1_i32_3286
  let v4263 : BitVec 32 := Scalar.addi c0_i32_3287 v4262
  v4263.toNat
def k0_dev134 (d0 : Dev nD) : Nat :=
  let c0_i32_3304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3292 : BitVec 32 := 10#32
  let v4272 : BitVec 32 := Scalar.addi v2 c10_i32_3292
  let c32_i32_3293 : BitVec 32 := 32#32
  let c0_i32_3294 : BitVec 32 := 0#32
  let v4273 : BitVec 1 := Scalar.cmpi .eq c32_i32_3293 c0_i32_3294
  let c1_i32_3295 : BitVec 32 := 1#32
  let v4274 : BitVec 32 := Scalar.select v4273 c1_i32_3295 c32_i32_3293
  let v4275 : BitVec 32 := Scalar.remsi v4272 v4274
  let c0_i32_3297 : BitVec 32 := 0#32
  let v4277 : BitVec 1 := Scalar.cmpi .slt v4275 c0_i32_3297
  let c0_i32_3298 : BitVec 32 := 0#32
  let v4278 : BitVec 1 := Scalar.cmpi .slt v4274 c0_i32_3298
  let v4279 : BitVec 1 := Scalar.xori v4277 v4278
  let c0_i32_3296 : BitVec 32 := 0#32
  let v4276 : BitVec 1 := Scalar.cmpi .ne v4275 c0_i32_3296
  let v4280 : BitVec 1 := Scalar.andi v4279 v4276
  let v4281 : BitVec 32 := Scalar.addi v4275 v4274
  let v4282 : BitVec 32 := Scalar.select v4280 v4281 v4275
  let c1_i32_3303 : BitVec 32 := 1#32
  let v4283 : BitVec 32 := Scalar.muli v4282 c1_i32_3303
  let v4284 : BitVec 32 := Scalar.addi c0_i32_3304 v4283
  v4284.toNat
def k0_dev135 (d0 : Dev nD) : Nat :=
  let c0_i32_3321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3309 : BitVec 32 := 11#32
  let v4293 : BitVec 32 := Scalar.addi v2 c11_i32_3309
  let c32_i32_3310 : BitVec 32 := 32#32
  let c0_i32_3311 : BitVec 32 := 0#32
  let v4294 : BitVec 1 := Scalar.cmpi .eq c32_i32_3310 c0_i32_3311
  let c1_i32_3312 : BitVec 32 := 1#32
  let v4295 : BitVec 32 := Scalar.select v4294 c1_i32_3312 c32_i32_3310
  let v4296 : BitVec 32 := Scalar.remsi v4293 v4295
  let c0_i32_3314 : BitVec 32 := 0#32
  let v4298 : BitVec 1 := Scalar.cmpi .slt v4296 c0_i32_3314
  let c0_i32_3315 : BitVec 32 := 0#32
  let v4299 : BitVec 1 := Scalar.cmpi .slt v4295 c0_i32_3315
  let v4300 : BitVec 1 := Scalar.xori v4298 v4299
  let c0_i32_3313 : BitVec 32 := 0#32
  let v4297 : BitVec 1 := Scalar.cmpi .ne v4296 c0_i32_3313
  let v4301 : BitVec 1 := Scalar.andi v4300 v4297
  let v4302 : BitVec 32 := Scalar.addi v4296 v4295
  let v4303 : BitVec 32 := Scalar.select v4301 v4302 v4296
  let c1_i32_3320 : BitVec 32 := 1#32
  let v4304 : BitVec 32 := Scalar.muli v4303 c1_i32_3320
  let v4305 : BitVec 32 := Scalar.addi c0_i32_3321 v4304
  v4305.toNat
def k0_dev136 (d0 : Dev nD) : Nat :=
  let c0_i32_3338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3326 : BitVec 32 := 12#32
  let v4314 : BitVec 32 := Scalar.addi v2 c12_i32_3326
  let c32_i32_3327 : BitVec 32 := 32#32
  let c0_i32_3328 : BitVec 32 := 0#32
  let v4315 : BitVec 1 := Scalar.cmpi .eq c32_i32_3327 c0_i32_3328
  let c1_i32_3329 : BitVec 32 := 1#32
  let v4316 : BitVec 32 := Scalar.select v4315 c1_i32_3329 c32_i32_3327
  let v4317 : BitVec 32 := Scalar.remsi v4314 v4316
  let c0_i32_3331 : BitVec 32 := 0#32
  let v4319 : BitVec 1 := Scalar.cmpi .slt v4317 c0_i32_3331
  let c0_i32_3332 : BitVec 32 := 0#32
  let v4320 : BitVec 1 := Scalar.cmpi .slt v4316 c0_i32_3332
  let v4321 : BitVec 1 := Scalar.xori v4319 v4320
  let c0_i32_3330 : BitVec 32 := 0#32
  let v4318 : BitVec 1 := Scalar.cmpi .ne v4317 c0_i32_3330
  let v4322 : BitVec 1 := Scalar.andi v4321 v4318
  let v4323 : BitVec 32 := Scalar.addi v4317 v4316
  let v4324 : BitVec 32 := Scalar.select v4322 v4323 v4317
  let c1_i32_3337 : BitVec 32 := 1#32
  let v4325 : BitVec 32 := Scalar.muli v4324 c1_i32_3337
  let v4326 : BitVec 32 := Scalar.addi c0_i32_3338 v4325
  v4326.toNat
def k0_dev137 (d0 : Dev nD) : Nat :=
  let c0_i32_3355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3343 : BitVec 32 := 13#32
  let v4335 : BitVec 32 := Scalar.addi v2 c13_i32_3343
  let c32_i32_3344 : BitVec 32 := 32#32
  let c0_i32_3345 : BitVec 32 := 0#32
  let v4336 : BitVec 1 := Scalar.cmpi .eq c32_i32_3344 c0_i32_3345
  let c1_i32_3346 : BitVec 32 := 1#32
  let v4337 : BitVec 32 := Scalar.select v4336 c1_i32_3346 c32_i32_3344
  let v4338 : BitVec 32 := Scalar.remsi v4335 v4337
  let c0_i32_3348 : BitVec 32 := 0#32
  let v4340 : BitVec 1 := Scalar.cmpi .slt v4338 c0_i32_3348
  let c0_i32_3349 : BitVec 32 := 0#32
  let v4341 : BitVec 1 := Scalar.cmpi .slt v4337 c0_i32_3349
  let v4342 : BitVec 1 := Scalar.xori v4340 v4341
  let c0_i32_3347 : BitVec 32 := 0#32
  let v4339 : BitVec 1 := Scalar.cmpi .ne v4338 c0_i32_3347
  let v4343 : BitVec 1 := Scalar.andi v4342 v4339
  let v4344 : BitVec 32 := Scalar.addi v4338 v4337
  let v4345 : BitVec 32 := Scalar.select v4343 v4344 v4338
  let c1_i32_3354 : BitVec 32 := 1#32
  let v4346 : BitVec 32 := Scalar.muli v4345 c1_i32_3354
  let v4347 : BitVec 32 := Scalar.addi c0_i32_3355 v4346
  v4347.toNat
def k0_dev138 (d0 : Dev nD) : Nat :=
  let c0_i32_3372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3360 : BitVec 32 := 14#32
  let v4356 : BitVec 32 := Scalar.addi v2 c14_i32_3360
  let c32_i32_3361 : BitVec 32 := 32#32
  let c0_i32_3362 : BitVec 32 := 0#32
  let v4357 : BitVec 1 := Scalar.cmpi .eq c32_i32_3361 c0_i32_3362
  let c1_i32_3363 : BitVec 32 := 1#32
  let v4358 : BitVec 32 := Scalar.select v4357 c1_i32_3363 c32_i32_3361
  let v4359 : BitVec 32 := Scalar.remsi v4356 v4358
  let c0_i32_3365 : BitVec 32 := 0#32
  let v4361 : BitVec 1 := Scalar.cmpi .slt v4359 c0_i32_3365
  let c0_i32_3366 : BitVec 32 := 0#32
  let v4362 : BitVec 1 := Scalar.cmpi .slt v4358 c0_i32_3366
  let v4363 : BitVec 1 := Scalar.xori v4361 v4362
  let c0_i32_3364 : BitVec 32 := 0#32
  let v4360 : BitVec 1 := Scalar.cmpi .ne v4359 c0_i32_3364
  let v4364 : BitVec 1 := Scalar.andi v4363 v4360
  let v4365 : BitVec 32 := Scalar.addi v4359 v4358
  let v4366 : BitVec 32 := Scalar.select v4364 v4365 v4359
  let c1_i32_3371 : BitVec 32 := 1#32
  let v4367 : BitVec 32 := Scalar.muli v4366 c1_i32_3371
  let v4368 : BitVec 32 := Scalar.addi c0_i32_3372 v4367
  v4368.toNat
def k0_dev139 (d0 : Dev nD) : Nat :=
  let c0_i32_3389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3377 : BitVec 32 := 15#32
  let v4377 : BitVec 32 := Scalar.addi v2 c15_i32_3377
  let c32_i32_3378 : BitVec 32 := 32#32
  let c0_i32_3379 : BitVec 32 := 0#32
  let v4378 : BitVec 1 := Scalar.cmpi .eq c32_i32_3378 c0_i32_3379
  let c1_i32_3380 : BitVec 32 := 1#32
  let v4379 : BitVec 32 := Scalar.select v4378 c1_i32_3380 c32_i32_3378
  let v4380 : BitVec 32 := Scalar.remsi v4377 v4379
  let c0_i32_3382 : BitVec 32 := 0#32
  let v4382 : BitVec 1 := Scalar.cmpi .slt v4380 c0_i32_3382
  let c0_i32_3383 : BitVec 32 := 0#32
  let v4383 : BitVec 1 := Scalar.cmpi .slt v4379 c0_i32_3383
  let v4384 : BitVec 1 := Scalar.xori v4382 v4383
  let c0_i32_3381 : BitVec 32 := 0#32
  let v4381 : BitVec 1 := Scalar.cmpi .ne v4380 c0_i32_3381
  let v4385 : BitVec 1 := Scalar.andi v4384 v4381
  let v4386 : BitVec 32 := Scalar.addi v4380 v4379
  let v4387 : BitVec 32 := Scalar.select v4385 v4386 v4380
  let c1_i32_3388 : BitVec 32 := 1#32
  let v4388 : BitVec 32 := Scalar.muli v4387 c1_i32_3388
  let v4389 : BitVec 32 := Scalar.addi c0_i32_3389 v4388
  v4389.toNat
def k0_dev140 (d0 : Dev nD) : Nat :=
  let c0_i32_3406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3394 : BitVec 32 := 16#32
  let v4398 : BitVec 32 := Scalar.addi v2 c16_i32_3394
  let c32_i32_3395 : BitVec 32 := 32#32
  let c0_i32_3396 : BitVec 32 := 0#32
  let v4399 : BitVec 1 := Scalar.cmpi .eq c32_i32_3395 c0_i32_3396
  let c1_i32_3397 : BitVec 32 := 1#32
  let v4400 : BitVec 32 := Scalar.select v4399 c1_i32_3397 c32_i32_3395
  let v4401 : BitVec 32 := Scalar.remsi v4398 v4400
  let c0_i32_3399 : BitVec 32 := 0#32
  let v4403 : BitVec 1 := Scalar.cmpi .slt v4401 c0_i32_3399
  let c0_i32_3400 : BitVec 32 := 0#32
  let v4404 : BitVec 1 := Scalar.cmpi .slt v4400 c0_i32_3400
  let v4405 : BitVec 1 := Scalar.xori v4403 v4404
  let c0_i32_3398 : BitVec 32 := 0#32
  let v4402 : BitVec 1 := Scalar.cmpi .ne v4401 c0_i32_3398
  let v4406 : BitVec 1 := Scalar.andi v4405 v4402
  let v4407 : BitVec 32 := Scalar.addi v4401 v4400
  let v4408 : BitVec 32 := Scalar.select v4406 v4407 v4401
  let c1_i32_3405 : BitVec 32 := 1#32
  let v4409 : BitVec 32 := Scalar.muli v4408 c1_i32_3405
  let v4410 : BitVec 32 := Scalar.addi c0_i32_3406 v4409
  v4410.toNat
def k0_dev141 (d0 : Dev nD) : Nat :=
  let c0_i32_3423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3411 : BitVec 32 := 17#32
  let v4419 : BitVec 32 := Scalar.addi v2 c17_i32_3411
  let c32_i32_3412 : BitVec 32 := 32#32
  let c0_i32_3413 : BitVec 32 := 0#32
  let v4420 : BitVec 1 := Scalar.cmpi .eq c32_i32_3412 c0_i32_3413
  let c1_i32_3414 : BitVec 32 := 1#32
  let v4421 : BitVec 32 := Scalar.select v4420 c1_i32_3414 c32_i32_3412
  let v4422 : BitVec 32 := Scalar.remsi v4419 v4421
  let c0_i32_3416 : BitVec 32 := 0#32
  let v4424 : BitVec 1 := Scalar.cmpi .slt v4422 c0_i32_3416
  let c0_i32_3417 : BitVec 32 := 0#32
  let v4425 : BitVec 1 := Scalar.cmpi .slt v4421 c0_i32_3417
  let v4426 : BitVec 1 := Scalar.xori v4424 v4425
  let c0_i32_3415 : BitVec 32 := 0#32
  let v4423 : BitVec 1 := Scalar.cmpi .ne v4422 c0_i32_3415
  let v4427 : BitVec 1 := Scalar.andi v4426 v4423
  let v4428 : BitVec 32 := Scalar.addi v4422 v4421
  let v4429 : BitVec 32 := Scalar.select v4427 v4428 v4422
  let c1_i32_3422 : BitVec 32 := 1#32
  let v4430 : BitVec 32 := Scalar.muli v4429 c1_i32_3422
  let v4431 : BitVec 32 := Scalar.addi c0_i32_3423 v4430
  v4431.toNat
def k0_dev142 (d0 : Dev nD) : Nat :=
  let c0_i32_3440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3428 : BitVec 32 := 18#32
  let v4440 : BitVec 32 := Scalar.addi v2 c18_i32_3428
  let c32_i32_3429 : BitVec 32 := 32#32
  let c0_i32_3430 : BitVec 32 := 0#32
  let v4441 : BitVec 1 := Scalar.cmpi .eq c32_i32_3429 c0_i32_3430
  let c1_i32_3431 : BitVec 32 := 1#32
  let v4442 : BitVec 32 := Scalar.select v4441 c1_i32_3431 c32_i32_3429
  let v4443 : BitVec 32 := Scalar.remsi v4440 v4442
  let c0_i32_3433 : BitVec 32 := 0#32
  let v4445 : BitVec 1 := Scalar.cmpi .slt v4443 c0_i32_3433
  let c0_i32_3434 : BitVec 32 := 0#32
  let v4446 : BitVec 1 := Scalar.cmpi .slt v4442 c0_i32_3434
  let v4447 : BitVec 1 := Scalar.xori v4445 v4446
  let c0_i32_3432 : BitVec 32 := 0#32
  let v4444 : BitVec 1 := Scalar.cmpi .ne v4443 c0_i32_3432
  let v4448 : BitVec 1 := Scalar.andi v4447 v4444
  let v4449 : BitVec 32 := Scalar.addi v4443 v4442
  let v4450 : BitVec 32 := Scalar.select v4448 v4449 v4443
  let c1_i32_3439 : BitVec 32 := 1#32
  let v4451 : BitVec 32 := Scalar.muli v4450 c1_i32_3439
  let v4452 : BitVec 32 := Scalar.addi c0_i32_3440 v4451
  v4452.toNat
def k0_dev143 (d0 : Dev nD) : Nat :=
  let c0_i32_3457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3445 : BitVec 32 := 19#32
  let v4461 : BitVec 32 := Scalar.addi v2 c19_i32_3445
  let c32_i32_3446 : BitVec 32 := 32#32
  let c0_i32_3447 : BitVec 32 := 0#32
  let v4462 : BitVec 1 := Scalar.cmpi .eq c32_i32_3446 c0_i32_3447
  let c1_i32_3448 : BitVec 32 := 1#32
  let v4463 : BitVec 32 := Scalar.select v4462 c1_i32_3448 c32_i32_3446
  let v4464 : BitVec 32 := Scalar.remsi v4461 v4463
  let c0_i32_3450 : BitVec 32 := 0#32
  let v4466 : BitVec 1 := Scalar.cmpi .slt v4464 c0_i32_3450
  let c0_i32_3451 : BitVec 32 := 0#32
  let v4467 : BitVec 1 := Scalar.cmpi .slt v4463 c0_i32_3451
  let v4468 : BitVec 1 := Scalar.xori v4466 v4467
  let c0_i32_3449 : BitVec 32 := 0#32
  let v4465 : BitVec 1 := Scalar.cmpi .ne v4464 c0_i32_3449
  let v4469 : BitVec 1 := Scalar.andi v4468 v4465
  let v4470 : BitVec 32 := Scalar.addi v4464 v4463
  let v4471 : BitVec 32 := Scalar.select v4469 v4470 v4464
  let c1_i32_3456 : BitVec 32 := 1#32
  let v4472 : BitVec 32 := Scalar.muli v4471 c1_i32_3456
  let v4473 : BitVec 32 := Scalar.addi c0_i32_3457 v4472
  v4473.toNat
def k0_dev144 (d0 : Dev nD) : Nat :=
  let c0_i32_3474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3462 : BitVec 32 := 20#32
  let v4482 : BitVec 32 := Scalar.addi v2 c20_i32_3462
  let c32_i32_3463 : BitVec 32 := 32#32
  let c0_i32_3464 : BitVec 32 := 0#32
  let v4483 : BitVec 1 := Scalar.cmpi .eq c32_i32_3463 c0_i32_3464
  let c1_i32_3465 : BitVec 32 := 1#32
  let v4484 : BitVec 32 := Scalar.select v4483 c1_i32_3465 c32_i32_3463
  let v4485 : BitVec 32 := Scalar.remsi v4482 v4484
  let c0_i32_3467 : BitVec 32 := 0#32
  let v4487 : BitVec 1 := Scalar.cmpi .slt v4485 c0_i32_3467
  let c0_i32_3468 : BitVec 32 := 0#32
  let v4488 : BitVec 1 := Scalar.cmpi .slt v4484 c0_i32_3468
  let v4489 : BitVec 1 := Scalar.xori v4487 v4488
  let c0_i32_3466 : BitVec 32 := 0#32
  let v4486 : BitVec 1 := Scalar.cmpi .ne v4485 c0_i32_3466
  let v4490 : BitVec 1 := Scalar.andi v4489 v4486
  let v4491 : BitVec 32 := Scalar.addi v4485 v4484
  let v4492 : BitVec 32 := Scalar.select v4490 v4491 v4485
  let c1_i32_3473 : BitVec 32 := 1#32
  let v4493 : BitVec 32 := Scalar.muli v4492 c1_i32_3473
  let v4494 : BitVec 32 := Scalar.addi c0_i32_3474 v4493
  v4494.toNat
def k0_dev145 (d0 : Dev nD) : Nat :=
  let c0_i32_3491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3479 : BitVec 32 := 21#32
  let v4503 : BitVec 32 := Scalar.addi v2 c21_i32_3479
  let c32_i32_3480 : BitVec 32 := 32#32
  let c0_i32_3481 : BitVec 32 := 0#32
  let v4504 : BitVec 1 := Scalar.cmpi .eq c32_i32_3480 c0_i32_3481
  let c1_i32_3482 : BitVec 32 := 1#32
  let v4505 : BitVec 32 := Scalar.select v4504 c1_i32_3482 c32_i32_3480
  let v4506 : BitVec 32 := Scalar.remsi v4503 v4505
  let c0_i32_3484 : BitVec 32 := 0#32
  let v4508 : BitVec 1 := Scalar.cmpi .slt v4506 c0_i32_3484
  let c0_i32_3485 : BitVec 32 := 0#32
  let v4509 : BitVec 1 := Scalar.cmpi .slt v4505 c0_i32_3485
  let v4510 : BitVec 1 := Scalar.xori v4508 v4509
  let c0_i32_3483 : BitVec 32 := 0#32
  let v4507 : BitVec 1 := Scalar.cmpi .ne v4506 c0_i32_3483
  let v4511 : BitVec 1 := Scalar.andi v4510 v4507
  let v4512 : BitVec 32 := Scalar.addi v4506 v4505
  let v4513 : BitVec 32 := Scalar.select v4511 v4512 v4506
  let c1_i32_3490 : BitVec 32 := 1#32
  let v4514 : BitVec 32 := Scalar.muli v4513 c1_i32_3490
  let v4515 : BitVec 32 := Scalar.addi c0_i32_3491 v4514
  v4515.toNat
def k0_dev146 (d0 : Dev nD) : Nat :=
  let c0_i32_3508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3496 : BitVec 32 := 22#32
  let v4524 : BitVec 32 := Scalar.addi v2 c22_i32_3496
  let c32_i32_3497 : BitVec 32 := 32#32
  let c0_i32_3498 : BitVec 32 := 0#32
  let v4525 : BitVec 1 := Scalar.cmpi .eq c32_i32_3497 c0_i32_3498
  let c1_i32_3499 : BitVec 32 := 1#32
  let v4526 : BitVec 32 := Scalar.select v4525 c1_i32_3499 c32_i32_3497
  let v4527 : BitVec 32 := Scalar.remsi v4524 v4526
  let c0_i32_3501 : BitVec 32 := 0#32
  let v4529 : BitVec 1 := Scalar.cmpi .slt v4527 c0_i32_3501
  let c0_i32_3502 : BitVec 32 := 0#32
  let v4530 : BitVec 1 := Scalar.cmpi .slt v4526 c0_i32_3502
  let v4531 : BitVec 1 := Scalar.xori v4529 v4530
  let c0_i32_3500 : BitVec 32 := 0#32
  let v4528 : BitVec 1 := Scalar.cmpi .ne v4527 c0_i32_3500
  let v4532 : BitVec 1 := Scalar.andi v4531 v4528
  let v4533 : BitVec 32 := Scalar.addi v4527 v4526
  let v4534 : BitVec 32 := Scalar.select v4532 v4533 v4527
  let c1_i32_3507 : BitVec 32 := 1#32
  let v4535 : BitVec 32 := Scalar.muli v4534 c1_i32_3507
  let v4536 : BitVec 32 := Scalar.addi c0_i32_3508 v4535
  v4536.toNat
def k0_dev147 (d0 : Dev nD) : Nat :=
  let c0_i32_3525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3513 : BitVec 32 := 23#32
  let v4545 : BitVec 32 := Scalar.addi v2 c23_i32_3513
  let c32_i32_3514 : BitVec 32 := 32#32
  let c0_i32_3515 : BitVec 32 := 0#32
  let v4546 : BitVec 1 := Scalar.cmpi .eq c32_i32_3514 c0_i32_3515
  let c1_i32_3516 : BitVec 32 := 1#32
  let v4547 : BitVec 32 := Scalar.select v4546 c1_i32_3516 c32_i32_3514
  let v4548 : BitVec 32 := Scalar.remsi v4545 v4547
  let c0_i32_3518 : BitVec 32 := 0#32
  let v4550 : BitVec 1 := Scalar.cmpi .slt v4548 c0_i32_3518
  let c0_i32_3519 : BitVec 32 := 0#32
  let v4551 : BitVec 1 := Scalar.cmpi .slt v4547 c0_i32_3519
  let v4552 : BitVec 1 := Scalar.xori v4550 v4551
  let c0_i32_3517 : BitVec 32 := 0#32
  let v4549 : BitVec 1 := Scalar.cmpi .ne v4548 c0_i32_3517
  let v4553 : BitVec 1 := Scalar.andi v4552 v4549
  let v4554 : BitVec 32 := Scalar.addi v4548 v4547
  let v4555 : BitVec 32 := Scalar.select v4553 v4554 v4548
  let c1_i32_3524 : BitVec 32 := 1#32
  let v4556 : BitVec 32 := Scalar.muli v4555 c1_i32_3524
  let v4557 : BitVec 32 := Scalar.addi c0_i32_3525 v4556
  v4557.toNat
def k0_dev148 (d0 : Dev nD) : Nat :=
  let c0_i32_3542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3530 : BitVec 32 := 24#32
  let v4566 : BitVec 32 := Scalar.addi v2 c24_i32_3530
  let c32_i32_3531 : BitVec 32 := 32#32
  let c0_i32_3532 : BitVec 32 := 0#32
  let v4567 : BitVec 1 := Scalar.cmpi .eq c32_i32_3531 c0_i32_3532
  let c1_i32_3533 : BitVec 32 := 1#32
  let v4568 : BitVec 32 := Scalar.select v4567 c1_i32_3533 c32_i32_3531
  let v4569 : BitVec 32 := Scalar.remsi v4566 v4568
  let c0_i32_3535 : BitVec 32 := 0#32
  let v4571 : BitVec 1 := Scalar.cmpi .slt v4569 c0_i32_3535
  let c0_i32_3536 : BitVec 32 := 0#32
  let v4572 : BitVec 1 := Scalar.cmpi .slt v4568 c0_i32_3536
  let v4573 : BitVec 1 := Scalar.xori v4571 v4572
  let c0_i32_3534 : BitVec 32 := 0#32
  let v4570 : BitVec 1 := Scalar.cmpi .ne v4569 c0_i32_3534
  let v4574 : BitVec 1 := Scalar.andi v4573 v4570
  let v4575 : BitVec 32 := Scalar.addi v4569 v4568
  let v4576 : BitVec 32 := Scalar.select v4574 v4575 v4569
  let c1_i32_3541 : BitVec 32 := 1#32
  let v4577 : BitVec 32 := Scalar.muli v4576 c1_i32_3541
  let v4578 : BitVec 32 := Scalar.addi c0_i32_3542 v4577
  v4578.toNat
def k0_dev149 (d0 : Dev nD) : Nat :=
  let c0_i32_3559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3547 : BitVec 32 := 25#32
  let v4587 : BitVec 32 := Scalar.addi v2 c25_i32_3547
  let c32_i32_3548 : BitVec 32 := 32#32
  let c0_i32_3549 : BitVec 32 := 0#32
  let v4588 : BitVec 1 := Scalar.cmpi .eq c32_i32_3548 c0_i32_3549
  let c1_i32_3550 : BitVec 32 := 1#32
  let v4589 : BitVec 32 := Scalar.select v4588 c1_i32_3550 c32_i32_3548
  let v4590 : BitVec 32 := Scalar.remsi v4587 v4589
  let c0_i32_3552 : BitVec 32 := 0#32
  let v4592 : BitVec 1 := Scalar.cmpi .slt v4590 c0_i32_3552
  let c0_i32_3553 : BitVec 32 := 0#32
  let v4593 : BitVec 1 := Scalar.cmpi .slt v4589 c0_i32_3553
  let v4594 : BitVec 1 := Scalar.xori v4592 v4593
  let c0_i32_3551 : BitVec 32 := 0#32
  let v4591 : BitVec 1 := Scalar.cmpi .ne v4590 c0_i32_3551
  let v4595 : BitVec 1 := Scalar.andi v4594 v4591
  let v4596 : BitVec 32 := Scalar.addi v4590 v4589
  let v4597 : BitVec 32 := Scalar.select v4595 v4596 v4590
  let c1_i32_3558 : BitVec 32 := 1#32
  let v4598 : BitVec 32 := Scalar.muli v4597 c1_i32_3558
  let v4599 : BitVec 32 := Scalar.addi c0_i32_3559 v4598
  v4599.toNat
def k0_dev150 (d0 : Dev nD) : Nat :=
  let c0_i32_3576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3564 : BitVec 32 := 26#32
  let v4608 : BitVec 32 := Scalar.addi v2 c26_i32_3564
  let c32_i32_3565 : BitVec 32 := 32#32
  let c0_i32_3566 : BitVec 32 := 0#32
  let v4609 : BitVec 1 := Scalar.cmpi .eq c32_i32_3565 c0_i32_3566
  let c1_i32_3567 : BitVec 32 := 1#32
  let v4610 : BitVec 32 := Scalar.select v4609 c1_i32_3567 c32_i32_3565
  let v4611 : BitVec 32 := Scalar.remsi v4608 v4610
  let c0_i32_3569 : BitVec 32 := 0#32
  let v4613 : BitVec 1 := Scalar.cmpi .slt v4611 c0_i32_3569
  let c0_i32_3570 : BitVec 32 := 0#32
  let v4614 : BitVec 1 := Scalar.cmpi .slt v4610 c0_i32_3570
  let v4615 : BitVec 1 := Scalar.xori v4613 v4614
  let c0_i32_3568 : BitVec 32 := 0#32
  let v4612 : BitVec 1 := Scalar.cmpi .ne v4611 c0_i32_3568
  let v4616 : BitVec 1 := Scalar.andi v4615 v4612
  let v4617 : BitVec 32 := Scalar.addi v4611 v4610
  let v4618 : BitVec 32 := Scalar.select v4616 v4617 v4611
  let c1_i32_3575 : BitVec 32 := 1#32
  let v4619 : BitVec 32 := Scalar.muli v4618 c1_i32_3575
  let v4620 : BitVec 32 := Scalar.addi c0_i32_3576 v4619
  v4620.toNat
def k0_dev151 (d0 : Dev nD) : Nat :=
  let c0_i32_3593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3581 : BitVec 32 := 27#32
  let v4629 : BitVec 32 := Scalar.addi v2 c27_i32_3581
  let c32_i32_3582 : BitVec 32 := 32#32
  let c0_i32_3583 : BitVec 32 := 0#32
  let v4630 : BitVec 1 := Scalar.cmpi .eq c32_i32_3582 c0_i32_3583
  let c1_i32_3584 : BitVec 32 := 1#32
  let v4631 : BitVec 32 := Scalar.select v4630 c1_i32_3584 c32_i32_3582
  let v4632 : BitVec 32 := Scalar.remsi v4629 v4631
  let c0_i32_3586 : BitVec 32 := 0#32
  let v4634 : BitVec 1 := Scalar.cmpi .slt v4632 c0_i32_3586
  let c0_i32_3587 : BitVec 32 := 0#32
  let v4635 : BitVec 1 := Scalar.cmpi .slt v4631 c0_i32_3587
  let v4636 : BitVec 1 := Scalar.xori v4634 v4635
  let c0_i32_3585 : BitVec 32 := 0#32
  let v4633 : BitVec 1 := Scalar.cmpi .ne v4632 c0_i32_3585
  let v4637 : BitVec 1 := Scalar.andi v4636 v4633
  let v4638 : BitVec 32 := Scalar.addi v4632 v4631
  let v4639 : BitVec 32 := Scalar.select v4637 v4638 v4632
  let c1_i32_3592 : BitVec 32 := 1#32
  let v4640 : BitVec 32 := Scalar.muli v4639 c1_i32_3592
  let v4641 : BitVec 32 := Scalar.addi c0_i32_3593 v4640
  v4641.toNat
def k0_dev152 (d0 : Dev nD) : Nat :=
  let c0_i32_3610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3598 : BitVec 32 := 28#32
  let v4650 : BitVec 32 := Scalar.addi v2 c28_i32_3598
  let c32_i32_3599 : BitVec 32 := 32#32
  let c0_i32_3600 : BitVec 32 := 0#32
  let v4651 : BitVec 1 := Scalar.cmpi .eq c32_i32_3599 c0_i32_3600
  let c1_i32_3601 : BitVec 32 := 1#32
  let v4652 : BitVec 32 := Scalar.select v4651 c1_i32_3601 c32_i32_3599
  let v4653 : BitVec 32 := Scalar.remsi v4650 v4652
  let c0_i32_3603 : BitVec 32 := 0#32
  let v4655 : BitVec 1 := Scalar.cmpi .slt v4653 c0_i32_3603
  let c0_i32_3604 : BitVec 32 := 0#32
  let v4656 : BitVec 1 := Scalar.cmpi .slt v4652 c0_i32_3604
  let v4657 : BitVec 1 := Scalar.xori v4655 v4656
  let c0_i32_3602 : BitVec 32 := 0#32
  let v4654 : BitVec 1 := Scalar.cmpi .ne v4653 c0_i32_3602
  let v4658 : BitVec 1 := Scalar.andi v4657 v4654
  let v4659 : BitVec 32 := Scalar.addi v4653 v4652
  let v4660 : BitVec 32 := Scalar.select v4658 v4659 v4653
  let c1_i32_3609 : BitVec 32 := 1#32
  let v4661 : BitVec 32 := Scalar.muli v4660 c1_i32_3609
  let v4662 : BitVec 32 := Scalar.addi c0_i32_3610 v4661
  v4662.toNat
def k0_dev153 (d0 : Dev nD) : Nat :=
  let c0_i32_3627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3615 : BitVec 32 := 29#32
  let v4671 : BitVec 32 := Scalar.addi v2 c29_i32_3615
  let c32_i32_3616 : BitVec 32 := 32#32
  let c0_i32_3617 : BitVec 32 := 0#32
  let v4672 : BitVec 1 := Scalar.cmpi .eq c32_i32_3616 c0_i32_3617
  let c1_i32_3618 : BitVec 32 := 1#32
  let v4673 : BitVec 32 := Scalar.select v4672 c1_i32_3618 c32_i32_3616
  let v4674 : BitVec 32 := Scalar.remsi v4671 v4673
  let c0_i32_3620 : BitVec 32 := 0#32
  let v4676 : BitVec 1 := Scalar.cmpi .slt v4674 c0_i32_3620
  let c0_i32_3621 : BitVec 32 := 0#32
  let v4677 : BitVec 1 := Scalar.cmpi .slt v4673 c0_i32_3621
  let v4678 : BitVec 1 := Scalar.xori v4676 v4677
  let c0_i32_3619 : BitVec 32 := 0#32
  let v4675 : BitVec 1 := Scalar.cmpi .ne v4674 c0_i32_3619
  let v4679 : BitVec 1 := Scalar.andi v4678 v4675
  let v4680 : BitVec 32 := Scalar.addi v4674 v4673
  let v4681 : BitVec 32 := Scalar.select v4679 v4680 v4674
  let c1_i32_3626 : BitVec 32 := 1#32
  let v4682 : BitVec 32 := Scalar.muli v4681 c1_i32_3626
  let v4683 : BitVec 32 := Scalar.addi c0_i32_3627 v4682
  v4683.toNat
def k0_dev154 (d0 : Dev nD) : Nat :=
  let c0_i32_3644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3632 : BitVec 32 := 30#32
  let v4692 : BitVec 32 := Scalar.addi v2 c30_i32_3632
  let c32_i32_3633 : BitVec 32 := 32#32
  let c0_i32_3634 : BitVec 32 := 0#32
  let v4693 : BitVec 1 := Scalar.cmpi .eq c32_i32_3633 c0_i32_3634
  let c1_i32_3635 : BitVec 32 := 1#32
  let v4694 : BitVec 32 := Scalar.select v4693 c1_i32_3635 c32_i32_3633
  let v4695 : BitVec 32 := Scalar.remsi v4692 v4694
  let c0_i32_3637 : BitVec 32 := 0#32
  let v4697 : BitVec 1 := Scalar.cmpi .slt v4695 c0_i32_3637
  let c0_i32_3638 : BitVec 32 := 0#32
  let v4698 : BitVec 1 := Scalar.cmpi .slt v4694 c0_i32_3638
  let v4699 : BitVec 1 := Scalar.xori v4697 v4698
  let c0_i32_3636 : BitVec 32 := 0#32
  let v4696 : BitVec 1 := Scalar.cmpi .ne v4695 c0_i32_3636
  let v4700 : BitVec 1 := Scalar.andi v4699 v4696
  let v4701 : BitVec 32 := Scalar.addi v4695 v4694
  let v4702 : BitVec 32 := Scalar.select v4700 v4701 v4695
  let c1_i32_3643 : BitVec 32 := 1#32
  let v4703 : BitVec 32 := Scalar.muli v4702 c1_i32_3643
  let v4704 : BitVec 32 := Scalar.addi c0_i32_3644 v4703
  v4704.toNat
def k0_dev155 (d0 : Dev nD) : Nat :=
  let c0_i32_3661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3649 : BitVec 32 := 31#32
  let v4713 : BitVec 32 := Scalar.addi v2 c31_i32_3649
  let c32_i32_3650 : BitVec 32 := 32#32
  let c0_i32_3651 : BitVec 32 := 0#32
  let v4714 : BitVec 1 := Scalar.cmpi .eq c32_i32_3650 c0_i32_3651
  let c1_i32_3652 : BitVec 32 := 1#32
  let v4715 : BitVec 32 := Scalar.select v4714 c1_i32_3652 c32_i32_3650
  let v4716 : BitVec 32 := Scalar.remsi v4713 v4715
  let c0_i32_3654 : BitVec 32 := 0#32
  let v4718 : BitVec 1 := Scalar.cmpi .slt v4716 c0_i32_3654
  let c0_i32_3655 : BitVec 32 := 0#32
  let v4719 : BitVec 1 := Scalar.cmpi .slt v4715 c0_i32_3655
  let v4720 : BitVec 1 := Scalar.xori v4718 v4719
  let c0_i32_3653 : BitVec 32 := 0#32
  let v4717 : BitVec 1 := Scalar.cmpi .ne v4716 c0_i32_3653
  let v4721 : BitVec 1 := Scalar.andi v4720 v4717
  let v4722 : BitVec 32 := Scalar.addi v4716 v4715
  let v4723 : BitVec 32 := Scalar.select v4721 v4722 v4716
  let c1_i32_3660 : BitVec 32 := 1#32
  let v4724 : BitVec 32 := Scalar.muli v4723 c1_i32_3660
  let v4725 : BitVec 32 := Scalar.addi c0_i32_3661 v4724
  v4725.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S2x128x256x256, .f32⟩
  | .hbm, ⟨51, _⟩ => ⟨S_, .f32⟩
  | .hbm, ⟨52, _⟩ => ⟨S2x128x256x256, .f32⟩
  | .hbm, ⟨53, _⟩ => ⟨S2x128x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S2x128x256x256, .i1⟩
  | .hbm, ⟨58, _⟩ => ⟨S2x128x256x256, .f32⟩
  | .hbm, ⟨59, _⟩ => ⟨S2x128x256x256, .f32⟩
  | .hbm, ⟨60, _⟩ => ⟨S_, .f32⟩
  | .hbm, ⟨61, _⟩ => ⟨S2x128x256, .f32⟩
  | .hbm, ⟨62, _⟩ => ⟨S2x128x256x1, .f32⟩
  | .hbm, ⟨63, _⟩ => ⟨S2x128x256x256, .f32⟩
  | .hbm, ⟨64, _⟩ => ⟨S2x128x256x256, .f32⟩
  | .hbm, ⟨65, _⟩ => ⟨S2x128x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x128x256, .f32⟩
  | .hbm, ⟨71, _⟩ => ⟨S2x128x256x1, .f32⟩
  | .hbm, ⟨72, _⟩ => ⟨S_, .f32⟩
  | .hbm, ⟨73, _⟩ => ⟨S_, .f32⟩
  | .hbm, ⟨74, _⟩ => ⟨S2x128x256x1, .i1⟩
  | .hbm, ⟨75, _⟩ => ⟨S2x128x256x1, .f32⟩
  | .hbm, ⟨76, _⟩ => ⟨S2x128x256x1, .f32⟩
  | .hbm, ⟨77, _⟩ => ⟨S2x128x256x256, .f32⟩
  | .hbm, ⟨78, _⟩ => ⟨S2x128x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x128x256x256, .i1⟩
  | .hbm, ⟨83, _⟩ => ⟨S2x128x256x256, .f32⟩
  | .hbm, ⟨84, _⟩ => ⟨S2x128x256x256, .f32⟩
  | .hbm, ⟨85, _⟩ => ⟨S2x128x64x256, .f32⟩
  | .hbm, ⟨86, _⟩ => ⟨S2x256x128x64, .f32⟩
  | .hbm, ⟨87, _⟩ => ⟨S2x256x8192, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Clean.lean ====
/- The kernel's body written with loops: the same memory operations as the printed body, one
   definition per phase and per wave, every loop a fold over its index. `body_eq` says that the
   printed body is this program. -/
module

public import proofs.«01_k».proof.Proof.Gen.KernelIdeal.Skeleton
public import Idealize.ShloMosaic.Lib.Pipeline.Regions

@[expose] public section

set_option synthInstance.maxSize 4096

noncomputable section

namespace Cert.KernelIdeal.Mine

open Idealize.ShloMosaic Idealize.SL.Sem Cert.KernelIdeal Cert.KernelIdeal.Gen

variable {F : FTy → Type} [FloatOps F]

/-! ## Loops -/

/-- `f` at the last `k` of the `n` indices, in their order. -/
def forLast {E : Type → Type} {n : Nat} (f : Fin n → Prog E PUnit) : (k : Nat) → k ≤ n → Prog E PUnit
  | 0, _ => pure ⟨⟩
  | k + 1, h => do
      f ⟨n - (k + 1), Nat.sub_lt_of_pos_le (Nat.succ_pos k) h⟩
      forLast f k (Nat.le_of_succ_le h)

/-- `f` at every index, in their order. -/
def forFin {E : Type → Type} (n : Nat) (f : Fin n → Prog E PUnit) : Prog E PUnit := forLast f n (Nat.le_refl n)

/-! ## Where a device's pieces are -/

/-- The device the kernel computes from its own index and a distance. -/
def devOf (d0 : Dev nD) (w : BitVec 32) : Nat :=
  let v2 : BitVec 32 := Scalar.remsi (Scalar.divsi (Dev.word d0) 1#32) 32#32
  let v6 : BitVec 32 := Scalar.select (Scalar.cmpi .eq 32#32 0#32) 1#32 32#32
  let v7 : BitVec 32 := Scalar.remsi (Scalar.addi v2 w) v6
  let v12 : BitVec 1 := Scalar.andi (Scalar.xori (Scalar.cmpi .slt v7 0#32) (Scalar.cmpi .slt v6 0#32)) (Scalar.cmpi .ne v7 0#32)
  (Scalar.addi 0#32 (Scalar.muli (Scalar.select v12 (Scalar.addi v7 v6) v7) 1#32)).toNat

/-- The peer of `d` at distance `1 + r`. -/
def peer (d : Dev nD) (r : Fin 31) : Dev nD := ⟨(d.val + (1 + r.val)) % 32, Nat.mod_lt _ (by decide)⟩

/-- The device whose data arrives at `d` in the wait number `r`: the one at distance `1 + r` behind. -/
def src (d : Dev nD) (r : Fin 31) : Dev nD := ⟨(d.val + (31 - r.val)) % 32, Nat.mod_lt _ (by decide)⟩

theorem devOf_eq : ∀ (d : Dev nD) (r : Fin 31), devOf d (BitVec.ofNat 32 (1 + r.val)) = (peer d r).val := by
  decide +kernel

theorem devOf_lt (d : Dev nD) (r : Fin 31) : devOf d (BitVec.ofNat 32 (1 + r.val)) < nD := by
  rw [devOf_eq]; exact (peer d r).isLt

/-- The target of the copy number `r`. -/
def toDev (d : Dev nD) (r : Fin 31) : Dev nD := ⟨devOf d (BitVec.ofNat 32 (1 + r.val)), devOf_lt d r⟩

theorem toDev_eq (d : Dev nD) (r : Fin 31) : toDev d r = peer d r := Fin.ext (devOf_eq d r)

/-- The piece of the row block `k` in wave `w`. -/
theorem piece_inb : ∀ (w : Fin 2) (k : Fin 32), ∀ a, (![k.val, 8 * w.val, 0] : Fin 3 → Nat) a + S1x8x512.size a ≤ S32x16x512.size a := by
  decide +kernel
theorem piece_words : ∀ (w : Fin 2) (k : Fin 32), (Rect.unit (s := S32x16x512) ![k.val, 8 * w.val, 0] S1x8x512.size (piece_inb w k)).WholeWords (EltTy.packing .bf16) := by
  decide +kernel
theorem piece_packed : ∀ (w : Fin 2) (k : Fin 32), (Rect.unit (s := S32x16x512) ![k.val, 8 * w.val, 0] S1x8x512.size (piece_inb w k)).PackedRows (EltTy.packing .bf16) := by
  decide +kernel
theorem out_inb : ∀ (w : Fin 2) (k : Fin 32), ∀ a, (![w.val, 8 * k.val, 0] : Fin 3 → Nat) a + S1x8x512.size a ≤ S2x256x512.size a := by
  decide +kernel
theorem rb_inb : ∀ (w : Fin 2), ∀ a, (![w.val, 0, 0] : Fin 3 → Nat) a + S1x8x512.size a ≤ S2x8x512.size a := by
  decide +kernel
theorem rb_words : ∀ (w : Fin 2), (Rect.unit (s := S2x8x512) ![w.val, 0, 0] S1x8x512.size (rb_inb w)).WholeWords (EltTy.packing .bf16) := by
  decide +kernel
theorem rb_packed : ∀ (w : Fin 2), (Rect.unit (s := S2x8x512) ![w.val, 0, 0] S1x8x512.size (rb_inb w)).PackedRows (EltTy.packing .bf16) := by
  decide +kernel
theorem slab_inb : ∀ (w : Fin 2), ∀ a, (![0, 8 * w.val, 0] : Fin 3 → Nat) a + S32x8x512.size a ≤ S32x16x512.size a := by
  decide +kernel
theorem x_inb : ∀ (w : Fin 2), ∀ a, (![w.val, 0, 0] : Fin 3 → Nat) a + S1x256x512.size a ≤ S2x256x512.size a := by
  decide +kernel
theorem kv_inb : ∀ (w : Fin 2) (h : Fin 4), ∀ a, (![w.val, 0, h.val, 0] : Fin 4 → Nat) a + S1x256x1x64.size a ≤ S2x256x4x64.size a := by
  decide +kernel
theorem send_inb : ∀ (w : Fin 2) (r : Fin 31), ∀ a, (![w.val, r.val] : Fin 2 → Nat) a + S1x1.size a ≤ S2x31.size a := by
  decide +kernel
theorem recv_inb : ∀ (w : Fin 2) (r : Fin 32), ∀ a, (![w.val, r.val] : Fin 2 → Nat) a + S1x1.size a ≤ S2x32.size a := by
  decide +kernel
theorem local_inb : ∀ (w : Fin 2), ∀ a, (![w.val] : Fin 1 → Nat) a + S1.size a ≤ S2.size a := by
  decide +kernel
theorem chunk_slices : ∀ (k : Fin 32), S256x512.Slices ![8 * k.val, 0] S8x512 := by decide +kernel

/-- The device's own slot in wave `w`. -/
def ownOff (w : Fin 2) (d : Dev nD) : Fin 3 → Nat := if w.val = 0 then k0_off1 d else k0_off4 d
/-- The slot of the copy's target in wave `w`. -/
def toOff (w : Fin 2) (d : Dev nD) (b : BitVec 32) : Fin 3 → Nat := if w.val = 0 then k0_off3 d b else k0_off6 d b
/-- The slot of the wait's source in wave `w`. -/
def fromOff (w : Fin 2) (d : Dev nD) (b : BitVec 32) : Fin 3 → Nat := if w.val = 0 then k0_off8 d b else k0_off10 d b
/-- The device's own index in the receive semaphores of wave `w`. -/
def ownSem (w : Fin 2) (d : Dev nD) : Fin 2 → Nat := if w.val = 0 then k0_off2 d else k0_off5 d
/-- The wait's source in the receive semaphores of wave `w`. -/
def fromSem (w : Fin 2) (d : Dev nD) (b : BitVec 32) : Fin 2 → Nat := if w.val = 0 then k0_off7 d b else k0_off9 d b

theorem ownOff_eq : ∀ (w : Fin 2) (d : Dev nD), ownOff w d = ![d.val, 8 * w.val, 0] := by decide +kernel
theorem toOff_eq : ∀ (w : Fin 2) (d : Dev nD) (r : Fin 31), toOff w d (BitVec.ofNat 32 (1 + r.val)) = ![(peer d r).val, 8 * w.val, 0] := by decide +kernel
theorem fromOff_eq : ∀ (w : Fin 2) (d : Dev nD) (r : Fin 31), fromOff w d (BitVec.ofNat 32 (1 + r.val)) = ![(src d r).val, 8 * w.val, 0] := by decide +kernel
theorem ownSem_eq : ∀ (w : Fin 2) (d : Dev nD), ownSem w d = ![w.val, d.val] := by decide +kernel
theorem fromSem_eq : ∀ (w : Fin 2) (d : Dev nD) (r : Fin 31), fromSem w d (BitVec.ofNat 32 (1 + r.val)) = ![w.val, (src d r).val] := by decide +kernel

/-- A slot's rectangle from an offset that is known to be the slot's. -/
theorem off_inb {w : Fin 2} {k : Fin 32} {off : Fin 3 → Nat} (h : off = ![k.val, 8 * w.val, 0]) :
    ∀ a, off a + S1x8x512.size a ≤ S32x16x512.size a := by subst h; exact piece_inb w k
theorem off_words {w : Fin 2} {k : Fin 32} {off : Fin 3 → Nat} (h : off = ![k.val, 8 * w.val, 0]) :
    (Rect.unit (s := S32x16x512) off S1x8x512.size (off_inb h)).WholeWords (EltTy.packing .bf16) := by
  subst h; exact piece_words w k
theorem sem_inb {w : Fin 2} {k : Fin 32} {off : Fin 2 → Nat} (h : off = ![w.val, k.val]) :
    ∀ a, off a + S1x1.size a ≤ S2x32.size a := by subst h; exact recv_inb w k

/-! ## The values computed -/

/-- The causal mask by blocks of 64 rows and columns. -/
def mask : IVec S256x256 1 := k0_pay5 k0_pay3 k0_pay4 1#32

/-- One head: the masked softmax of the scores, times the values. -/
def headOut (m : IVec S256x256 1) (q : FVec F S256x64 .f32) (k v : Vec F S1x256x1x64 .f32) : FVec F S256x64 .f32 :=
  k0_pay13 m q k v

/-- The device's partial output: its four heads side by side, through its rows of the output matrix. -/
def attn (m : IVec S256x256 1) (x : Vec F S1x256x512 .f32) (wq : Vec F S512x256 .f32)
    (k v : Fin 4 → Vec F S1x256x1x64 .f32) (wo : Vec F S256x512 .f32) : FVec F S256x512 .bf16 :=
  truncf .bf16 (matmul dot_S256x256_S256x512_S256x512_1_0_0_1_n_n none
    (concatenate S256x256 1
      [⟨S256x64, headOut m (extractStridedSlice S256x64 ![0, 0] (k0_pay6 x wq) slices_S256x256_o0_0_S256x64) (k 0) (v 0)⟩,
       ⟨S256x64, headOut m (extractStridedSlice S256x64 ![0, 64] (k0_pay6 x wq) slices_S256x256_o0_64_S256x64) (k 1) (v 1)⟩,
       ⟨S256x64, headOut m (extractStridedSlice S256x64 ![0, 128] (k0_pay6 x wq) slices_S256x256_o0_128_S256x64) (k 2) (v 2)⟩,
       ⟨S256x64, headOut m (extractStridedSlice S256x64 ![0, 192] (k0_pay6 x wq) slices_S256x256_o0_192_S256x64) (k 3) (v 3)⟩]
      concatenates_S256x64_S256x64_S256x64_S256x64_S256x256_d1)
    (shapeCast S256x512 wo shapeCasts_S256x512_S256x512) (constant S256x512 .f32 0x00000000#32)) bitsLt_bf16_f32

/-- Eight rows of the partial output, as the buffer's row block. -/
def chunk (p : FVec F S256x512 .bf16) (k : Fin 32) : FVec F S1x8x512 .bf16 :=
  shapeCast S1x8x512 (extractStridedSlice S8x512 ![8 * k.val, 0] p (chunk_slices k)) shapeCasts_S8x512_S1x8x512

/-! ## The operations -/

section
variable (arg0 : Memref sig .tc .vmem S2x256x512 .f32) (arg1 : Memref sig .tc .vmem S512x256 .f32)
  (arg2 : Memref sig .tc .vmem S2x256x4x64 .f32) (arg3 : Memref sig .tc .vmem S2x256x4x64 .f32)
  (arg4 : Memref sig .tc .vmem S256x512 .f32) (arg5 : Memref sig .tc .vmem S2x256x512 .f32)

/-- A slot of a communication buffer. -/
abbrev slot (b : Memref sig .tc .vmem S32x16x512 .bf16) (off : Fin 3 → Nat)
    (h : ∀ a, off a + S1x8x512.size a ≤ S32x16x512.size a) : Memref sig .tc .vmem S8x512 .bf16 :=
  (b.slice (Rect.unit (s := S32x16x512) off S1x8x512.size h) (fun _ => rfl)).squeeze S8x512 squeezes_S1x8x512_S8x512

/-- A wave's row block of the reduced buffer. -/
abbrev rslot (b : Memref sig .tc .vmem S2x8x512 .bf16) (w : Fin 2) : Memref sig .tc .vmem S8x512 .bf16 :=
  (b.slice (Rect.unit (s := S2x8x512) ![w.val, 0, 0] S1x8x512.size (rb_inb w)) (fun _ => rfl)).squeeze S8x512 squeezes_S1x8x512_S8x512

/-- A slot is made of whole words. -/
theorem slot_words {b : Memref sig .tc .vmem S32x16x512 .bf16} (hb : b.IsWhole) {w : Fin 2} {k : Fin 32} {off : Fin 3 → Nat}
    (h : off = ![k.val, 8 * w.val, 0]) : (slot b off (off_inb h)).view.WordExact :=
  (hb.wordExact_slice rfl _ (off_words h)).reshape _ _
theorem rslot_words {b : Memref sig .tc .vmem S2x8x512 .bf16} (hb : b.IsWhole) (w : Fin 2) : (rslot b w).view.WordExact :=
  (hb.wordExact_slice rfl _ (rb_words w)).reshape _ _

abbrev semS (s : DmaSems sig S2x31) (w : Fin 2) (r : Fin 31) : DmaSem sig :=
  ((s.slice (Rect.unit (s := S2x31) ![w.val, r.val] S1x1.size (send_inb w r))).squeeze S_ squeezes_S1x1_S_).sem
abbrev semR (s : DmaSems sig S2x32) (off : Fin 2 → Nat) (h : ∀ a, off a + S1x1.size a ≤ S2x32.size a) : DmaSem sig :=
  ((s.slice (Rect.unit (s := S2x32) off S1x1.size h)).squeeze S_ squeezes_S1x1_S_).sem
abbrev semL (s : DmaSems sig S2) (w : Fin 2) : DmaSem sig :=
  ((s.slice (Rect.unit (s := S2) ![w.val] S1.size (local_inb w))).squeeze S_ squeezes_S1_S_).sem

/-- A copy on the device itself. -/
def here (s d : Memref sig .tc .vmem S8x512 .bf16) (hs : s.view.WordExact) (hd : d.view.WordExact) (sm : DmaSem sig) : Prog (TpuEff nD τ sig (Elt F) Λ₀ .tc) PUnit :=
  Prog.lift (.enqueueDma s (.here d) (.dma sm) hs hd ⟨Or.inl rfl, trivial⟩)

/-- A copy to a peer. -/
def put (s d : Memref sig .tc .vmem S8x512 .bf16) (hs : s.view.WordExact) (hd : d.view.WordExact) (t : Dev nD) (sm rm : DmaSem sig) : Prog (TpuEff nD τ sig (Elt F) Λ₀ .tc) PUnit :=
  Prog.lift (.enqueueDma s (.remote (Dev.tc t) d (.dma sm)) (.dma rm) hs hd ⟨⟨rfl, Or.inl rfl⟩, trivial⟩)

/-- A wait for one slot's credit. -/
def wait (sm : DmaSem sig) (s d : Memref sig .tc .vmem S8x512 .bf16) (hs : s.view.WordExact) (hd : d.view.WordExact) : Prog (TpuEff nD τ sig (Elt F) Λ₀ .tc) PUnit :=
  Prog.lift (.waitDma2 sm s d hs hd)

/-- Signal every peer's barrier once. -/
def signals (d0 : Dev nD) : Prog (TpuEff nD τ sig (Elt F) Λ₀ .tc) PUnit :=
  forFin 31 fun r => semSignalWord (toDev d0 r) (SemArray.scalar (sig.barrier 0 rfl) : Sems sig S_).sem 1#32

/-- Compute one wave's partial output and store it by row blocks. -/
def compute (arg6 : Memref sig .tc .vmem S32x16x512 .bf16) (harg6 : arg6.IsWhole) (w : Fin 2) : Prog (TpuEff nD τ sig (Elt F) Λ₀ .tc) PUnit := do
  let x : Vec F S1x256x512 .f32 ← Prog.lift (.load arg0 (Rect.unit (s := S2x256x512) ![w.val, 0, 0] S1x256x512.size (x_inb w)).toLoadRect (View.loadsAt_vmem h_S1x256x512))
  let wq : Vec F S512x256 .f32 ← Prog.lift (.load arg1 (Rect.unit (s := S512x256) ![0, 0] S512x256.size inb_S512x256_S512x256_0_0).toLoadRect (View.loadsAt_vmem h_S512x256))
  let k0 : Vec F S1x256x1x64 .f32 ← Prog.lift (.load arg2 (Rect.unit (s := S2x256x4x64) ![w.val, 0, (0 : Fin 4).val, 0] S1x256x1x64.size (kv_inb w 0)).toLoadRect (View.loadsAt_vmem h_S1x256x1x64))
  let v0 : Vec F S1x256x1x64 .f32 ← Prog.lift (.load arg3 (Rect.unit (s := S2x256x4x64) ![w.val, 0, (0 : Fin 4).val, 0] S1x256x1x64.size (kv_inb w 0)).toLoadRect (View.loadsAt_vmem h_S1x256x1x64))
  let k1 : Vec F S1x256x1x64 .f32 ← Prog.lift (.load arg2 (Rect.unit (s := S2x256x4x64) ![w.val, 0, (1 : Fin 4).val, 0] S1x256x1x64.size (kv_inb w 1)).toLoadRect (View.loadsAt_vmem h_S1x256x1x64))
  let v1 : Vec F S1x256x1x64 .f32 ← Prog.lift (.load arg3 (Rect.unit (s := S2x256x4x64) ![w.val, 0, (1 : Fin 4).val, 0] S1x256x1x64.size (kv_inb w 1)).toLoadRect (View.loadsAt_vmem h_S1x256x1x64))
  let k2 : Vec F S1x256x1x64 .f32 ← Prog.lift (.load arg2 (Rect.unit (s := S2x256x4x64) ![w.val, 0, (2 : Fin 4).val, 0] S1x256x1x64.size (kv_inb w 2)).toLoadRect (View.loadsAt_vmem h_S1x256x1x64))
  let v2 : Vec F S1x256x1x64 .f32 ← Prog.lift (.load arg3 (Rect.unit (s := S2x256x4x64) ![w.val, 0, (2 : Fin 4).val, 0] S1x256x1x64.size (kv_inb w 2)).toLoadRect (View.loadsAt_vmem h_S1x256x1x64))
  let k3 : Vec F S1x256x1x64 .f32 ← Prog.lift (.load arg2 (Rect.unit (s := S2x256x4x64) ![w.val, 0, (3 : Fin 4).val, 0] S1x256x1x64.size (kv_inb w 3)).toLoadRect (View.loadsAt_vmem h_S1x256x1x64))
  let v3 : Vec F S1x256x1x64 .f32 ← Prog.lift (.load arg3 (Rect.unit (s := S2x256x4x64) ![w.val, 0, (3 : Fin 4).val, 0] S1x256x1x64.size (kv_inb w 3)).toLoadRect (View.loadsAt_vmem h_S1x256x1x64))
  let wo : Vec F S256x512 .f32 ← Prog.lift (.load arg4 (Rect.unit (s := S256x512) ![0, 0] S256x512.size inb_S256x512_S256x512_0_0).toLoadRect (View.loadsAt_vmem h_S256x512))
  forFin 32 fun k => do
    let _ : Vec F S1x8x512 .bf16 ← Prog.lift (.load arg6 (Rect.unit (s := S32x16x512) ![k.val, 8 * w.val, 0] S1x8x512.size (piece_inb w k)).toLoadRect (View.loadsAt_vmem h_S1x8x512))
    Prog.lift (.store arg6 (Rect.unit (s := S32x16x512) ![k.val, 8 * w.val, 0] S1x8x512.size (piece_inb w k)) (chunk (attn mask x wq ![k0, k1, k2, k3] ![v0, v1, v2, v3] wo) k) Finset.univ (View.stores_vmem h_S1x8x512 (harg6.storeExact_slice rfl _ (piece_packed w k)) (fun _ => rfl)) (.inl rfl))

/-- Send one wave's row blocks to their owners, the own one by a local copy. -/
def phase1 (arg6 : Memref sig .tc .vmem S32x16x512 .bf16) (harg6 : arg6.IsWhole) (arg7 : Memref sig .tc .vmem S32x16x512 .bf16) (harg7 : arg7.IsWhole) (arg10 : DmaSems sig S2x31) (arg11 : DmaSems sig S2x32) (arg14 : DmaSems sig S2)
    (d0 : Dev nD) (w : Fin 2) : Prog (TpuEff nD τ sig (Elt F) Λ₀ .tc) PUnit := do
  here (slot arg6 (ownOff w d0) (off_inb (ownOff_eq w d0))) (slot arg7 (ownOff w d0) (off_inb (ownOff_eq w d0)))
    (slot_words harg6 (ownOff_eq w d0)) (slot_words harg7 (ownOff_eq w d0)) (semL arg14 w)
  forFin 31 fun r =>
    put (slot arg6 (toOff w d0 (BitVec.ofNat 32 (1 + r.val))) (off_inb (toOff_eq w d0 r))) (slot arg7 (ownOff w d0) (off_inb (ownOff_eq w d0)))
      (slot_words harg6 (toOff_eq w d0 r)) (slot_words harg7 (ownOff_eq w d0)) (toDev d0 r) (semS arg10 w r) (semR arg11 (ownSem w d0) (sem_inb (ownSem_eq w d0)))

/-- Wait for the 32 row blocks of one wave. -/
def wait1 (arg6 : Memref sig .tc .vmem S32x16x512 .bf16) (harg6 : arg6.IsWhole) (arg7 : Memref sig .tc .vmem S32x16x512 .bf16) (harg7 : arg7.IsWhole) (arg11 : DmaSems sig S2x32) (arg14 : DmaSems sig S2)
    (d0 : Dev nD) (w : Fin 2) : Prog (TpuEff nD τ sig (Elt F) Λ₀ .tc) PUnit := do
  forFin 31 fun r =>
    wait (semR arg11 (fromSem w d0 (BitVec.ofNat 32 (1 + r.val))) (sem_inb (fromSem_eq w d0 r)))
      (slot arg7 (fromOff w d0 (BitVec.ofNat 32 (1 + r.val))) (off_inb (fromOff_eq w d0 r)))
      (slot arg7 (fromOff w d0 (BitVec.ofNat 32 (1 + r.val))) (off_inb (fromOff_eq w d0 r)))
      (slot_words harg7 (fromOff_eq w d0 r)) (slot_words harg7 (fromOff_eq w d0 r))
  wait (semL arg14 w) (slot arg6 (ownOff w d0) (off_inb (ownOff_eq w d0))) (slot arg7 (ownOff w d0) (off_inb (ownOff_eq w d0)))
    (slot_words harg6 (ownOff_eq w d0)) (slot_words harg7 (ownOff_eq w d0))

/-- Sum the 32 row blocks of one wave. -/
def reduce (arg7 : Memref sig .tc .vmem S32x16x512 .bf16) (arg9 : Memref sig .tc .vmem S2x8x512 .bf16) (harg9 : arg9.IsWhole) (w : Fin 2) : Prog (TpuEff nD τ sig (Elt F) Λ₀ .tc) PUnit := do
  let v : Vec F S32x8x512 .bf16 ← Prog.lift (.load arg7 (Rect.unit (s := S32x16x512) ![0, 8 * w.val, 0] S32x8x512.size (slab_inb w)).toLoadRect (View.loadsAt_vmem h_S32x8x512))
  let _ : Vec F S1x8x512 .bf16 ← Prog.lift (.load arg9 (Rect.unit (s := S2x8x512) ![w.val, 0, 0] S1x8x512.size (rb_inb w)).toLoadRect (View.loadsAt_vmem h_S1x8x512))
  Prog.lift (.store arg9 (Rect.unit (s := S2x8x512) ![w.val, 0, 0] S1x8x512.size (rb_inb w)) (k0_pay101 v) Finset.univ (View.stores_vmem h_S1x8x512 (harg9.storeExact_slice rfl _ (rb_packed w)) (fun _ => rfl)) (.inl rfl))

/-- Send the reduced row block to every device, the own one by a local copy. -/
def phase2 (arg8 : Memref sig .tc .vmem S32x16x512 .bf16) (harg8 : arg8.IsWhole) (arg9 : Memref sig .tc .vmem S2x8x512 .bf16) (harg9 : arg9.IsWhole) (arg12 : DmaSems sig S2x31) (arg13 : DmaSems sig S2x32) (arg14 : DmaSems sig S2)
    (d0 : Dev nD) (w : Fin 2) : Prog (TpuEff nD τ sig (Elt F) Λ₀ .tc) PUnit := do
  here (rslot arg9 w) (slot arg8 (ownOff w d0) (off_inb (ownOff_eq w d0)))
    (rslot_words harg9 w) (slot_words harg8 (ownOff_eq w d0)) (semL arg14 w)
  forFin 31 fun r =>
    put (rslot arg9 w) (slot arg8 (ownOff w d0) (off_inb (ownOff_eq w d0)))
      (rslot_words harg9 w) (slot_words harg8 (ownOff_eq w d0)) (toDev d0 r) (semS arg12 w r) (semR arg13 (ownSem w d0) (sem_inb (ownSem_eq w d0)))

/-- Wait for the 32 reduced row blocks of one wave. -/
def wait2 (arg8 : Memref sig .tc .vmem S32x16x512 .bf16) (harg8 : arg8.IsWhole) (arg9 : Memref sig .tc .vmem S2x8x512 .bf16) (harg9 : arg9.IsWhole) (arg13 : DmaSems sig S2x32) (arg14 : DmaSems sig S2)
    (d0 : Dev nD) (w : Fin 2) : Prog (TpuEff nD τ sig (Elt F) Λ₀ .tc) PUnit := do
  forFin 31 fun r =>
    wait (semR arg13 (fromSem w d0 (BitVec.ofNat 32 (1 + r.val))) (sem_inb (fromSem_eq w d0 r)))
      (rslot arg9 w)
      (slot arg8 (fromOff w d0 (BitVec.ofNat 32 (1 + r.val))) (off_inb (fromOff_eq w d0 r)))
      (rslot_words harg9 w) (slot_words harg8 (fromOff_eq w d0 r))
  wait (semL arg14 w) (rslot arg9 w) (slot arg8 (ownOff w d0) (off_inb (ownOff_eq w d0)))
    (rslot_words harg9 w) (slot_words harg8 (ownOff_eq w d0))

/-- Wait until the sent row blocks of one wave have left. -/
def sent1 (arg6 : Memref sig .tc .vmem S32x16x512 .bf16) (harg6 : arg6.IsWhole) (arg7 : Memref sig .tc .vmem S32x16x512 .bf16) (harg7 : arg7.IsWhole) (arg10 : DmaSems sig S2x31)
    (d0 : Dev nD) (w : Fin 2) : Prog (TpuEff nD τ sig (Elt F) Λ₀ .tc) PUnit :=
  forFin 31 fun r =>
    wait (semS arg10 w r) (slot arg7 (ownOff w d0) (off_inb (ownOff_eq w d0)))
      (slot arg6 (toOff w d0 (BitVec.ofNat 32 (1 + r.val))) (off_inb (toOff_eq w d0 r)))
      (slot_words harg7 (ownOff_eq w d0)) (slot_words harg6 (toOff_eq w d0 r))

/-- Wait until the reduced row block of one wave has left. -/
def sent2 (arg8 : Memref sig .tc .vmem S32x16x512 .bf16) (harg8 : arg8.IsWhole) (arg9 : Memref sig .tc .vmem S2x8x512 .bf16) (harg9 : arg9.IsWhole) (arg12 : DmaSems sig S2x31)
    (d0 : Dev nD) (w : Fin 2) : Prog (TpuEff nD τ sig (Elt F) Λ₀ .tc) PUnit :=
  forFin 31 fun r =>
    wait (semS arg12 w r) (slot arg8 (ownOff w d0) (off_inb (ownOff_eq w d0))) (rslot arg9 w)
      (slot_words harg8 (ownOff_eq w d0)) (rslot_words harg9 w)

/-- Copy one wave's gathered row blocks to the output. -/
def output (arg8 : Memref sig .tc .vmem S32x16x512 .bf16) (w : Fin 2) : Prog (TpuEff nD τ sig (Elt F) Λ₀ .tc) PUnit :=
  forFin 32 fun k => do
    let v : Vec F S1x8x512 .bf16 ← Prog.lift (.load arg8 (Rect.unit (s := S32x16x512) ![k.val, 8 * w.val, 0] S1x8x512.size (piece_inb w k)).toLoadRect (View.loadsAt_vmem h_S1x8x512))
    let _ : Vec F S1x8x512 .f32 ← Prog.lift (.load arg5 (Rect.unit (s := S2x256x512) ![w.val, 8 * k.val, 0] S1x8x512.size (out_inb w k)).toLoadRect (View.loadsAt_vmem h_S1x8x512))
    Prog.lift (.store arg5 (Rect.unit (s := S2x256x512) ![w.val, 8 * k.val, 0] S1x8x512.size (out_inb w k)) (k0_pay1 v) Finset.univ (View.stores_vmem_bits_univ h_S1x8x512 rfl) (.inl rfl))

end

/-- The whole body. -/
def clean (arg0 : Memref sig .tc .vmem S2x256x512 .f32) (harg0 : arg0.IsWhole) (arg1 : Memref sig .tc .vmem S512x256 .f32) (harg1 : arg1.IsWhole) (arg2 : Memref sig .tc .vmem S2x256x4x64 .f32) (harg2 : arg2.IsWhole) (arg3 : Memref sig .tc .vmem S2x256x4x64 .f32) (harg3 : arg3.IsWhole) (arg4 : Memref sig .tc .vmem S256x512 .f32) (harg4 : arg4.IsWhole) (arg5 : Memref sig .tc .vmem S2x256x512 .f32) (harg5 : arg5.IsWhole) (arg6 : Memref sig .tc .vmem S32x16x512 .bf16) (harg6 : arg6.IsWhole) (arg7 : Memref sig .tc .vmem S32x16x512 .bf16) (harg7 : arg7.IsWhole) (arg8 : Memref sig .tc .vmem S32x16x512 .bf16) (harg8 : arg8.IsWhole) (arg9 : Memref sig .tc .vmem S2x8x512 .bf16) (harg9 : arg9.IsWhole) (arg10 : DmaSems sig S2x31) (arg11 : DmaSems sig S2x32) (arg12 : DmaSems sig S2x31) (arg13 : DmaSems sig S2x32) (arg14 : DmaSems sig S2) :
    Prog (TpuEff nD τ sig (Elt F) Λ₀ .tc) PUnit := do
  let d0 : Dev nD ← Prog.lift .deviceId
  signals d0
  compute arg0 arg1 arg2 arg3 arg4 arg6 harg6 0
  semWaitWord (SemArray.scalar (sig.barrier 0 rfl) : Sems sig S_).sem 31#32
  phase1 arg6 harg6 arg7 harg7 arg10 arg11 arg14 d0 0
  compute arg0 arg1 arg2 arg3 arg4 arg6 harg6 1
  phase1 arg6 harg6 arg7 harg7 arg10 arg11 arg14 d0 1
  wait1 arg6 harg6 arg7 harg7 arg11 arg14 d0 0
  reduce arg7 arg9 harg9 0
  phase2 arg8 harg8 arg9 harg9 arg12 arg13 arg14 d0 0
  wait1 arg6 harg6 arg7 harg7 arg11 arg14 d0 1
  reduce arg7 arg9 harg9 1
  phase2 arg8 harg8 arg9 harg9 arg12 arg13 arg14 d0 1
  wait2 arg8 harg8 arg9 harg9 arg13 arg14 d0 0
  wait2 arg8 harg8 arg9 harg9 arg13 arg14 d0 1
  sent1 arg6 harg6 arg7 harg7 arg10 d0 0
  sent1 arg6 harg6 arg7 harg7 arg10 d0 1
  sent2 arg8 harg8 arg9 harg9 arg12 d0 0
  sent2 arg8 harg8 arg9 harg9 arg12 d0 1
  output arg5 arg8 0
  output arg5 arg8 1

set_option maxRecDepth 65536 in
/-- The printed body is the looped one. -/
theorem body_eq (arg0 : Memref sig .tc .vmem S2x256x512 .f32) (harg0 : arg0.IsWhole) (arg1 : Memref sig .tc .vmem S512x256 .f32) (harg1 : arg1.IsWhole) (arg2 : Memref sig .tc .vmem S2x256x4x64 .f32) (harg2 : arg2.IsWhole) (arg3 : Memref sig .tc .vmem S2x256x4x64 .f32) (harg3 : arg3.IsWhole) (arg4 : Memref sig .tc .vmem S256x512 .f32) (harg4 : arg4.IsWhole) (arg5 : Memref sig .tc .vmem S2x256x512 .f32) (harg5 : arg5.IsWhole) (arg6 : Memref sig .tc .vmem S32x16x512 .bf16) (harg6 : arg6.IsWhole) (arg7 : Memref sig .tc .vmem S32x16x512 .bf16) (harg7 : arg7.IsWhole) (arg8 : Memref sig .tc .vmem S32x16x512 .bf16) (harg8 : arg8.IsWhole) (arg9 : Memref sig .tc .vmem S2x8x512 .bf16) (harg9 : arg9.IsWhole) (arg10 : DmaSems sig S2x31) (arg11 : DmaSems sig S2x32) (arg12 : DmaSems sig S2x31) (arg13 : DmaSems sig S2x32) (arg14 : DmaSems sig S2) :
    clean (F := F) arg0 harg0 arg1 harg1 arg2 harg2 arg3 harg3 arg4 harg4 arg5 harg5 arg6 harg6 arg7 harg7 arg8 harg8 arg9 harg9 arg10 arg11 arg12 arg13 arg14
      = cc0_body arg0 harg0 arg1 harg1 arg2 harg2 arg3 harg3 arg4 harg4 arg5 harg5 arg6 harg6 arg7 harg7 arg8 harg8 arg9 harg9 arg10 arg11 arg12 arg13 arg14 := by
  chain_rfl

end Cert.KernelIdeal.Mine

end
-- ==== Proof.Pieces.lean ====
/- The pieces the kernel's buffers are cut into, what each buffer holds at its end, and how a
   buffer held whole is the pieces held side by side. -/
module

public import proofs.«01_k».proof.Proof.Clean
public import proofs.«01_k».proof.Proof.Gen.KernelIdeal.Launch
public import proofs.«01_k».proof.Proof.Gen.KernelIdeal.Points
public import Idealize.ShloMosaic.Lib.ViewIndex
public import Idealize.ShloMosaic.Lib.ShareLeaves

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## The buffers and their pieces -/

/-- The partial output, what arrives of the peers' partial outputs, the gathered rows, the reduced rows, the output. -/
abbrev bPart : Memref sig .tc .vmem S32x16x512 .bf16 := Memref.whole cc0_scratch0
abbrev bComm : Memref sig .tc .vmem S32x16x512 .bf16 := Memref.whole cc0_scratch1
abbrev bGath : Memref sig .tc .vmem S32x16x512 .bf16 := Memref.whole cc0_scratch2
abbrev bRed : Memref sig .tc .vmem S2x8x512 .bf16 := Memref.whole cc0_scratch3
abbrev bOut : Memref sig .tc .vmem S2x256x512 .f32 := win0_5.stage (cfg0.slots t0_0 5)

abbrev rP (w : Fin 2) (k : Fin 32) : Rect S32x16x512 := Rect.unit (s := S32x16x512) ![k.val, 8 * w.val, 0] S1x8x512.size (piece_inb w k)
abbrev rS (w : Fin 2) : Rect S32x16x512 := Rect.unit (s := S32x16x512) ![0, 8 * w.val, 0] S32x8x512.size (slab_inb w)
abbrev rB (w : Fin 2) : Rect S2x8x512 := Rect.unit (s := S2x8x512) ![w.val, 0, 0] S1x8x512.size (rb_inb w)
abbrev rO (w : Fin 2) (k : Fin 32) : Rect S2x256x512 := Rect.unit (s := S2x256x512) ![w.val, 8 * k.val, 0] S1x8x512.size (out_inb w k)

/-- A rectangle of a buffer held at a share. -/
abbrev pc {s : Shape} {e : EltTy} (b : Memref sig .tc .vmem s e) (r : Rect s) (c : Dev nD) (q : PosShare TreeShare)
    (f : Buf (Elt F) ((b.access r).loc (c : Thread nD τ))) : sProp 𝕄 :=
  (b.access r).loc (c : Thread nD τ) ↦[(b.access r).set]{q} f

/-- Two contents that a view reads alike are held alike through it. -/
theorem pts_read {sp : Space} {s : Shape} {e : EltTy} (v : View sig .tc sp s e) (c : Dev nD) (q : PosShare TreeShare)
    {f g : Buf (Elt F) (v.loc (c : Thread nD τ))} (h : v.read (Elt F) f = v.read (Elt F) g) :
    (v.loc (c : Thread nD τ) ↦[v.set]{q} f : sProp 𝕄) = (v.loc (c : Thread nD τ) ↦[v.set]{q} g) := by
  refine pointsTo_congr fun i hi => ?_
  obtain ⟨x, -, rfl⟩ := Finset.mem_map.mp hi
  exact View.eq_of_read_eq (congrFun h x)

/-- Elements held together are the disjoint rectangles that make them up, held side by side. -/
theorem pieces_eq {ι : Type} [Fintype ι] {sp : Space} {s : Shape} {e : EltTy} (v : View sig .tc sp s e) (T : Finset s.Idx) (R : ι → Rect s)
    (hd : ∀ i j, i ≠ j → Disjoint (R i).set (R j).set) (hc : ∀ x, x ∈ T ↔ ∃ i, x ∈ (R i).set)
    (c : Dev nD) (q : PosShare TreeShare) (f : Buf (Elt F) (v.loc (c : Thread nD τ))) :
    (v.loc (c : Thread nD τ) ↦[T.map v.emb]{q} f : sProp 𝕄)
      = bigSep Finset.univ fun i => v.loc (c : Thread nD τ) ↦[(v.slice (R i)).set]{q} f := by
  classical
  refine Eq.trans ?_ (pointsTo_biUnion (ℓ := v.loc (c : Thread nD τ)) (q := q) (f := f) Finset.univ (fun i => (v.slice (R i)).set)
    (fun i _ j _ h => View.disjoint_slice (hd i j h)))
  congr 1
  ext y
  simp only [Finset.mem_map, Finset.mem_biUnion, Finset.mem_univ, true_and, View.set_slice]
  constructor
  · rintro ⟨x, hx, rfl⟩
    obtain ⟨i, hi⟩ := (hc x).mp hx
    exact ⟨i, x, hi, rfl⟩
  · rintro ⟨i, x, hx, rfl⟩
    exact ⟨x, (hc x).mpr ⟨i, hx⟩, rfl⟩

theorem mem3 {n0 n1 n2 : Nat} {off size : Fin 3 → Nat} {inb} {i : (⟨3, ![n0, n1, n2]⟩ : Shape).Idx} :
    i ∈ (Rect.unit (s := ⟨3, ![n0, n1, n2]⟩) off size inb).set
      ↔ (off 0 ≤ (i 0).val ∧ (i 0).val < off 0 + size 0) ∧ (off 1 ≤ (i 1).val ∧ (i 1).val < off 1 + size 1) ∧ (off 2 ≤ (i 2).val ∧ (i 2).val < off 2 + size 2) := by
  rw [Rect.mem_set_unit]
  exact ⟨fun h => ⟨h 0, h 1, h 2⟩, fun h a => match a with | ⟨0, _⟩ => h.1 | ⟨1, _⟩ => h.2.1 | ⟨2, _⟩ => h.2.2⟩

theorem rP_mem (w : Fin 2) (k : Fin 32) (i : S32x16x512.Idx) : i ∈ (rP w k).set ↔ (i 0).val = k.val ∧ (i 1).val / 8 = w.val := by
  refine mem3.trans ?_
  have h2 : (i 2).val < 512 := (i 2).isLt
  show (k.val ≤ (i 0).val ∧ (i 0).val < k.val + 1) ∧ (8 * w.val ≤ (i 1).val ∧ (i 1).val < 8 * w.val + 8) ∧ (0 ≤ (i 2).val ∧ (i 2).val < 0 + 512) ↔ _
  omega
theorem rS_mem (w : Fin 2) (i : S32x16x512.Idx) : i ∈ (rS w).set ↔ (i 1).val / 8 = w.val := by
  refine mem3.trans ?_
  have h2 : (i 2).val < 512 := (i 2).isLt
  have h0 : (i 0).val < 32 := (i 0).isLt
  show (0 ≤ (i 0).val ∧ (i 0).val < 0 + 32) ∧ (8 * w.val ≤ (i 1).val ∧ (i 1).val < 8 * w.val + 8) ∧ (0 ≤ (i 2).val ∧ (i 2).val < 0 + 512) ↔ _
  omega
theorem rB_mem (w : Fin 2) (i : S2x8x512.Idx) : i ∈ (rB w).set ↔ (i 0).val = w.val := by
  refine mem3.trans ?_
  have h2 : (i 2).val < 512 := (i 2).isLt
  have h1 : (i 1).val < 8 := (i 1).isLt
  show (w.val ≤ (i 0).val ∧ (i 0).val < w.val + 1) ∧ (0 ≤ (i 1).val ∧ (i 1).val < 0 + 8) ∧ (0 ≤ (i 2).val ∧ (i 2).val < 0 + 512) ↔ _
  omega
theorem rO_mem (w : Fin 2) (k : Fin 32) (i : S2x256x512.Idx) : i ∈ (rO w k).set ↔ (i 0).val = w.val ∧ (i 1).val / 8 = k.val := by
  refine mem3.trans ?_
  have h2 : (i 2).val < 512 := (i 2).isLt
  show (w.val ≤ (i 0).val ∧ (i 0).val < w.val + 1) ∧ (8 * k.val ≤ (i 1).val ∧ (i 1).val < 8 * k.val + 8) ∧ (0 ≤ (i 2).val ∧ (i 2).val < 0 + 512) ↔ _
  omega

/-- A communication buffer held whole is its 64 pieces. -/
theorem comm_pieces (m : Memref sig .tc .vmem S32x16x512 .bf16) (hm : m.IsWhole) (c : Dev nD) (q : PosShare TreeShare)
    (f : Buf (Elt F) (m.view.loc (c : Thread nD τ))) :
    (m.view.loc (c : Thread nD τ) ↦{q} f : sProp 𝕄) = bigSep Finset.univ fun w : Fin 2 => bigSep Finset.univ fun k : Fin 32 => pc m (rP w k) c q f := by
  rw [← bigSep_univ_prod (fun x : Fin 2 × Fin 32 => pc m (rP x.1 x.2) c q f),
    ← pieces_eq m.view Finset.univ (fun x : Fin 2 × Fin 32 => rP x.1 x.2) ?_ ?_ c q f]
  · congr 1; exact hm.set_eq_univ.symm
  · intro i j hij
    rw [Finset.disjoint_left]
    intro x hx hy
    rw [rP_mem] at hx hy
    exact hij (Prod.ext (Fin.ext (by omega)) (Fin.ext (by omega)))
  · intro x
    have h1 : (x 1).val < 16 := (x 1).isLt
    exact ⟨fun _ => ⟨(⟨(x 1).val / 8, by omega⟩, x 0), (rP_mem _ _ _).mpr ⟨rfl, rfl⟩⟩, fun _ => Finset.mem_univ _⟩

/-- One wave's rows of a communication buffer are its 32 pieces. -/
theorem slab_pieces (m : Memref sig .tc .vmem S32x16x512 .bf16) (w : Fin 2) (c : Dev nD) (q : PosShare TreeShare)
    (f : Buf (Elt F) (m.view.loc (c : Thread nD τ))) :
    (pc m (rS w) c q f : sProp 𝕄) = bigSep Finset.univ fun k : Fin 32 => pc m (rP w k) c q f := by
  rw [← pieces_eq m.view (rS w).set (fun k : Fin 32 => rP w k) ?_ ?_ c q f]
  · exact congrArg (fun S => (m.view.loc (c : Thread nD τ) ↦[S]{q} f : sProp 𝕄)) (View.set_slice m.view (rS w))
  · intro i j hij
    rw [Finset.disjoint_left]
    intro x hx hy
    rw [rP_mem] at hx hy
    exact hij (Fin.ext (by omega))
  · intro x
    rw [rS_mem]
    exact ⟨fun h => ⟨x 0, (rP_mem _ _ _).mpr ⟨rfl, h⟩⟩, fun ⟨k, h⟩ => ((rP_mem _ _ _).mp h).2⟩

/-- The reduced rows held whole are the two waves' rows. -/
theorem red_pieces (m : Memref sig .tc .vmem S2x8x512 .bf16) (hm : m.IsWhole) (c : Dev nD) (q : PosShare TreeShare)
    (f : Buf (Elt F) (m.view.loc (c : Thread nD τ))) :
    (m.view.loc (c : Thread nD τ) ↦{q} f : sProp 𝕄) = bigSep Finset.univ fun w : Fin 2 => pc m (rB w) c q f := by
  rw [← pieces_eq m.view Finset.univ (fun w : Fin 2 => rB w) ?_ ?_ c q f]
  · congr 1; exact hm.set_eq_univ.symm
  · intro i j hij
    rw [Finset.disjoint_left]
    intro x hx hy
    rw [rB_mem] at hx hy
    exact hij (Fin.ext (by omega))
  · intro x
    exact ⟨fun _ => ⟨x 0, (rB_mem _ _).mpr rfl⟩, fun _ => Finset.mem_univ _⟩

/-- The output held whole is its 64 row blocks. -/
theorem out_pieces (m : Memref sig .tc .vmem S2x256x512 .f32) (hm : m.IsWhole) (c : Dev nD) (q : PosShare TreeShare)
    (f : Buf (Elt F) (m.view.loc (c : Thread nD τ))) :
    (m.view.loc (c : Thread nD τ) ↦{q} f : sProp 𝕄) = bigSep Finset.univ fun w : Fin 2 => bigSep Finset.univ fun k : Fin 32 => pc m (rO w k) c q f := by
  rw [← bigSep_univ_prod (fun x : Fin 2 × Fin 32 => pc m (rO x.1 x.2) c q f),
    ← pieces_eq m.view Finset.univ (fun x : Fin 2 × Fin 32 => rO x.1 x.2) ?_ ?_ c q f]
  · congr 1; exact hm.set_eq_univ.symm
  · intro i j hij
    rw [Finset.disjoint_left]
    intro x hx hy
    rw [rO_mem] at hx hy
    exact hij (Prod.ext (Fin.ext (by omega)) (Fin.ext (by omega)))
  · intro x
    have h1 : (x 1).val < 256 := (x 1).isLt
    exact ⟨fun _ => ⟨(x 0, ⟨(x 1).val / 8, by omega⟩), (rO_mem _ _ _).mpr ⟨rfl, rfl⟩⟩, fun _ => Finset.mem_univ _⟩

/-! ## What the buffers hold -/

/-- An index of a piece of eight rows. -/
def rowIx (j l : Nat) (hj : j < 8) (hl : l < 512) : S1x8x512.Idx := fun a =>
  match a with
  | ⟨0, _⟩ => (⟨0, Nat.one_pos⟩ : Fin 1)
  | ⟨1, _⟩ => (⟨j, hj⟩ : Fin 8)
  | ⟨2, _⟩ => (⟨l, hl⟩ : Fin 512)

theorem rowIx_eq (x : S1x8x512.Idx) (j l : Nat) (hj : j < 8) (hl : l < 512) (h1 : j = (x 1).val) (h2 : l = (x 2).val) : rowIx j l hj hl = x := by
  funext a
  match a with
  | ⟨0, _⟩ => exact Fin.ext (Nat.lt_one_iff.mp (x 0).isLt).symm
  | ⟨1, _⟩ => exact Fin.ext h1
  | ⟨2, _⟩ => exact Fin.ext h2

/-- A communication buffer's contents, piece by piece. -/
def glue (v : Fin 2 → Fin 32 → FVec F S1x8x512 .bf16) : Vec F S32x16x512 .bf16 := fun i =>
  v ⟨(i 1).val / 8, (Nat.div_lt_iff_lt_mul (by decide)).mpr (i 1).isLt⟩ ⟨(i 0).val, (i 0).isLt⟩
    (rowIx ((i 1).val % 8) (i 2).val (Nat.mod_lt _ (by decide)) (i 2).isLt)
/-- The reduced rows' contents, wave by wave. -/
def glueB (v : Fin 2 → FVec F S1x8x512 .bf16) : Vec F S2x8x512 .bf16 := fun i =>
  v ⟨(i 0).val, (i 0).isLt⟩ (rowIx (i 1).val (i 2).val (i 1).isLt (i 2).isLt)
/-- The output's contents, row block by row block. -/
def glueO (v : Fin 2 → Fin 32 → FVec F S1x8x512 .f32) : Vec F S2x256x512 .f32 := fun i =>
  v ⟨(i 0).val, (i 0).isLt⟩ ⟨(i 1).val / 8, (Nat.div_lt_iff_lt_mul (by decide)).mpr (i 1).isLt⟩
    (rowIx ((i 1).val % 8) (i 2).val (Nat.mod_lt _ (by decide)) (i 2).isLt)

theorem glue_at (v : Fin 2 → Fin 32 → FVec F S1x8x512 .bf16) (w : Fin 2) (k : Fin 32) (x : S1x8x512.Idx) : glue v ((rP w k).emb x) = v w k x := by
  have h0 : (x 0).val < 1 := (x 0).isLt
  have h1 : (x 1).val < 8 := (x 1).isLt
  have e0 : (((rP w k).emb x) 0).val = k.val + 1 * (x 0).val := rfl
  have e1 : (((rP w k).emb x) 1).val = 8 * w.val + 1 * (x 1).val := rfl
  have e2 : (((rP w k).emb x) 2).val = 0 + 1 * (x 2).val := rfl
  exact congr (congr (congrArg v (Fin.ext (by simp only [e1]; omega))) (Fin.ext (by simp only [e0]; omega)))
    (rowIx_eq x _ _ _ _ (by rw [e1]; omega) (by rw [e2]; omega))
theorem glueB_at (v : Fin 2 → FVec F S1x8x512 .bf16) (w : Fin 2) (x : S1x8x512.Idx) : glueB v ((rB w).emb x) = v w x := by
  have h0 : (x 0).val < 1 := (x 0).isLt
  have e0 : (((rB w).emb x) 0).val = w.val + 1 * (x 0).val := rfl
  have e1 : (((rB w).emb x) 1).val = 0 + 1 * (x 1).val := rfl
  have e2 : (((rB w).emb x) 2).val = 0 + 1 * (x 2).val := rfl
  exact congr (congrArg v (Fin.ext (by simp only [e0]; omega))) (rowIx_eq x _ _ _ _ (by rw [e1]; omega) (by rw [e2]; omega))
theorem glueO_at (v : Fin 2 → Fin 32 → FVec F S1x8x512 .f32) (w : Fin 2) (k : Fin 32) (x : S1x8x512.Idx) : glueO v ((rO w k).emb x) = v w k x := by
  have h0 : (x 0).val < 1 := (x 0).isLt
  have h1 : (x 1).val < 8 := (x 1).isLt
  have e0 : (((rO w k).emb x) 0).val = w.val + 1 * (x 0).val := rfl
  have e1 : (((rO w k).emb x) 1).val = 8 * k.val + 1 * (x 1).val := rfl
  have e2 : (((rO w k).emb x) 2).val = 0 + 1 * (x 2).val := rfl
  exact congr (congr (congrArg v (Fin.ext (by simp only [e0]; omega))) (Fin.ext (by simp only [e1]; omega)))
    (rowIx_eq x _ _ _ _ (by rw [e1]; omega) (by rw [e2]; omega))

/-- What the pieces of such buffers read. -/
theorem read_glue0 (v : Fin 2 → Fin 32 → FVec F S1x8x512 .bf16) (w : Fin 2) (k : Fin 32) : (bPart.access (rP w k)).read (Elt F) (glue v) = v w k :=
  funext fun x => glue_at v w k x
theorem read_glue1 (v : Fin 2 → Fin 32 → FVec F S1x8x512 .bf16) (w : Fin 2) (k : Fin 32) : (bComm.access (rP w k)).read (Elt F) (glue v) = v w k :=
  funext fun x => glue_at v w k x
theorem read_glue2 (v : Fin 2 → Fin 32 → FVec F S1x8x512 .bf16) (w : Fin 2) (k : Fin 32) : (bGath.access (rP w k)).read (Elt F) (glue v) = v w k :=
  funext fun x => glue_at v w k x
theorem read_glue3 (v : Fin 2 → FVec F S1x8x512 .bf16) (w : Fin 2) : (bRed.access (rB w)).read (Elt F) (glueB v) = v w :=
  funext fun x => glueB_at v w x
theorem read_glue5 (v : Fin 2 → Fin 32 → FVec F S1x8x512 .f32) (w : Fin 2) (k : Fin 32) : (bOut.access (rO w k)).read (Elt F) (glueO v) = v w k :=
  funext fun x => glueO_at v w k x

end Cert.KernelIdeal.Mine

end
-- ==== Proof.Protocol.lean ====
/- The protocol of the kernel's semaphores: which cells there are, what is paid to each and by whom, what a
   device owes at each point, and in which order the cells are waited for. -/
module

public import proofs.«01_k».proof.Proof.Pieces
public import Idealize.ShloMosaic.Lib.Rounds
public import Idealize.ShloMosaic.Lib.Pipeline.RegionTalk

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The kernel's own semaphores: sending (phase, wave, distance), receiving (phase, wave, source), local copies (wave). -/
abbrev Own : Type := (Fin 2 × Fin 2 × Fin 31) ⊕ (Fin 2 × Fin 2 × Fin 32) ⊕ Fin 2

abbrev oSend (p w : Fin 2) (r : Fin 31) : Own := .inl (p, w, r)
abbrev oRecv (p w : Fin 2) (s : Fin 32) : Own := .inr (.inl (p, w, s))
abbrev oLoc (w : Fin 2) : Own := .inr (.inr w)

/-- The place of each among the machine's counters. -/
def semNum : Own → Nat
  | .inl (p, w, r) => 6 + 126 * p.val + 31 * w.val + r.val
  | .inr (.inl (p, w, s)) => 68 + 126 * p.val + 32 * w.val + s.val
  | .inr (.inr w) => 258 + w.val

theorem semNum_lt (k : Own) : semNum k < 260 := by
  rcases k with ⟨p, w, r⟩ | ⟨p, w, s⟩ | w <;> simp only [semNum] <;> omega

def semIx (k : Own) : DmaSem sig := ⟨semNum k, semNum_lt k⟩
def semOf (k : Own) : SemLoc sig := .dma (semIx k)

theorem two (p : Fin 2) : p.val = 0 ∨ p.val = 1 := by omega

theorem semNum_inj : Function.Injective semNum := by
  rintro (⟨p, w, r⟩ | ⟨p, w, s⟩ | w) (⟨p', w', r'⟩ | ⟨p', w', s'⟩ | w') h <;> simp only [semNum] at h
  case inl.inl =>
    have : p.val = p'.val ∧ w.val = w'.val ∧ r.val = r'.val := by
      rcases two p with h1 | h1 <;> rcases two w with h2 | h2 <;> rcases two p' with h3 | h3 <;> rcases two w' with h4 | h4 <;> omega
    rw [show p = p' from Fin.ext this.1, show w = w' from Fin.ext this.2.1, show r = r' from Fin.ext this.2.2]
  case inr.inl.inr.inl =>
    have : p.val = p'.val ∧ w.val = w'.val ∧ s.val = s'.val := by
      rcases two p with h1 | h1 <;> rcases two w with h2 | h2 <;> rcases two p' with h3 | h3 <;> rcases two w' with h4 | h4 <;> omega
    rw [show p = p' from Fin.ext this.1, show w = w' from Fin.ext this.2.1, show s = s' from Fin.ext this.2.2]
  case inr.inr.inr.inr => rw [show w = w' from Fin.ext (by omega)]
  case inl.inr.inl => exfalso; rcases two p with h1 | h1 <;> rcases two w with h2 | h2 <;> rcases two p' with h3 | h3 <;> rcases two w' with h4 | h4 <;> omega
  case inr.inl.inl => exfalso; rcases two p with h1 | h1 <;> rcases two w with h2 | h2 <;> rcases two p' with h3 | h3 <;> rcases two w' with h4 | h4 <;> omega
  all_goals exfalso; omega

theorem semOf_inj : Function.Injective semOf := fun a b h =>
  semNum_inj (congrArg Fin.val (SemLoc.dma.inj h))

/-- Which of them a counter is. -/
def kindOf : SemLoc sig → Option Own := Function.partialInv semOf
theorem kindOf_semOf (k : Own) : kindOf (semOf k) = some k := Function.partialInv_left semOf_inj k

abbrev barS : Sem sig := (SemArray.scalar (sig.barrier 0 rfl) : Sems sig S_).sem
abbrev barCell (c : Dev nD) : GSem nD τ sig := ((c : Thread nD τ), .reg barS)
abbrev cell (c : Dev nD) (k : Own) : GSem nD τ sig := ((c : Thread nD τ), semOf k)

theorem semOf_ne_bar (k : Own) : semOf k ≠ .reg barS := fun h => by cases h

theorem semS_send1 : ∀ (w : Fin 2) (r : Fin 31), semS cc0_scratch4 w r = semIx (oSend 0 w r) := by decide +kernel
theorem semS_send2 : ∀ (w : Fin 2) (r : Fin 31), semS cc0_scratch6 w r = semIx (oSend 1 w r) := by decide +kernel
theorem semR_recv1' : ∀ (w : Fin 2) (s : Fin 32), semR cc0_scratch5 ![w.val, s.val] (recv_inb w s) = semIx (oRecv 0 w s) := by decide +kernel
theorem semR_recv2' : ∀ (w : Fin 2) (s : Fin 32), semR cc0_scratch7 ![w.val, s.val] (recv_inb w s) = semIx (oRecv 1 w s) := by decide +kernel
theorem semL_loc : ∀ (w : Fin 2), semL cc0_scratch8 w = semIx (oLoc w) := by decide +kernel
theorem semR_recv1 {w : Fin 2} {s : Fin 32} {off : Fin 2 → Nat} (h : off = ![w.val, s.val]) (h' : ∀ a, off a + S1x1.size a ≤ S2x32.size a) :
    semR cc0_scratch5 off h' = semIx (oRecv 0 w s) := by subst h; exact semR_recv1' w s
theorem semR_recv2 {w : Fin 2} {s : Fin 32} {off : Fin 2 → Nat} (h : off = ![w.val, s.val]) (h' : ∀ a, off a + S1x1.size a ≤ S2x32.size a) :
    semR cc0_scratch7 off h' = semIx (oRecv 1 w s) := by subst h; exact semR_recv2' w s

/-- What one slot's copy credits. -/
abbrev N : ℕ := (slot bComm ![0, 0, 0] (piece_inb 0 0)).view.dmaCredit
theorem N_pos : 0 < N := View.dmaCredit_pos _ (by decide)

/-! ## What the buffers hold, from the devices' partial outputs -/

section Contents
variable (P : Dev nD → Fin 2 → FVec F S256x512 .bf16)

def partC (c : Dev nD) : Vec F S32x16x512 .bf16 := glue fun w k => chunk (P c w) k
def commC (c : Dev nD) : Vec F S32x16x512 .bf16 := glue fun w s => chunk (P s w) c
def redV (c : Dev nD) (w : Fin 2) : FVec F S1x8x512 .bf16 := k0_pay101 ((bComm.access (rS w)).read (Elt F) (commC P c))
def redC (c : Dev nD) : Vec F S2x8x512 .bf16 := glueB (redV P c)
def gathC : Vec F S32x16x512 .bf16 := glue fun w k => redV P k w
def outC : Vec F S2x256x512 .f32 := glueO fun w k => k0_pay1 (redV P k w)

/-- What is lent to the copy number (phase, wave) from `c` to `k`. -/
def srcPc (p w : Fin 2) (c k : Dev nD) : sProp 𝕄 :=
  if p = 0 then pc bPart (rP w k) c fullShare (partC P c) else pc bRed (rB w) c (ShareLeaves.leaf 5 fullShare k) (redC P c)
/-- What it makes of its destination on `c`, when it comes from `s`. -/
def dstPc (p w : Fin 2) (c s : Dev nD) : sProp 𝕄 :=
  if p = 0 then pc bComm (rP w s) c fullShare (commC P c) else pc bGath (rP w s) c fullShare (gathC P)
end Contents

/-- The destination, at contents not chosen. -/
def dstAny (p w : Fin 2) (c s : Dev nD) : sProp 𝕄 :=
  if p = 0 then iprop(∃ f : Buf (Elt F) ((bComm.access (rP w s)).loc (c : Thread nD τ)), pc bComm (rP w s) c fullShare f)
  else iprop(∃ f : Buf (Elt F) ((bGath.access (rP w s)).loc (c : Thread nD τ)), pc bGath (rP w s) c fullShare f)

/-! ## The schedule -/

section Sched
variable (P : Dev nD → Fin 2 → FVec F S256x512 .bf16)

/-- What device `d` gives with its signal to `c`: its destinations for `c`, in both phases and waves, and that the cells they are
    credited to are open. -/
def barPay (c d : Dev nD) : sProp 𝕄 :=
  bigSep Finset.univ fun p : Fin 2 => bigSep Finset.univ fun w : Fin 2 => iprop(dstAny (F := F) p w d c ∗ reached ER (cell d (oRecv p w c)) 0)

/-- What is paid to a cell of device `c` in round `r`. -/
def ownPay (c : Dev nD) (r : ℕ) : Own → sProp 𝕄
  | .inl (p, w, i) => srcPc P p w c (peer c i)
  | .inr (.inl (p, w, s)) => dstPc P p w c s
  | .inr (.inr w) => if r = 0 then iprop(dstPc P 0 w c c ∗ srcPc P 0 w c c) else iprop(dstPc P 1 w c c ∗ srcPc P 1 w c c)

/-- Whether a cell of device `c` is paid to in round `r`. -/
def ownDue (c : Dev nD) (r : ℕ) : Own → Bool
  | .inl _ => r = 0
  | .inr (.inl (_, _, s)) => r = 0 ∧ s ≠ c
  | .inr (.inr _) => r < 2

def dutiesOf (g : GSem nD τ sig) (r : ℕ) : Finset (Dev nD) :=
  if g.2 = .reg barS then (if r = 0 then Finset.univ.erase g.1.1 else ∅)
  else match kindOf g.2 with
    | some k => if ownDue g.1.1 r k then {0} else ∅
    | none => ∅

def payloadOf (g : GSem nD τ sig) (r : ℕ) (d : Dev nD) : sProp 𝕄 :=
  if g.2 = .reg barS then barPay g.1.1 d
  else match kindOf g.2 with
    | some k => ownPay P g.1.1 r k
    | none => iprop(emp)

def rd : Rounds.Schedule (GSem nD τ sig) (Dev nD) 𝕄 where
  duties g r := if g.1.2 = .tc then dutiesOf g r else ∅
  unitless _ := False
  amount g _ _ := if g.2 = .reg barS then 1 else N
  payload g r d := payloadOf P g r d
  amount_pos g _ _ _ := by
    by_cases h : g.2 = .reg barS
    · rw [if_pos h]; exact Nat.one_pos
    · rw [if_neg h]; exact N_pos

instance srcPc_storable (p w : Fin 2) (c k : Dev nD) : BI.Storable (upEmb : UEmb _ 𝕄) (srcPc (F := F) P p w c k) := by
  unfold srcPc; split <;> infer_instance
instance dstPc_storable (p w : Fin 2) (c k : Dev nD) : BI.Storable (upEmb : UEmb _ 𝕄) (dstPc (F := F) P p w c k) := by
  unfold dstPc; split <;> infer_instance
instance dstAny_storable (p w : Fin 2) (c k : Dev nD) : BI.Storable (upEmb : UEmb _ 𝕄) (dstAny (F := F) p w c k) := by
  unfold dstAny; split <;> infer_instance
instance barPay_storable (c d : Dev nD) : BI.Storable (upEmb : UEmb _ 𝕄) (barPay (F := F) c d) := by
  unfold barPay; infer_instance
instance ownPay_storable (c : Dev nD) (r : ℕ) (k : Own) : BI.Storable (upEmb : UEmb _ 𝕄) (ownPay (F := F) P c r k) := by
  rcases k with ⟨p, w, i⟩ | ⟨p, w, s⟩ | w <;> simp only [ownPay]
  · infer_instance
  · infer_instance
  · split <;> infer_instance
instance rd_payload_storable (g : GSem nD τ sig) (r : ℕ) (d : Dev nD) : BI.Storable (upEmb : UEmb _ 𝕄) ((rd (F := F) P).payload g r d) := by
  show BI.Storable upEmb (payloadOf P g r d)
  unfold payloadOf
  split
  · infer_instance
  · split <;> infer_instance

theorem duties_bar (c : Dev nD) : (rd (F := F) P).duties (barCell c) 0 = Finset.univ.erase c := by
  dsimp only [rd, dutiesOf]; rw [if_pos rfl, if_pos rfl, if_pos rfl]
theorem duties_bar_later (c : Dev nD) : ∀ r, 1 ≤ r → (rd (F := F) P).duties (barCell c) r = ∅ := fun r hr => by
  dsimp only [rd, dutiesOf]; rw [if_pos rfl, if_pos rfl, if_neg (by omega)]
theorem duties_own (c : Dev nD) (k : Own) (r : ℕ) : (rd (F := F) P).duties (cell c k) r = if ownDue c r k then {0} else ∅ := by
  dsimp only [rd, dutiesOf]; rw [if_pos rfl, if_neg (semOf_ne_bar k), kindOf_semOf]
theorem duties_due (c : Dev nD) (k : Own) (r : ℕ) (h : ownDue c r k = true) : (rd (F := F) P).duties (cell c k) r = {0} := by
  rw [duties_own, if_pos h]
theorem mem_due (c : Dev nD) (k : Own) (r : ℕ) (h : ownDue c r k = true) : (0 : Dev nD) ∈ (rd (F := F) P).duties (cell c k) r := by
  rw [duties_due P c k r h]; exact Finset.mem_singleton_self _
theorem duties_none (c : Dev nD) (k : Own) (r : ℕ) (h : ownDue c r k = false) : (rd (F := F) P).duties (cell c k) r = ∅ := by
  rw [duties_own, if_neg (by rw [h]; decide)]

theorem amount_bar (c : Dev nD) (r : ℕ) (d : Dev nD) : (rd (F := F) P).amount (barCell c) r d = 1 := by dsimp only [rd]; exact if_pos rfl
theorem amount_own (c : Dev nD) (k : Own) (r : ℕ) (d : Dev nD) : (rd (F := F) P).amount (cell c k) r d = N := by
  dsimp only [rd]; exact if_neg (semOf_ne_bar k)

theorem expect_bar (c : Dev nD) : (rd (F := F) P).expect (barCell c) 0 = 31 := by
  unfold Schedule.expect Schedule.amountOf
  rw [duties_bar, Finset.sum_congr rfl (fun d _ => amount_bar P c 0 d), Finset.sum_const, Finset.card_erase_of_mem (Finset.mem_univ c)]
  rfl
theorem expect_own (c : Dev nD) (k : Own) (r : ℕ) (h : ownDue c r k = true) : (rd (F := F) P).expect (cell c k) r = N := by
  unfold Schedule.expect Schedule.amountOf
  rw [duties_due P c k r h, Finset.sum_singleton, amount_own]

theorem payload_bar (c d : Dev nD) (r : ℕ) : (rd (F := F) P).payload (barCell c) r d = barPay c d := by
  dsimp only [rd, payloadOf]; exact if_pos rfl
theorem payload_own (c : Dev nD) (k : Own) (r : ℕ) (d : Dev nD) : (rd (F := F) P).payload (cell c k) r d = ownPay P c r k := by
  dsimp only [rd, payloadOf]; rw [if_neg (semOf_ne_bar k), kindOf_semOf]

theorem rest_bar (c : Dev nD) : bigSep ((rd (F := F) P).duties (barCell c) 0 \ ∅) (fun d => (rd (F := F) P).payload (barCell c) 0 d)
    = bigSep (Finset.univ.erase c) (fun d => barPay c d) := by
  rw [Finset.sdiff_empty, duties_bar]; exact bigSep_congr fun d _ => payload_bar P c d 0
theorem rest_own (c : Dev nD) (k : Own) (r : ℕ) (h : ownDue c r k = true) :
    bigSep ((rd (F := F) P).duties (cell c k) r \ ∅) (fun d => (rd (F := F) P).payload (cell c k) r d) = ownPay P c r k := by
  rw [Finset.sdiff_empty, duties_due P c k r h, bigSep_singleton, payload_own]

end Sched

/-! ## What a device owes -/

/-- The cell of the payment number `n`: the 31 signals, then for each phase and wave the 31 copies. -/
def payCell (c : Dev nD) (n : ℕ) : GSem nD τ sig :=
  if n < 31 then barCell (peer c ⟨n % 31, Nat.mod_lt _ (by decide)⟩)
  else cell (peer c ⟨n % 31, Nat.mod_lt _ (by decide)⟩)
    (oRecv ⟨(n / 31 - 1) / 2 % 2, Nat.mod_lt _ (by decide)⟩ ⟨(n / 31 - 1) % 2, Nat.mod_lt _ (by decide)⟩ c)
def payAmt (n : ℕ) : ℕ := if n < 31 then 1 else N
def pays (c : Dev nD) (n : ℕ) : CellTallies nD τ sig Unit := tallyAt (payCell c n) () (payAmt n)

/-- What is still owed once the first `n` payments are made. -/
def owed (c : Dev nD) (n : ℕ) : CellTallies nD τ sig Unit := ∑ i ∈ Finset.Ico n 155, pays c i

theorem owed_step (c : Dev nD) (n : ℕ) (h : n < 155) : owed c n = owed c (n + 1) + pays c n := by
  unfold owed
  have e : Finset.Ico n 155 = insert n (Finset.Ico (n + 1) 155) := by ext i; simp only [Finset.mem_insert, Finset.mem_Ico]; omega
  rw [e, Finset.sum_insert (by simp only [Finset.mem_Ico]; omega), add_comm]
theorem owed_end (c : Dev nD) : owed c 155 = 0 := by unfold owed; rw [Finset.Ico_self, Finset.sum_empty]

theorem pays_bar (c : Dev nD) (r : Fin 31) : pays c r.val = tallyAt (barCell (peer c r)) () 1 := by
  unfold pays payCell payAmt
  rw [if_pos r.isLt, if_pos r.isLt]
  have e : (⟨r.val % 31, Nat.mod_lt _ (by decide)⟩ : Fin 31) = r := Fin.ext (Nat.mod_eq_of_lt r.isLt)
  rw [e]
theorem pays_copy (c : Dev nD) (p w : Fin 2) (r : Fin 31) :
    pays c (31 + 62 * p.val + 31 * w.val + r.val) = tallyAt (cell (peer c r) (oRecv p w c)) () N := by
  have h : ¬ 31 + 62 * p.val + 31 * w.val + r.val < 31 := by omega
  unfold pays payCell payAmt
  rw [if_neg h, if_neg h]
  have e1 : (⟨(31 + 62 * p.val + 31 * w.val + r.val) % 31, Nat.mod_lt _ (by decide)⟩ : Fin 31) = r := Fin.ext (by simp only; omega)
  have e2 : (⟨((31 + 62 * p.val + 31 * w.val + r.val) / 31 - 1) / 2 % 2, Nat.mod_lt _ (by decide)⟩ : Fin 2) = p := Fin.ext (by simp only; omega)
  have e3 : (⟨((31 + 62 * p.val + 31 * w.val + r.val) / 31 - 1) % 2, Nat.mod_lt _ (by decide)⟩ : Fin 2) = w := Fin.ext (by simp only; omega)
  rw [e1, e2, e3]

theorem owed_pos (c : Dev nD) (n : ℕ) {g : GSem nD τ sig} {u : Unit} (h : 0 < owed c n g u) : ∃ i, n ≤ i ∧ i < 155 ∧ g = payCell c i := by
  by_contra hc
  push Not at hc
  have : owed c n g u = 0 := by
    unfold owed
    rw [Finset.sum_apply, Finsupp.finset_sum_apply]
    refine Finset.sum_eq_zero fun i hi => ?_
    rw [Finset.mem_Ico] at hi
    unfold pays
    rw [tallyAt_apply, if_neg (fun h => hc i hi.1 hi.2 h.1)]
  omega

/-! ## The order of the cells -/

def L (g : GSem nD τ sig) : Finset Unit := if g.1.2 = .tc then {()} else ∅
/-- A cell's place in the order: sends and local copies first, then the barrier, then the two phases' receive cells. -/
def rank : Option Own → ℕ
  | some (.inr (.inl (p, _, _))) => 2 + p.val
  | _ => 0
def lv (g : GSem nD τ sig) (_ : Unit) : ℕ := if g.2 = .reg barS then 1 else rank (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_own (c : Dev nD) (k : Own) (u : Unit) : lv (cell c k) u = rank (some k) := by
  unfold lv; rw [if_neg (semOf_ne_bar k), kindOf_semOf]

/-- Waiting for a cell is in order when every payment still owed goes to a later one. -/
theorem mayWait (c : Dev nD) (sm : SemLoc sig) (n b : ℕ) (h1 : lv ((c : Thread nD τ), sm) () ≤ b)
    (h2 : ∀ i, n ≤ i → i < 155 → b < lv (payCell c i) ()) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by
      obtain ⟨i, -, -, rfl⟩ := owed_pos c n hg
      unfold payCell
      split <;> rw [L_tc] <;> exact Finset.mem_singleton_self _)
    (fun p hp => by rw [Finset.mem_singleton.mp hp]; exact h1)
    (fun g u hg => by
      obtain ⟨i, hi, hi', rfl⟩ := owed_pos c n hg
      exact h2 i hi hi')

theorem lv_pay (c : Dev nD) (n : ℕ) (h : 31 ≤ n) (h' : n < 155) : lv (payCell c n) () = 2 + (n / 31 - 1) / 2 := by
  unfold payCell
  rw [if_neg (by omega), lv_own]
  show 2 + (n / 31 - 1) / 2 % 2 = _
  omega

/-- The barrier is waited for once all the signals are sent. -/
theorem mayWait_bar (c : Dev nD) : (levAts L lv : sProp 𝕄) ⊢ MayWait (c : Thread nD τ) (.reg barS) () (owed c 31) :=
  mayWait c _ 31 1 (le_of_eq (lv_bar c ())) fun i hi hi' => by rw [lv_pay c i hi hi']; omega
/-- A cell of the first phase is waited for once its copies are sent; a cell of the second once everything is. -/
theorem mayWait_recv (c : Dev nD) (p w : Fin 2) (s : Fin 32) (n : ℕ) (h : 93 + 62 * p.val ≤ n) :
    (levAts L lv : sProp 𝕄) ⊢ MayWait (c : Thread nD τ) (semOf (oRecv p w s)) () (owed c n) :=
  mayWait c _ n (2 + p.val) (le_of_eq (lv_own c (oRecv p w s) ())) fun i hi hi' => by rw [lv_pay c i (by omega) hi']; omega
/-- A local copy is waited for at any time after the signals. -/
theorem mayWait_loc (c : Dev nD) (w : Fin 2) (n : ℕ) (h : 31 ≤ n) :
    (levAts L lv : sProp 𝕄) ⊢ MayWait (c : Thread nD τ) (semOf (oLoc w)) () (owed c n) :=
  mayWait c _ n 0 (le_of_eq (lv_own c (oLoc w) ())) fun i hi hi' => by rw [lv_pay c i (by omega) hi']; omega
theorem mayWait_send (c : Dev nD) (p w : Fin 2) (r : Fin 31) (n : ℕ) (h : 31 ≤ n) :
    (levAts L lv : sProp 𝕄) ⊢ MayWait (c : Thread nD τ) (semOf (oSend p w r)) () (owed c n) :=
  mayWait c _ n 0 (le_of_eq (lv_own c (oSend p w r) ())) fun i hi hi' => by rw [lv_pay c i (by omega) hi']; omega

end Cert.KernelIdeal.Mine

end
-- ==== Proof.Steps.lean ====
/- The kernel's single operations, each by one triple: a signal, a copy to a peer, a local copy, a wait; and the rule
   for a loop. -/
module

public import proofs.«01_k».proof.Proof.Protocol
public import Idealize.ShloMosaic.Lib.Pipeline.Regions
public import Idealize.ShloMosaic.Lib.Tactic

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Code" => Prog (TpuEff nD τ sig (Elt F) Λ₀ Proc.tc) PUnit

abbrev 𝒱₀ : Variants := Variants.none

/-- A device's run of a piece of the body. -/
abbrev WP (c : Dev nD) (p : Code) (Q : PUnit → sProp 𝕄) : sProp 𝕄 :=
  wp frame (wpE (defs₀ (F := F)) 𝒱₀ (c : Thread nD τ) none) Set.univ p Q

theorem WP_seq (c : Dev nD) (p : Code) (k : PUnit → Code) (Q : PUnit → sProp 𝕄) :
    WP c (p >>= k) Q = WP c p fun x => WP c (k x) Q := wp_bind ..

theorem WP_ret (c : Dev nD) (Q : PUnit → sProp 𝕄) : WP c (.ret ⟨⟩) Q = iprop(|={Set.univ}=> Q ⟨⟩) := wp_ret ..

theorem big_insert {I : Type} [DecidableEq I] {s : Finset I} {i : I} (hi : i ∉ s) (Φ : I → sProp 𝕄) :
    bigSep (insert i s) Φ = iprop(Φ i ∗ bigSep s Φ) := BI.bigSep_insert hi
theorem big_elim {I : Type} [DecidableEq I] [Fintype I] (i : I) (Φ : I → sProp 𝕄) : bigSep Finset.univ Φ ⊢ Φ i := BI.bigSep_elim (Finset.mem_univ i)

/-! ## Loops -/

theorem wp_forLast (c : Dev nD) {n : ℕ} (f : Fin n → Code) (R : sProp 𝕄) [BI.Persistent R] (St : ℕ → sProp 𝕄) (Pre Post : Fin n → sProp 𝕄)
    (h : ∀ (r : Fin n) (Q : PUnit → sProp 𝕄), iprop(R ∗ St r.val ∗ Pre r ∗ (St (r.val + 1) -∗ Post r -∗ Q ⟨⟩)) ⊢ WP c (f r) Q) :
    ∀ (k : ℕ) (hk : k ≤ n) (Q : PUnit → sProp 𝕄),
      iprop(R ∗ St (n - k) ∗ bigSep (Finset.univ.filter fun i : Fin n => n - k ≤ i.val) Pre
        ∗ (St n -∗ bigSep (Finset.univ.filter fun i : Fin n => n - k ≤ i.val) Post -∗ Q ⟨⟩)) ⊢ WP c (forLast f k hk) Q := by
  intro k
  induction k with
  | zero =>
    intro hk Q
    have e : (Finset.univ.filter fun i : Fin n => n - 0 ≤ i.val) = ∅ := by
      ext i; have := i.isLt
      simp only [Finset.mem_filter, Finset.mem_univ, _root_.true_and, Nat.sub_zero, Finset.notMem_empty, iff_false]; omega
    rw [e, bigSep_empty, bigSep_empty, Nat.sub_zero]
    unfold forLast
    iintro ⟨-, HS, -, Hk⟩
    iapply (Entails.of_eq (WP_ret c Q).symm)
    imodintro
    iapply Hk $$ HS
    iempintro
  | succ k ih =>
    intro hk Q
    have hlt : n - (k + 1) < n := by omega
    have e : (Finset.univ.filter fun i : Fin n => n - (k + 1) ≤ i.val)
        = insert ⟨n - (k + 1), hlt⟩ (Finset.univ.filter fun i : Fin n => n - k ≤ i.val) := by
      ext i
      simp only [Finset.mem_insert, Finset.mem_filter, Finset.mem_univ, _root_.true_and, Fin.ext_iff]; omega
    have hni : (⟨n - (k + 1), hlt⟩ : Fin n) ∉ (Finset.univ.filter fun i : Fin n => n - k ≤ i.val) := by
      simp only [Finset.mem_filter, Finset.mem_univ, _root_.true_and]; omega
    rw [e, big_insert hni, big_insert hni]
    have hs := h ⟨n - (k + 1), hlt⟩ (fun _ => WP c (forLast f k (Nat.le_of_succ_le hk)) Q)
    have hi := ih (Nat.le_of_succ_le hk) Q
    unfold forLast
    rw [WP_seq]
    simp only at hs
    rw [show n - (k + 1) + 1 = n - k from by omega] at hs
    iintro ⟨#HR, HS, ⟨Hp, Hps⟩, Hk⟩
    iapply hs
    isplitr; · iexact HR
    isplitl [HS]; · iexact HS
    isplitl [Hp]; · iexact Hp
    iintro HS Hq
    iapply hi
    isplitr; · iexact HR
    isplitl [HS]; · iexact HS
    isplitl [Hps]; · iexact Hps
    iintro HS Hqs
    iapply Hk $$ HS
    isplitl [Hq]; · iexact Hq
    iexact Hqs

/-- A loop runs from a family of resources, one per turn, and leaves another, while a state is carried along. -/
theorem wp_forFin (c : Dev nD) {n : ℕ} (f : Fin n → Code) (R : sProp 𝕄) [BI.Persistent R] (St : ℕ → sProp 𝕄) (Pre Post : Fin n → sProp 𝕄)
    (h : ∀ (r : Fin n) (Q : PUnit → sProp 𝕄), iprop(R ∗ St r.val ∗ Pre r ∗ (St (r.val + 1) -∗ Post r -∗ Q ⟨⟩)) ⊢ WP c (f r) Q)
    (Q : PUnit → sProp 𝕄) :
    iprop(R ∗ St 0 ∗ bigSep Finset.univ Pre ∗ (St n -∗ bigSep Finset.univ Post -∗ Q ⟨⟩)) ⊢ WP c (forFin n f) Q := by
  have := wp_forLast c f R St Pre Post h n (Nat.le_refl n) Q
  have e : (Finset.univ.filter fun i : Fin n => n - n ≤ i.val) = Finset.univ := by
    ext i; simp only [Finset.mem_filter, Finset.mem_univ, _root_.true_and, Nat.sub_self, Nat.zero_le]
  rwa [e, Nat.sub_self] at this

/-! ## The devices as seen from one of them -/

theorem peer_inj (c : Dev nD) : Function.Injective (peer c) := fun a b h => by
  have h' : (c.val + (1 + a.val)) % 32 = (c.val + (1 + b.val)) % 32 := congrArg Fin.val h
  have := c.isLt; have ha := a.isLt; have hb := b.isLt
  exact Fin.ext (by have : (c.val : ℕ) < 32 := c.isLt; omega)
theorem src_inj (c : Dev nD) : Function.Injective (src c) := fun a b h => by
  have h' : (c.val + (31 - a.val)) % 32 = (c.val + (31 - b.val)) % 32 := congrArg Fin.val h
  have : (c.val : ℕ) < 32 := c.isLt
  exact Fin.ext (by omega)
theorem peer_ne (c : Dev nD) (r : Fin 31) : peer c r ≠ c := fun h => by
  have h' : (c.val + (1 + r.val)) % 32 = c.val := congrArg Fin.val h
  have : (c.val : ℕ) < 32 := c.isLt
  omega
theorem src_ne (c : Dev nD) (r : Fin 31) : src c r ≠ c := fun h => by
  have h' : (c.val + (31 - r.val)) % 32 = c.val := congrArg Fin.val h
  have : (c.val : ℕ) < 32 := c.isLt
  omega

theorem erase_along (f : Fin 31 → Dev nD) (hi : Function.Injective f) (c : Dev nD) (hc : ∀ r, f r ≠ c) (Φ : Dev nD → sProp 𝕄) :
    bigSep (Finset.univ.erase c) Φ = bigSep Finset.univ fun r => Φ (f r) := by
  refine Eq.trans ?_ (BI.bigSep_map (s := Finset.univ) (⟨f, hi⟩ : Fin 31 ↪ Dev nD) (Φ := Φ))
  congr 1
  symm
  refine Finset.eq_of_subset_of_card_le (fun x hx => ?_) ?_
  · obtain ⟨r, -, rfl⟩ := Finset.mem_map.mp hx
    exact Finset.mem_erase.mpr ⟨hc r, Finset.mem_univ _⟩
  · rw [Finset.card_map, Finset.card_erase_of_mem (Finset.mem_univ c)]; decide

/-- A family over the devices is the own member and the peers', in the order of sending. -/
theorem devs_peer (c : Dev nD) (Φ : Dev nD → sProp 𝕄) :
    bigSep Finset.univ Φ = iprop(Φ c ∗ bigSep Finset.univ fun r => Φ (peer c r)) := by
  rw [bigSep_univ_split c, erase_along (peer c) (peer_inj c) c (peer_ne c)]; rfl
/-- Likewise in the order of waiting. -/
theorem devs_src (c : Dev nD) (Φ : Dev nD → sProp 𝕄) :
    bigSep Finset.univ Φ = iprop(Φ c ∗ bigSep Finset.univ fun r => Φ (src c r)) := by
  rw [bigSep_univ_split c, erase_along (src c) (src_inj c) c (src_ne c)]; rfl

/-! ## What every step may use -/

section Ctx
variable (P : Dev nD → Fin 2 → FVec F S256x512 .bf16) (K : GSem nD τ sig → ℕ) (c : Dev nD)

def invsBar : sProp 𝕄 := bigSep Finset.univ fun d : Dev nD => cellInv ER (rd P) (K (barCell d)) (barCell d)
def invsOwn : sProp 𝕄 := bigSep Finset.univ fun d : Dev nD => bigSep Finset.univ fun k : Own => cellInv ER (rd P) (K (cell d k)) (cell d k)
def barsReached : sProp 𝕄 := bigSep Finset.univ fun d : Dev nD => reached ER (barCell d) 0
def ownReached : sProp 𝕄 := bigSep Finset.univ fun k : Own => reached ER (cell c k) 0
def order : sProp 𝕄 := levAts L lv

instance invsBar_persistent : BI.Persistent (invsBar P K) := by unfold invsBar; infer_instance
instance invsOwn_persistent : BI.Persistent (invsOwn P K) := by unfold invsOwn; infer_instance
instance barsReached_persistent : BI.Persistent (barsReached (F := F)) := by unfold barsReached; infer_instance
instance ownReached_persistent : BI.Persistent (ownReached (F := F) c) := by unfold ownReached; infer_instance
instance order_persistent : BI.Persistent (order (F := F)) := by unfold order; infer_instance

/-- The cells' invariants, that the barriers' rounds are reached, the order, and that the own cells are open. -/
def ctx : sProp 𝕄 := iprop(invsBar P K ∗ invsOwn P K ∗ barsReached ∗ order ∗ ownReached c)

instance ctx_persistent : BI.Persistent (ctx P K c) := by unfold ctx; infer_instance

theorem ctx_bar (d : Dev nD) : ctx P K c ⊢ cellInv ER (rd P) (K (barCell d)) (barCell d) := by
  unfold ctx; iintro ⟨H, -, -, -, -⟩; unfold invsBar
  iapply (big_elim d (fun d : Dev nD => cellInv ER (rd P) (K (barCell d)) (barCell d))) $$ H
theorem ctx_own (d : Dev nD) (k : Own) : ctx P K c ⊢ cellInv ER (rd P) (K (cell d k)) (cell d k) := by
  unfold ctx; iintro ⟨-, H, -, -, -⟩; unfold invsOwn
  ihave H := (big_elim d (fun d : Dev nD => bigSep Finset.univ fun k : Own => cellInv ER (rd P) (K (cell d k)) (cell d k))) $$ H
  iapply (big_elim k (fun k : Own => cellInv ER (rd P) (K (cell d k)) (cell d k))) $$ H
theorem ctx_rbar (d : Dev nD) : ctx P K c ⊢ reached ER (barCell d) 0 := by
  unfold ctx; iintro ⟨-, -, H, -, -⟩; unfold barsReached
  iapply (big_elim d (fun d : Dev nD => reached ER (barCell d) 0)) $$ H
theorem ctx_wait (n : ℕ) (sm : SemLoc sig)
    (hw : (levAts L lv : sProp 𝕄) ⊢ MayWait (c : Thread nD τ) sm () (owed c n)) :
    ctx P K c ⊢ MayWait (c : Thread nD τ) sm () (owed c n) := by
  unfold ctx; iintro ⟨-, -, -, H, -⟩; unfold order
  iapply hw; iexact H
theorem ctx_rown (k : Own) : ctx P K c ⊢ reached ER (cell c k) 0 := by
  unfold ctx; iintro ⟨-, -, -, -, H⟩; unfold ownReached
  iapply (big_elim k (fun k : Own => reached ER (cell c k) 0)) $$ H

/-- What the device still owes after `n` payments, whatever it has waited for. -/
def due (n : ℕ) : sProp 𝕄 := iprop(∃ W, owes (c : Thread nD τ) (owed c n) W)

/-! ## The steps -/

/-- The signal number `r`. -/
theorem signal_step (r : Fin 31) (Q : PUnit → sProp 𝕄) :
    iprop(ctx P K c ∗ due c r.val ∗ (dutyTok ER (barCell (peer c r)) 0 c ∗ barPay (peer c r) c) ∗ (due c (r.val + 1) -∗ emp -∗ Q ⟨⟩))
      ⊢ WP c (semSignalWord (toDev c r) barS 1#32) Q := by
  rw [toDev_eq]
  unfold semSignalWord
  iintro ⟨#Hc, HO, ⟨Ht, Hp⟩, Hk⟩
  unfold due; icases HO with ⟨%W, HO⟩
  iapply (Rounds.wp_signal 𝒱₀ ER (rd P) (c : Thread nD τ) none (dst := (peer c r : Thread nD τ)) (sem := barS) (r := 0) (d := c) (k' := 1) (κ := K (barCell (peer c r)))
      (by rw [duties_bar]; exact Finset.mem_erase.mpr ⟨(peer_ne c r).symm, Finset.mem_univ _⟩) (amount_bar P (peer c r) 0 c) () (O₀ := owed c r.val) (owed c (r.val + 1))
      (by rw [owed_step c r.val (by omega), pays_bar])) $$ [HO Ht Hp]
  · isplitr; · iapply (ctx_bar P K c (peer c r)); iexact Hc
    isplitl [HO]; · iexact HO
    isplitl [Ht]; · iexact Ht
    isplitl [Hp]; · rw [payload_bar]; iexact Hp
    iapply (ctx_rbar P K c (peer c r)); iexact Hc
  iintro HO
  iapply (Entails.of_eq (WP_ret c Q).symm)
  imodintro
  iapply Hk $$ [HO]
  · iexists W; iexact HO
  iempintro

/-- The wait for the barrier, all signals sent: every peer's destinations for this device. -/
theorem bar_step (Q : PUnit → sProp 𝕄) :
    iprop(ctx P K c ∗ due c 31 ∗ cred (tallyAt (barCell c) () 31) ∗ atPos ER (barCell c) 0 ∅ 0
        ∗ (due c 31 -∗ atPos ER (barCell c) (0 + 1) ∅ 0 -∗ bigSep (Finset.univ.erase c) (fun d => barPay (F := F) c d) -∗ Q ⟨⟩))
      ⊢ WP c (semWaitWord barS 31#32) Q := by
  have hmw := ctx_wait P K c 31 _ (mayWait_bar c)
  unfold semWaitWord
  iintro ⟨#Hc, HO, Hcr, Hat, Hk⟩
  unfold due; icases HO with ⟨%W, HO⟩
  iapply (Rounds.wp_wait_rest_token 𝒱₀ ER (rd P) (c : Thread nD τ) none (κ := K (barCell c))
      (wpE_semWait_eq 𝒱₀ (c : Thread nD τ) none Set.univ) (Set.mem_univ _) () (O := owed c 31) (W := W) (R := 0) (m := 0) (T := ∅)
      ((Nat.zero_add 31).trans (expect_bar P c).symm)) $$ [Hcr HO Hat]
  · isplitr; · iapply (ctx_bar P K c c); iexact Hc
    isplitl [Hcr]; · iexact Hcr
    isplitl [HO]; · iexact HO
    isplitr; · iapply hmw; iexact Hc
    iexact Hat
  iintro ⟨HO, Hat, -, Hpay⟩
  ihave Hp := (Entails.of_eq (rest_bar P c)) $$ Hpay
  iapply (Entails.of_eq (WP_ret c Q).symm)
  imodintro
  iapply Hk $$ [HO] Hat Hp
  iexists _; iexact HO

/-- A wait for one of the own cells. -/
theorem wait_step (k : Own) (r n : ℕ) (hd : ownDue c r k = true) {sm : DmaSem sig} (hsm : sm = semIx k)
    {s d : Memref sig .tc .vmem S8x512 .bf16} {hs : s.view.WordExact} {hdv : d.view.WordExact} (hamt : d.view.dmaCredit = N)
    (hw : (levAts L lv : sProp 𝕄) ⊢ MayWait (c : Thread nD τ) (semOf k) () (owed c n)) (Q : PUnit → sProp 𝕄) :
    iprop(ctx P K c ∗ due c n ∗ (cred (tallyAt (cell c k) () N) ∗ atPos ER (cell c k) r ∅ 0)
        ∗ (due c n -∗ (atPos ER (cell c k) (r + 1) ∅ 0 ∗ reached ER (cell c k) (r + 1) ∗ ownPay P c r k) -∗ Q ⟨⟩))
      ⊢ WP c (wait sm s d hs hdv) Q := by
  subst hsm
  have hmw := ctx_wait P K c n _ hw
  unfold wait Prog.lift
  iintro ⟨#Hc, HO, ⟨Hcr, Hat⟩, Hk⟩
  unfold due; icases HO with ⟨%W, HO⟩
  iapply (Rounds.wp_wait_rest_token 𝒱₀ ER (rd P) (c : Thread nD τ) none (sm := semOf k) (κ := K (cell c k))
      (wpE_waitDma2_eq (src := s) (dst := d) 𝒱₀ (c : Thread nD τ) none Set.univ) (Set.mem_univ _) () (O := owed c n) (W := W) (R := r) (m := 0) (T := ∅)
      ((Nat.zero_add _).trans (hamt.trans (expect_own P c k r hd).symm))) $$ [Hcr HO Hat]
  · isplitr; · iapply (ctx_own P K c c k); iexact Hc
    isplitl [Hcr]; · rw [hamt]; iexact Hcr
    isplitl [HO]; · iexact HO
    isplitr; · iapply hmw; iexact Hc
    iexact Hat
  iintro ⟨HO, Hat, Hr, Hpay⟩
  ihave Hp := (Entails.of_eq (rest_own P c k r hd)) $$ Hpay
  iapply (Entails.of_eq (WP_ret c Q).symm)
  imodintro
  iapply Hk $$ [HO] [Hat Hr Hp]
  · iexists _; iexact HO
  isplitl [Hat]; · iexact Hat
  isplitl [Hr]; · iexact Hr
  iexact Hp

/-- A copy to the peer number `r`, in a phase and wave. -/
theorem put_step (p w : Fin 2) (r : Fin 31) {sm rm : DmaSem sig} (hsm : sm = semIx (oSend p w r)) (hrm : rm = semIx (oRecv p w c))
    {s d : Memref sig .tc .vmem S8x512 .bf16} {hs : s.view.WordExact} {hdv : d.view.WordExact} (hamt : d.view.dmaCredit = N)
    {q : PosShare TreeShare} {fs : Buf (Elt F) (s.view.loc (c : Thread nD τ))} {fd : Buf (Elt F) (d.view.loc (peer c r : Thread nD τ))}
    (h1 : (s.view.loc (c : Thread nD τ) ↦[s.view.set]{q} fs : sProp 𝕄) ⊢ srcPc P p w c (peer c r))
    (h2 : (d.view.loc (peer c r : Thread nD τ) ↦[d.view.set]{fullShare} (d.view.write (Elt F) fd (s.view.read (Elt F) fs) Finset.univ) : sProp 𝕄)
      ⊢ dstPc P p w (peer c r) c) (Q : PUnit → sProp 𝕄) :
    iprop(ctx P K c ∗ due c (31 + 62 * p.val + 31 * w.val + r.val)
        ∗ (s.view.loc (c : Thread nD τ) ↦[s.view.set]{q} fs) ∗ (d.view.loc (peer c r : Thread nD τ) ↦[d.view.set]{fullShare} fd)
        ∗ reached ER (cell (peer c r) (oRecv p w c)) 0 ∗ dutyTok ER (cell c (oSend p w r)) 0 0 ∗ dutyTok ER (cell (peer c r) (oRecv p w c)) 0 0
        ∗ (due c (31 + 62 * p.val + 31 * w.val + (r.val + 1)) -∗ cred (tallyAt (cell c (oSend p w r)) () N) -∗ Q ⟨⟩))
      ⊢ WP c (put s d hs hdv (peer c r) sm rm) Q := by
  subst hsm hrm
  have hdue1 : ownDue c 0 (oSend p w r) = true := by simp [ownDue]
  have hdue2 : ownDue (peer c r) 0 (oRecv p w c) = true := by simp [ownDue, (peer_ne c r).symm]
  unfold put Prog.lift
  iintro ⟨#Hc, HO, Hs, Hd, Hr, Ht1, Ht2, Hk⟩
  unfold due; icases HO with ⟨%W, HO⟩
  iapply (Rounds.wp_send_pointsTo 𝒱₀ ER (rd P) (c : Thread nD τ) none (c' := (peer c r : Thread nD τ)) (src := s) (dst := d)
      (sS := semOf (oSend p w r)) (sem := semOf (oRecv p w c)) (q := q) (fs := fs) (κ₁ := K (cell c (oSend p w r))) (κ₂ := K (cell (peer c r) (oRecv p w c)))
      (r₁ := 0) (r₂ := 0) (d₁ := 0) (d₂ := 0) (fd := fd)
      (mem_due P c (oSend p w r) 0 hdue1) (mem_due P (peer c r) (oRecv p w c) 0 hdue2)
      () () N hamt (amount_own P c (oSend p w r) 0 0) (amount_own P (peer c r) (oRecv p w c) 0 0) (O₀ := owed c (31 + 62 * p.val + 31 * w.val + r.val)) (owed c (31 + 62 * p.val + 31 * w.val + (r.val + 1)))
      (by rw [owed_step c _ (by omega), pays_copy, ← Nat.add_assoc]) (W := W)
      (by rw [payload_own]; exact h1) (by rw [payload_own]; exact h2)) $$ [Hs Hd HO Ht1 Ht2 Hr]
  · isplitr; · iapply (ctx_own P K c c (oSend p w r)); iexact Hc
    isplitr; · iapply (ctx_own P K c (peer c r) (oRecv p w c)); iexact Hc
    isplitl [Hs]; · iexact Hs
    isplitl [Hd]; · iexact Hd
    isplitl [HO]; · iexact HO
    isplitl [Ht1]; · iexact Ht1
    isplitr; · iapply (ctx_rown P K c (oSend p w r)); iexact Hc
    isplitl [Ht2]; · iexact Ht2
    iexact Hr
  iintro ⟨Hcr, HO⟩
  iapply (Entails.of_eq (WP_ret c Q).symm)
  imodintro
  iapply Hk $$ [HO] Hcr
  iexists _; iexact HO

/-- A local copy. -/
theorem here_step (p w : Fin 2) {sm : DmaSem sig} (hsm : sm = semIx (oLoc w))
    {s d : Memref sig .tc .vmem S8x512 .bf16} {hs : s.view.WordExact} {hdv : d.view.WordExact} (hamt : d.view.dmaCredit = N)
    {q : PosShare TreeShare} {fs : Buf (Elt F) (s.view.loc (c : Thread nD τ))} {fd : Buf (Elt F) (d.view.loc (c : Thread nD τ))}
    (h1 : (s.view.loc (c : Thread nD τ) ↦[s.view.set]{q} fs : sProp 𝕄) ⊢ srcPc P p w c c)
    (h2 : (d.view.loc (c : Thread nD τ) ↦[d.view.set]{fullShare} (d.view.write (Elt F) fd (s.view.read (Elt F) fs) Finset.univ) : sProp 𝕄)
      ⊢ dstPc P p w c c) (Q : PUnit → sProp 𝕄) :
    iprop(ctx P K c ∗ (s.view.loc (c : Thread nD τ) ↦[s.view.set]{q} fs) ∗ (d.view.loc (c : Thread nD τ) ↦[d.view.set]{fullShare} fd)
        ∗ dutyTok ER (cell c (oLoc w)) p.val 0 ∗ reached ER (cell c (oLoc w)) p.val
        ∗ (cred (tallyAt (cell c (oLoc w)) () N) -∗ Q ⟨⟩))
      ⊢ WP c (here s d hs hdv sm) Q := by
  subst hsm
  have hdue : ownDue c p.val (oLoc w) = true := by simp only [ownDue, decide_eq_true_eq]; omega
  have hpay : ownPay P c p.val (oLoc w) = iprop(dstPc P p w c c ∗ srcPc P p w c c) := by
    rcases two p with h | h
    · rw [show p = 0 from Fin.ext h]; rfl
    · rw [show p = 1 from Fin.ext h]; rfl
  unfold here Prog.lift
  iintro ⟨#Hc, Hs, Hd, Ht, Hr, Hk⟩
  iapply (Rounds.wp_copy_pointsTo 𝒱₀ ER (rd P) (c : Thread nD τ) none (src := s) (dst := d) (sem := semOf (oLoc w)) (q := q) (fs := fs) (fd := fd)
      (r := p.val) (d := 0) (κ := K (cell c (oLoc w))) (mem_due P c (oLoc w) p.val hdue) () N hamt (amount_own P c (oLoc w) p.val 0)
      (by rw [payload_own, hpay]; exact BIClass.sep_mono h2 h1)) $$ [Hs Hd Ht Hr]
  · isplitr; · iapply (ctx_own P K c c (oLoc w)); iexact Hc
    isplitl [Hs]; · iexact Hs
    isplitl [Hd]; · iexact Hd
    isplitl [Ht] <;> iassumption
  iintro Hcr
  iapply (Entails.of_eq (WP_ret c Q).symm)
  imodintro
  iapply Hk $$ Hcr

end Ctx

end Cert.KernelIdeal.Mine

end
-- ==== Proof.Phases.lean ====
/- The kernel's phases: each loop of copies, waits or stores, by one triple. -/
module

public import proofs.«01_k».proof.Proof.Steps
public import Idealize.ShloMosaic.Rules.Step

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Code" => Prog (TpuEff nD τ sig (Elt F) Λ₀ Proc.tc) PUnit

/-! ## Slots as pieces -/

/-- A piece of eight rows seen without its leading axis. -/
abbrev thin (v : View sig .tc .vmem S1x8x512 .bf16) : View sig .tc .vmem S8x512 .bf16 :=
  v.reshape S8x512 squeezes_S1x8x512_S8x512.numel_eq

/-- What a copy from one piece to another leaves is the destination at any contents that read like the source's. -/
theorem landed (u v : View sig .tc .vmem S1x8x512 .bf16) (c t : Dev nD) (q : PosShare TreeShare)
    (fs : Buf (Elt F) (u.loc (c : Thread nD τ))) (fd g : Buf (Elt F) (v.loc (t : Thread nD τ)))
    (h : v.read (Elt F) g = u.read (Elt F) fs) :
    ((thin v).loc (t : Thread nD τ) ↦[(thin v).set]{q} ((thin v).write (Elt F) fd ((thin u).read (Elt F) fs) Finset.univ) : sProp 𝕄)
      = (v.loc (t : Thread nD τ) ↦[v.set]{q} g) := by
  refine (pts_read (thin v) t q (g := g) ?_).trans ?_
  · rw [View.read_write_univ]
    exact funext fun x => (congrFun h _).symm
  · rw [View.set_reshape]

theorem slot_pc (b : Memref sig .tc .vmem S32x16x512 .bf16) {w : Fin 2} {k : Fin 32} {off : Fin 3 → Nat} (h : off = ![k.val, 8 * w.val, 0])
    (c : Dev nD) (q : PosShare TreeShare) (f : Buf (Elt F) ((b.access (rP w k)).loc (c : Thread nD τ))) :
    (((slot b off (off_inb h)).view.loc (c : Thread nD τ)) ↦[(slot b off (off_inb h)).view.set]{q} f : sProp 𝕄) = pc b (rP w k) c q f := by
  subst h
  exact congrArg (fun S => ((b.access (rP w k)).loc (c : Thread nD τ) ↦[S]{q} f : sProp 𝕄)) (View.set_reshape (v := b.access (rP w k)) ..)
theorem rslot_pc (b : Memref sig .tc .vmem S2x8x512 .bf16) (w : Fin 2)
    (c : Dev nD) (q : PosShare TreeShare) (f : Buf (Elt F) ((b.access (rB w)).loc (c : Thread nD τ))) :
    (((rslot b w).view.loc (c : Thread nD τ)) ↦[(rslot b w).view.set]{q} f : sProp 𝕄) = pc b (rB w) c q f :=
  congrArg (fun S => ((b.access (rB w)).loc (c : Thread nD τ) ↦[S]{q} f : sProp 𝕄)) (View.set_reshape (v := b.access (rB w)) ..)

theorem slot_credit (b : Memref sig .tc .vmem S32x16x512 .bf16) (off : Fin 3 → Nat) (h : ∀ a, off a + S1x8x512.size a ≤ S32x16x512.size a) :
    (slot b off h).view.dmaCredit = N := rfl
theorem rslot_credit (b : Memref sig .tc .vmem S2x8x512 .bf16) (w : Fin 2) : (rslot b w).view.dmaCredit = N := rfl

/-- A copy between two slots of the communication buffers. -/
theorem slot_landed (a b : Memref sig .tc .vmem S32x16x512 .bf16) {w w' : Fin 2} {k k' : Fin 32} {off off' : Fin 3 → Nat}
    (h : off = ![k.val, 8 * w.val, 0]) (h' : off' = ![k'.val, 8 * w'.val, 0]) (c t : Dev nD)
    (fs : Buf (Elt F) ((a.access (rP w k)).loc (c : Thread nD τ))) (fd g : Buf (Elt F) ((b.access (rP w' k')).loc (t : Thread nD τ)))
    (hg : (b.access (rP w' k')).read (Elt F) g = (a.access (rP w k)).read (Elt F) fs) :
    (((slot b off' (off_inb h')).view.loc (t : Thread nD τ)) ↦[(slot b off' (off_inb h')).view.set]{fullShare}
        ((slot b off' (off_inb h')).view.write (Elt F) fd ((slot a off (off_inb h)).view.read (Elt F) fs) Finset.univ) : sProp 𝕄)
      = pc b (rP w' k') t fullShare g := by
  subst h h'
  exact landed (a.access (rP w k)) (b.access (rP w' k')) c t fullShare fs fd g hg
/-- A copy from the reduced rows into a slot. -/
theorem rslot_landed (a : Memref sig .tc .vmem S2x8x512 .bf16) (b : Memref sig .tc .vmem S32x16x512 .bf16) {w w' : Fin 2} {k' : Fin 32} {off' : Fin 3 → Nat}
    (h' : off' = ![k'.val, 8 * w'.val, 0]) (c t : Dev nD)
    (fs : Buf (Elt F) ((a.access (rB w)).loc (c : Thread nD τ))) (fd g : Buf (Elt F) ((b.access (rP w' k')).loc (t : Thread nD τ)))
    (hg : (b.access (rP w' k')).read (Elt F) g = (a.access (rB w)).read (Elt F) fs) :
    (((slot b off' (off_inb h')).view.loc (t : Thread nD τ)) ↦[(slot b off' (off_inb h')).view.set]{fullShare}
        ((slot b off' (off_inb h')).view.write (Elt F) fd ((rslot a w).view.read (Elt F) fs) Finset.univ) : sProp 𝕄)
      = pc b (rP w' k') t fullShare g := by
  subst h'
  exact landed (a.access (rB w)) (b.access (rP w' k')) c t fullShare fs fd g hg

section
variable (P : Dev nD → Fin 2 → FVec F S256x512 .bf16) (K : GSem nD τ sig → ℕ) (c : Dev nD)

theorem comm_of_part (w : Fin 2) (t : Dev nD) :
    (bComm.access (rP w c)).read (Elt F) (commC P t) = (bPart.access (rP w t)).read (Elt F) (partC P c) :=
  (read_glue1 (fun w s => chunk (P s w) t) w c).trans (read_glue0 (fun w k => chunk (P c w) k) w t).symm
theorem gath_of_red (w : Fin 2) :
    (bGath.access (rP w c)).read (Elt F) (gathC P) = (bRed.access (rB w)).read (Elt F) (redC P c) :=
  (read_glue2 (fun w k => redV P k w) w c).trans (read_glue3 (redV P c) w).symm

theorem srcPc_one (w : Fin 2) (k : Dev nD) : srcPc P 1 w c k = pc bRed (rB w) c (ShareLeaves.leaf 5 fullShare k) (redC P c) := if_neg (by decide)
theorem dstPc_one (w : Fin 2) (k : Dev nD) : dstPc P 1 w c k = pc bGath (rP w k) c fullShare (gathC P) := if_neg (by decide)
theorem srcPc_zero (w : Fin 2) (k : Dev nD) : srcPc P 0 w c k = pc bPart (rP w k) c fullShare (partC P c) := if_pos rfl
theorem dstPc_zero (w : Fin 2) (k : Dev nD) : dstPc P 0 w c k = pc bComm (rP w k) c fullShare (commC P c) := if_pos rfl
theorem dstAny_one (w : Fin 2) (k : Dev nD) : dstAny (F := F) 1 w c k
    = iprop(∃ f : Buf (Elt F) ((bGath.access (rP w k)).loc (c : Thread nD τ)), pc bGath (rP w k) c fullShare f) := if_neg (by decide)
theorem dstAny_zero (w : Fin 2) (k : Dev nD) : dstAny (F := F) 0 w c k
    = iprop(∃ f : Buf (Elt F) ((bComm.access (rP w k)).loc (c : Thread nD τ)), pc bComm (rP w k) c fullShare f) := if_pos rfl

/-! ## Sending -/

/-- The peer's destination for this device, and its cell open. -/
def door (p w : Fin 2) (t : Dev nD) : sProp 𝕄 := iprop(dstAny (F := F) p w t c ∗ reached ER (cell t (oRecv p w c)) 0)
/-- The right to pay for the copy number `r`. -/
def fare (p w : Fin 2) (r : Fin 31) : sProp 𝕄 :=
  iprop(dutyTok ER (cell c (oSend p w r)) 0 0 ∗ dutyTok ER (cell (peer c r) (oRecv p w c)) 0 0)
def crSend (p w : Fin 2) (r : Fin 31) : sProp 𝕄 := cred (tallyAt (cell c (oSend p w r)) () N)
def crRecv (p w : Fin 2) (s : Fin 32) : sProp 𝕄 := cred (tallyAt (cell c (oRecv p w s)) () N)
def crLoc (w : Fin 2) : sProp 𝕄 := cred (tallyAt (cell c (oLoc w)) () N)
def posn (k : Own) (r : ℕ) : sProp 𝕄 := atPos ER (cell c k) r ∅ 0

/-- The copy number `r` of a first-phase wave. -/
theorem put1 (w : Fin 2) (r : Fin 31) (Q : PUnit → sProp 𝕄) :
    iprop(ctx P K c ∗ due c (31 + 62 * (0 : Fin 2).val + 31 * w.val + r.val)
        ∗ (srcPc P 0 w c (peer c r) ∗ door c 0 w (peer c r) ∗ fare c 0 w r)
        ∗ (due c (31 + 62 * (0 : Fin 2).val + 31 * w.val + (r.val + 1)) -∗ crSend c 0 w r -∗ Q ⟨⟩))
      ⊢ WP c (put (slot bPart (toOff w c (BitVec.ofNat 32 (1 + r.val))) (off_inb (toOff_eq w c r))) (slot bComm (ownOff w c) (off_inb (ownOff_eq w c)))
          (slot_words (Memref.isWhole_whole _) (toOff_eq w c r)) (slot_words (Memref.isWhole_whole _) (ownOff_eq w c)) (toDev c r) (semS cc0_scratch4 w r) (semR cc0_scratch5 (ownSem w c) (sem_inb (ownSem_eq w c)))) Q := by
  rw [toDev_eq]
  unfold srcPc door dstAny fare crSend
  rw [if_pos rfl, if_pos rfl]
  iintro ⟨#Hc, HO, ⟨Hs, ⟨⟨%fd, Hd⟩, Hr⟩, Ht1, Ht2⟩, Hk⟩
  iapply (put_step P K c 0 w r (s := slot bPart (toOff w c (BitVec.ofNat 32 (1 + r.val))) (off_inb (toOff_eq w c r)))
    (d := slot bComm (ownOff w c) (off_inb (ownOff_eq w c))) (semS_send1 w r) (semR_recv1 (ownSem_eq w c) _) (hamt := slot_credit bComm _ _) (q := fullShare) (fs := partC P c) (fd := fd)
    (by unfold srcPc; rw [if_pos rfl]; exact Entails.of_eq (slot_pc bPart (toOff_eq w c r) c fullShare (partC P c)))
    (by unfold dstPc; rw [if_pos rfl]
        exact Entails.of_eq (slot_landed bPart bComm (toOff_eq w c r) (ownOff_eq w c) c (peer c r) (partC P c) fd (commC P (peer c r)) (comm_of_part P c w (peer c r)))))
  isplitr; · iexact Hc
  isplitl [HO]; · iexact HO
  isplitl [Hs]; · iapply (Entails.of_eq (slot_pc bPart (toOff_eq w c r) c fullShare (partC P c)).symm); iexact Hs
  isplitl [Hd]; · iapply (Entails.of_eq (slot_pc bComm (ownOff_eq w c) (peer c r) fullShare fd).symm); iexact Hd
  isplitl [Hr]; · iexact Hr
  isplitl [Ht1]; · iexact Ht1
  isplitl [Ht2]; · iexact Ht2
  iexact Hk

/-- The own row block's local copy in a first-phase wave. -/
theorem here1 (w : Fin 2) (Q : PUnit → sProp 𝕄) :
    iprop(ctx P K c ∗ srcPc P 0 w c c ∗ dstAny (F := F) 0 w c c ∗ (dutyTok ER (cell c (oLoc w)) (0 : Fin 2).val 0 ∗ reached ER (cell c (oLoc w)) (0 : Fin 2).val)
        ∗ (crLoc c w -∗ Q ⟨⟩))
      ⊢ WP c (here (slot bPart (ownOff w c) (off_inb (ownOff_eq w c))) (slot bComm (ownOff w c) (off_inb (ownOff_eq w c)))
          (slot_words (Memref.isWhole_whole _) (ownOff_eq w c)) (slot_words (Memref.isWhole_whole _) (ownOff_eq w c)) (semL cc0_scratch8 w)) Q := by
  unfold srcPc dstAny crLoc
  rw [if_pos rfl, if_pos rfl]
  iintro ⟨#Hc, Hs, ⟨%fd, Hd⟩, ⟨Ht, Hr⟩, Hk⟩
  iapply (here_step P K c 0 w (s := slot bPart (ownOff w c) (off_inb (ownOff_eq w c)))
    (d := slot bComm (ownOff w c) (off_inb (ownOff_eq w c))) (semL_loc w) (hamt := slot_credit bComm _ _) (q := fullShare) (fs := partC P c) (fd := fd)
    (by unfold srcPc; rw [if_pos rfl]; exact Entails.of_eq (slot_pc bPart (ownOff_eq w c) c fullShare (partC P c)))
    (by unfold dstPc; rw [if_pos rfl]
        exact Entails.of_eq (slot_landed bPart bComm (ownOff_eq w c) (ownOff_eq w c) c c (partC P c) fd (commC P c) (comm_of_part P c w c))))
  isplitr; · iexact Hc
  isplitl [Hs]; · iapply (Entails.of_eq (slot_pc bPart (ownOff_eq w c) c fullShare (partC P c)).symm); iexact Hs
  isplitl [Hd]; · iapply (Entails.of_eq (slot_pc bComm (ownOff_eq w c) c fullShare fd).symm); iexact Hd
  isplitl [Ht]; · iexact Ht
  isplitl [Hr]; · iexact Hr
  iexact Hk

/-- The copy number `r` of a second-phase wave. -/
theorem put2 (w : Fin 2) (r : Fin 31) (Q : PUnit → sProp 𝕄) :
    iprop(ctx P K c ∗ due c (31 + 62 * (1 : Fin 2).val + 31 * w.val + r.val)
        ∗ (srcPc P 1 w c (peer c r) ∗ door c 1 w (peer c r) ∗ fare c 1 w r)
        ∗ (due c (31 + 62 * (1 : Fin 2).val + 31 * w.val + (r.val + 1)) -∗ crSend c 1 w r -∗ Q ⟨⟩))
      ⊢ WP c (put (rslot bRed w) (slot bGath (ownOff w c) (off_inb (ownOff_eq w c)))
          (rslot_words (Memref.isWhole_whole _) w) (slot_words (Memref.isWhole_whole _) (ownOff_eq w c)) (toDev c r) (semS cc0_scratch6 w r) (semR cc0_scratch7 (ownSem w c) (sem_inb (ownSem_eq w c)))) Q := by
  rw [toDev_eq]
  unfold door fare crSend
  rw [srcPc_one, dstAny_one]
  iintro ⟨#Hc, HO, ⟨Hs, ⟨⟨%fd, Hd⟩, Hr⟩, Ht1, Ht2⟩, Hk⟩
  iapply (put_step P K c 1 w r (s := rslot bRed w)
    (d := slot bGath (ownOff w c) (off_inb (ownOff_eq w c))) (semS_send2 w r) (semR_recv2 (ownSem_eq w c) _) (hamt := slot_credit bGath _ _)
    (q := ShareLeaves.leaf 5 fullShare (peer c r)) (fs := redC P c) (fd := fd)
    (Entails.of_eq ((rslot_pc bRed w c _ (redC P c)).trans (srcPc_one P c w _).symm))
    (Entails.of_eq ((rslot_landed bRed bGath (w := w) (w' := w) (k' := c) (ownOff_eq w c) c (peer c r) (redC P c) fd (gathC P) (gath_of_red P c w)).trans (dstPc_one P (peer c r) w c).symm)))
  isplitr; · iexact Hc
  isplitl [HO]; · iexact HO
  isplitl [Hs]; · iapply (Entails.of_eq (rslot_pc bRed w c _ (redC P c)).symm); iexact Hs
  isplitl [Hd]; · iapply (Entails.of_eq (slot_pc bGath (ownOff_eq w c) (peer c r) fullShare fd).symm); iexact Hd
  isplitl [Hr]; · iexact Hr
  isplitl [Ht1]; · iexact Ht1
  isplitl [Ht2]; · iexact Ht2
  iexact Hk

/-- The reduced row block's local copy in a second-phase wave. -/
theorem here2 (w : Fin 2) (Q : PUnit → sProp 𝕄) :
    iprop(ctx P K c ∗ srcPc P 1 w c c ∗ dstAny (F := F) 1 w c c ∗ (dutyTok ER (cell c (oLoc w)) (1 : Fin 2).val 0 ∗ reached ER (cell c (oLoc w)) (1 : Fin 2).val)
        ∗ (crLoc c w -∗ Q ⟨⟩))
      ⊢ WP c (here (rslot bRed w) (slot bGath (ownOff w c) (off_inb (ownOff_eq w c)))
          (rslot_words (Memref.isWhole_whole _) w) (slot_words (Memref.isWhole_whole _) (ownOff_eq w c)) (semL cc0_scratch8 w)) Q := by
  unfold crLoc
  rw [srcPc_one, dstAny_one]
  iintro ⟨#Hc, Hs, ⟨%fd, Hd⟩, ⟨Ht, Hr⟩, Hk⟩
  iapply (here_step P K c 1 w (s := rslot bRed w)
    (d := slot bGath (ownOff w c) (off_inb (ownOff_eq w c))) (semL_loc w) (hamt := slot_credit bGath _ _)
    (q := ShareLeaves.leaf 5 fullShare c) (fs := redC P c) (fd := fd)
    (Entails.of_eq ((rslot_pc bRed w c _ (redC P c)).trans (srcPc_one P c w _).symm))
    (Entails.of_eq ((rslot_landed bRed bGath (w := w) (w' := w) (k' := c) (ownOff_eq w c) c c (redC P c) fd (gathC P) (gath_of_red P c w)).trans (dstPc_one P c w c).symm)))
  isplitr; · iexact Hc
  isplitl [Hs]; · iapply (Entails.of_eq (rslot_pc bRed w c _ (redC P c)).symm); iexact Hs
  isplitl [Hd]; · iapply (Entails.of_eq (slot_pc bGath (ownOff_eq w c) c fullShare fd).symm); iexact Hd
  isplitl [Ht]; · iexact Ht
  isplitl [Hr]; · iexact Hr
  iexact Hk

/-- What a wave of a phase sends from. -/
def loads (p w : Fin 2) : sProp 𝕄 := bigSep Finset.univ fun k : Dev nD => srcPc P p w c k
/-- What a wave of a phase fills. -/
def fills (p w : Fin 2) : sProp 𝕄 := bigSep Finset.univ fun k : Dev nD => dstPc P p w c k
/-- The right to make a wave's copies, and the places for them. -/
def gear (p w : Fin 2) : sProp 𝕄 :=
  iprop(dstAny (F := F) p w c c ∗ dutyTok ER (cell c (oLoc w)) p.val 0 ∗ (bigSep Finset.univ fun r : Fin 31 => door (F := F) c p w (peer c r))
    ∗ bigSep Finset.univ fun r : Fin 31 => fare (F := F) c p w r)

/-- A wave of a phase: its local copy, then its 31 copies to the peers. -/
theorem sends (p w : Fin 2) (H : Code) (G : Fin 31 → Code)
    (hH : ∀ Q : PUnit → sProp 𝕄, iprop(ctx P K c ∗ srcPc P p w c c ∗ dstAny (F := F) p w c c ∗ (dutyTok ER (cell c (oLoc w)) p.val 0 ∗ reached ER (cell c (oLoc w)) p.val)
        ∗ (crLoc c w -∗ Q ⟨⟩)) ⊢ WP c H Q)
    (hG : ∀ (r : Fin 31) (Q : PUnit → sProp 𝕄), iprop(ctx P K c ∗ due c (31 + 62 * p.val + 31 * w.val + r.val)
        ∗ (srcPc P p w c (peer c r) ∗ door c p w (peer c r) ∗ fare c p w r)
        ∗ (due c (31 + 62 * p.val + 31 * w.val + (r.val + 1)) -∗ crSend c p w r -∗ Q ⟨⟩)) ⊢ WP c (G r) Q)
    (Q : PUnit → sProp 𝕄) :
    iprop(ctx P K c ∗ due c (31 + 62 * p.val + 31 * w.val) ∗ loads P c p w ∗ gear c p w ∗ reached ER (cell c (oLoc w)) p.val
        ∗ (due c (31 + 62 * p.val + 31 * w.val + 31) -∗ crLoc c w -∗ (bigSep Finset.univ fun r : Fin 31 => crSend (F := F) c p w r) -∗ Q ⟨⟩))
      ⊢ WP c (H >>= fun _ => forFin 31 G) Q := by
  rw [WP_seq]
  unfold loads gear
  rw [devs_peer c]
  iintro ⟨#Hc, HO, ⟨Hs, Hss⟩, ⟨Hd, Ht, Hds, Hts⟩, Hr, Hk⟩
  iapply hH
  isplitr; · iexact Hc
  isplitl [Hs]; · iexact Hs
  isplitl [Hd]; · iexact Hd
  isplitl [Ht Hr]; · isplitl [Ht]; · iexact Ht
                     iexact Hr
  iintro Hl
  iapply (wp_forFin c G (ctx P K c) (fun r => due c (31 + 62 * p.val + 31 * w.val + r))
    (fun r => iprop(srcPc P p w c (peer c r) ∗ door c p w (peer c r) ∗ fare c p w r)) (fun r => crSend c p w r) hG Q)
  isplitr; · iexact Hc
  isplitl [HO]; · iexact HO
  isplitl [Hss Hds Hts]
  · iapply (Entails.of_eq (bigSep_sep' (Finset.univ : Finset (Fin 31)) _ _).symm)
    isplitl [Hss]; · iexact Hss
    iapply (Entails.of_eq (bigSep_sep' (Finset.univ : Finset (Fin 31)) _ _).symm)
    isplitl [Hds]; · iexact Hds
    iexact Hts
  iintro HO Hcr
  iapply Hk $$ HO Hl Hcr

theorem phase1_spec (w : Fin 2) (Q : PUnit → sProp 𝕄) :
    iprop(ctx P K c ∗ due c (31 + 62 * (0 : Fin 2).val + 31 * w.val) ∗ loads P c 0 w ∗ gear c 0 w ∗ reached ER (cell c (oLoc w)) (0 : Fin 2).val
        ∗ (due c (31 + 62 * (0 : Fin 2).val + 31 * w.val + 31) -∗ crLoc c w -∗ (bigSep Finset.univ fun r : Fin 31 => crSend (F := F) c 0 w r) -∗ Q ⟨⟩))
      ⊢ WP c (phase1 bPart (Memref.isWhole_whole _) bComm (Memref.isWhole_whole _) cc0_scratch4 cc0_scratch5 cc0_scratch8 c w) Q :=
  sends P K c 0 w _ _ (here1 P K c w) (put1 P K c w) Q
theorem phase2_spec (w : Fin 2) (Q : PUnit → sProp 𝕄) :
    iprop(ctx P K c ∗ due c (31 + 62 * (1 : Fin 2).val + 31 * w.val) ∗ loads P c 1 w ∗ gear c 1 w ∗ reached ER (cell c (oLoc w)) (1 : Fin 2).val
        ∗ (due c (31 + 62 * (1 : Fin 2).val + 31 * w.val + 31) -∗ crLoc c w -∗ (bigSep Finset.univ fun r : Fin 31 => crSend (F := F) c 1 w r) -∗ Q ⟨⟩))
      ⊢ WP c (phase2 bGath (Memref.isWhole_whole _) bRed (Memref.isWhole_whole _) cc0_scratch6 cc0_scratch7 cc0_scratch8 c w) Q :=
  sends P K c 1 w _ _ (here2 P K c w) (put2 P K c w) Q

/-! ## Waiting -/

/-- The 31 waits for a wave's arrivals, then the one for the local copy. -/
theorem arrivals (p w : Fin 2) (n : ℕ) (hn : 93 + 62 * p.val ≤ n) (G : Fin 31 → Code) (H : Code)
    (hG : ∀ (r : Fin 31) (Q : PUnit → sProp 𝕄), iprop(ctx P K c ∗ due c n ∗ (crRecv c p w (src c r) ∗ posn c (oRecv p w (src c r)) 0)
        ∗ (due c n -∗ (posn c (oRecv p w (src c r)) (0 + 1) ∗ reached ER (cell c (oRecv p w (src c r))) (0 + 1) ∗ ownPay P c 0 (oRecv p w (src c r))) -∗ Q ⟨⟩)) ⊢ WP c (G r) Q)
    (hH : ∀ Q : PUnit → sProp 𝕄, iprop(ctx P K c ∗ due c n ∗ (crLoc c w ∗ posn c (oLoc w) p.val)
        ∗ (due c n -∗ (posn c (oLoc w) (p.val + 1) ∗ reached ER (cell c (oLoc w)) (p.val + 1) ∗ ownPay P c p.val (oLoc w)) -∗ Q ⟨⟩)) ⊢ WP c H Q)
    (Q : PUnit → sProp 𝕄) :
    iprop(ctx P K c ∗ due c n ∗ (bigSep Finset.univ fun r : Fin 31 => crRecv (F := F) c p w (src c r)) ∗ (bigSep Finset.univ fun r : Fin 31 => posn (F := F) c (oRecv p w (src c r)) 0)
        ∗ crLoc c w ∗ posn c (oLoc w) p.val
        ∗ (due c n -∗ fills P c p w -∗ srcPc P p w c c -∗ (bigSep Finset.univ fun r : Fin 31 => posn (F := F) c (oRecv p w (src c r)) 1)
            -∗ posn c (oLoc w) (p.val + 1) -∗ reached ER (cell c (oLoc w)) (p.val + 1) -∗ Q ⟨⟩))
      ⊢ WP c (forFin 31 G >>= fun _ => H) Q := by
  have hpay : ownPay P c p.val (oLoc w) = iprop(dstPc P p w c c ∗ srcPc P p w c c) := by
    rcases two p with h | h
    · rw [show p = 0 from Fin.ext h]; rfl
    · rw [show p = 1 from Fin.ext h]; rfl
  rw [WP_seq]
  unfold fills
  rw [devs_src c]
  iintro ⟨#Hc, HO, Hcs, Hps, Hl, Hp, Hk⟩
  iapply (wp_forFin c G (ctx P K c) (fun _ => due c n) (fun r => iprop(crRecv c p w (src c r) ∗ posn c (oRecv p w (src c r)) 0))
    (fun r => iprop(posn c (oRecv p w (src c r)) (0 + 1) ∗ reached ER (cell c (oRecv p w (src c r))) (0 + 1) ∗ ownPay P c 0 (oRecv p w (src c r)))) hG)
  isplitr; · iexact Hc
  isplitl [HO]; · iexact HO
  isplitl [Hcs Hps]
  · iapply (Entails.of_eq (bigSep_sep' (Finset.univ : Finset (Fin 31)) _ _).symm)
    isplitl [Hcs]; · iexact Hcs
    iexact Hps
  iintro HO Hpost
  ihave H1 := (Entails.of_eq (bigSep_sep' (Finset.univ : Finset (Fin 31)) _ _)) $$ Hpost
  icases H1 with ⟨Hps, H2⟩
  ihave H2 := (Entails.of_eq (bigSep_sep' (Finset.univ : Finset (Fin 31)) _ _)) $$ H2
  icases H2 with ⟨-, Hds⟩
  iapply hH
  isplitr; · iexact Hc
  isplitl [HO]; · iexact HO
  isplitl [Hl Hp]; · isplitl [Hl]; · iexact Hl
                     iexact Hp
  rw [hpay]
  iintro HO ⟨Hp, Hr, Hd, Hs⟩
  iapply Hk $$ HO [Hd Hds] Hs Hps Hp Hr
  isplitl [Hd]; · iexact Hd
  iexact Hds

theorem wait1_spec (w : Fin 2) (n : ℕ) (hn : 93 + 62 * (0 : Fin 2).val ≤ n) (Q : PUnit → sProp 𝕄) :
    iprop(ctx P K c ∗ due c n ∗ (bigSep Finset.univ fun r : Fin 31 => crRecv (F := F) c 0 w (src c r)) ∗ (bigSep Finset.univ fun r : Fin 31 => posn (F := F) c (oRecv 0 w (src c r)) 0)
        ∗ crLoc c w ∗ posn c (oLoc w) (0 : Fin 2).val
        ∗ (due c n -∗ fills P c 0 w -∗ srcPc P 0 w c c -∗ (bigSep Finset.univ fun r : Fin 31 => posn (F := F) c (oRecv 0 w (src c r)) 1)
            -∗ posn c (oLoc w) ((0 : Fin 2).val + 1) -∗ reached ER (cell c (oLoc w)) ((0 : Fin 2).val + 1) -∗ Q ⟨⟩))
      ⊢ WP c (wait1 bPart (Memref.isWhole_whole _) bComm (Memref.isWhole_whole _) cc0_scratch5 cc0_scratch8 c w) Q :=
  arrivals P K c 0 w n hn _ _
    (fun r Q => wait_step P K c (oRecv 0 w (src c r)) 0 n (by simp [ownDue, src_ne]) (semR_recv1 (fromSem_eq w c r) _) (slot_credit bComm _ _) (mayWait_recv c 0 w _ n hn) Q)
    (fun Q => wait_step P K c (oLoc w) 0 n (by simp [ownDue]) (semL_loc w) (slot_credit bComm _ _) (mayWait_loc c w n (by omega)) Q) Q
theorem wait2_spec (w : Fin 2) (n : ℕ) (hn : 93 + 62 * (1 : Fin 2).val ≤ n) (Q : PUnit → sProp 𝕄) :
    iprop(ctx P K c ∗ due c n ∗ (bigSep Finset.univ fun r : Fin 31 => crRecv (F := F) c 1 w (src c r)) ∗ (bigSep Finset.univ fun r : Fin 31 => posn (F := F) c (oRecv 1 w (src c r)) 0)
        ∗ crLoc c w ∗ posn c (oLoc w) (1 : Fin 2).val
        ∗ (due c n -∗ fills P c 1 w -∗ srcPc P 1 w c c -∗ (bigSep Finset.univ fun r : Fin 31 => posn (F := F) c (oRecv 1 w (src c r)) 1)
            -∗ posn c (oLoc w) ((1 : Fin 2).val + 1) -∗ reached ER (cell c (oLoc w)) ((1 : Fin 2).val + 1) -∗ Q ⟨⟩))
      ⊢ WP c (wait2 bGath (Memref.isWhole_whole _) bRed (Memref.isWhole_whole _) cc0_scratch7 cc0_scratch8 c w) Q :=
  arrivals P K c 1 w n hn _ _
    (fun r Q => wait_step P K c (oRecv 1 w (src c r)) 0 n (by simp [ownDue, src_ne]) (semR_recv2 (fromSem_eq w c r) _) (slot_credit bGath _ _) (mayWait_recv c 1 w _ n hn) Q)
    (fun Q => wait_step P K c (oLoc w) 1 n (by simp [ownDue]) (semL_loc w) (slot_credit bGath _ _) (mayWait_loc c w n (by omega)) Q) Q

/-- The 31 waits for a wave's departures. -/
theorem departures (p w : Fin 2) (n : ℕ) (G : Fin 31 → Code)
    (hG : ∀ (r : Fin 31) (Q : PUnit → sProp 𝕄), iprop(ctx P K c ∗ due c n ∗ (crSend c p w r ∗ posn c (oSend p w r) 0)
        ∗ (due c n -∗ (posn c (oSend p w r) (0 + 1) ∗ reached ER (cell c (oSend p w r)) (0 + 1) ∗ ownPay P c 0 (oSend p w r)) -∗ Q ⟨⟩)) ⊢ WP c (G r) Q)
    (Q : PUnit → sProp 𝕄) :
    iprop(ctx P K c ∗ due c n ∗ (bigSep Finset.univ fun r : Fin 31 => crSend (F := F) c p w r) ∗ (bigSep Finset.univ fun r : Fin 31 => posn (F := F) c (oSend p w r) 0)
        ∗ srcPc P p w c c
        ∗ (due c n -∗ loads P c p w -∗ (bigSep Finset.univ fun r : Fin 31 => posn (F := F) c (oSend p w r) 1) -∗ Q ⟨⟩))
      ⊢ WP c (forFin 31 G) Q := by
  unfold loads
  rw [devs_peer c]
  iintro ⟨#Hc, HO, Hcs, Hps, Hs, Hk⟩
  iapply (wp_forFin c G (ctx P K c) (fun _ => due c n) (fun r => iprop(crSend c p w r ∗ posn c (oSend p w r) 0))
    (fun r => iprop(posn c (oSend p w r) (0 + 1) ∗ reached ER (cell c (oSend p w r)) (0 + 1) ∗ ownPay P c 0 (oSend p w r))) hG)
  isplitr; · iexact Hc
  isplitl [HO]; · iexact HO
  isplitl [Hcs Hps]
  · iapply (Entails.of_eq (bigSep_sep' (Finset.univ : Finset (Fin 31)) _ _).symm)
    isplitl [Hcs]; · iexact Hcs
    iexact Hps
  iintro HO Hpost
  ihave H1 := (Entails.of_eq (bigSep_sep' (Finset.univ : Finset (Fin 31)) _ _)) $$ Hpost
  icases H1 with ⟨Hps, H2⟩
  ihave H2 := (Entails.of_eq (bigSep_sep' (Finset.univ : Finset (Fin 31)) _ _)) $$ H2
  icases H2 with ⟨-, Hds⟩
  iapply Hk $$ HO [Hs Hds] Hps
  isplitl [Hs]; · iexact Hs
  iexact Hds

theorem sent1_spec (w : Fin 2) (n : ℕ) (hn : 31 ≤ n) (Q : PUnit → sProp 𝕄) :
    iprop(ctx P K c ∗ due c n ∗ (bigSep Finset.univ fun r : Fin 31 => crSend (F := F) c 0 w r) ∗ (bigSep Finset.univ fun r : Fin 31 => posn (F := F) c (oSend 0 w r) 0)
        ∗ srcPc P 0 w c c
        ∗ (due c n -∗ loads P c 0 w -∗ (bigSep Finset.univ fun r : Fin 31 => posn (F := F) c (oSend 0 w r) 1) -∗ Q ⟨⟩))
      ⊢ WP c (sent1 bPart (Memref.isWhole_whole _) bComm (Memref.isWhole_whole _) cc0_scratch4 c w) Q :=
  departures P K c 0 w n _
    (fun r Q => wait_step P K c (oSend 0 w r) 0 n (by simp [ownDue]) (semS_send1 w r) (slot_credit bPart _ _) (mayWait_send c 0 w r n hn) Q) Q
theorem sent2_spec (w : Fin 2) (n : ℕ) (hn : 31 ≤ n) (Q : PUnit → sProp 𝕄) :
    iprop(ctx P K c ∗ due c n ∗ (bigSep Finset.univ fun r : Fin 31 => crSend (F := F) c 1 w r) ∗ (bigSep Finset.univ fun r : Fin 31 => posn (F := F) c (oSend 1 w r) 0)
        ∗ srcPc P 1 w c c
        ∗ (due c n -∗ loads P c 1 w -∗ (bigSep Finset.univ fun r : Fin 31 => posn (F := F) c (oSend 1 w r) 1) -∗ Q ⟨⟩))
      ⊢ WP c (sent2 bGath (Memref.isWhole_whole _) bRed (Memref.isWhole_whole _) cc0_scratch6 c w) Q :=
  departures P K c 1 w n _
    (fun r Q => wait_step P K c (oSend 1 w r) 0 n (by simp [ownDue]) (semS_send2 w r) (rslot_credit bRed w) (mayWait_send c 1 w r n hn) Q) Q

end

end Cert.KernelIdeal.Mine

end
-- ==== Proof.Local.lean ====
/- The kernel's local phases: computing the partial output, summing what arrived, writing the result. -/
module

public import proofs.«01_k».proof.Proof.Phases

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Code" => Prog (TpuEff nD τ sig (Elt F) Λ₀ Proc.tc) PUnit

/-! ## The partial output of a device, of what its windows hold -/

abbrev rX (w : Fin 2) : Rect S2x256x512 := Rect.unit (s := S2x256x512) ![w.val, 0, 0] S1x256x512.size (x_inb w)
abbrev rKV (w : Fin 2) (h : Fin 4) : Rect S2x256x4x64 := Rect.unit (s := S2x256x4x64) ![w.val, 0, h.val, 0] S1x256x1x64.size (kv_inb w h)
abbrev rWq : Rect S512x256 := Rect.unit (s := S512x256) ![0, 0] S512x256.size inb_S512x256_S512x256_0_0
abbrev rWo : Rect S256x512 := Rect.unit (s := S256x512) ![0, 0] S256x512.size inb_S256x512_S256x512_0_0

/-- The device's partial output for one batch entry: of the activations, its columns of the query matrix, the keys,
    the values, and its rows of the output matrix. -/
def part (x : Vec F S2x256x512 .f32) (wq : Vec F S512x256 .f32) (k v : Vec F S2x256x4x64 .f32) (wo : Vec F S256x512 .f32) (w : Fin 2) :
    FVec F S256x512 .bf16 :=
  attn mask (fun i => x ((rX w).emb i)) (fun i => wq (rWq.emb i))
    ![fun i => k ((rKV w 0).emb i), fun i => k ((rKV w 1).emb i), fun i => k ((rKV w 2).emb i), fun i => k ((rKV w 3).emb i)]
    ![fun i => v ((rKV w 0).emb i), fun i => v ((rKV w 1).emb i), fun i => v ((rKV w 2).emb i), fun i => v ((rKV w 3).emb i)]
    (fun i => wo (rWo.emb i))

/-- Loading a rectangle of a buffer whose contents are known. -/
theorem load_known (c : Dev nD) {s : Shape} {e : EltTy} (m : Memref sig .tc .vmem s e) (r : Rect s) {hl : m.view.LoadsAt r.toLoadRect}
    (X : s.Idx → Elt F e) (k : (r.shape.Idx → Elt F e) → Code) (Q : PUnit → sProp 𝕄) :
    iprop(owns (c : Thread nD τ) m fullShare X ∗ (owns (c : Thread nD τ) m fullShare X -∗ WP c (k fun i => X (r.emb i)) Q))
      ⊢ WP c (.op (.load m r.toLoadRect hl) k) Q := by
  unfold owns
  iintro ⟨⟨%f, %hf, H⟩, Hk⟩
  subst hf
  iapply (wp_load_rect 𝒱₀ (c : Thread nD τ) none Set.univ (View.set_slice_subset (v := m.view) r)) $$ H
  iintro H
  iapply Hk
  iexists f
  isplitr; · ipureintro; rfl
  iexact H

/-- Storing a rectangle of a buffer held exactly: what was there does not matter. -/
theorem store_known (c : Dev nD) {s : Shape} {e : EltTy} (m : Memref sig .tc .vmem s e) (r : Rect s) (x : r.shape.Idx → Elt F e)
    {hx : (m.access r).Stores Finset.univ} {hm : (Finset.univ : Finset r.shape.Idx) = Finset.univ ∨ ∀ a, r.stride a = 1}
    (f g : Buf (Elt F) ((m.access r).loc (c : Thread nD τ))) (hg : (m.access r).read (Elt F) g = x) (Q : PUnit → sProp 𝕄) :
    iprop(pc m r c fullShare f ∗ (pc m r c fullShare g -∗ Q ⟨⟩)) ⊢ WP c (.op (.store m r x Finset.univ hx hm) .ret) Q := by
  iintro ⟨H, Hk⟩
  iapply (wp_store 𝒱₀ (c : Thread nD τ) none Set.univ (m := m) (r := r) (w := x) (Mk := Finset.univ) (hx := hx) (hm := hm)
    (S := (m.access r).set) (f := f) (Finset.Subset.refl _)) $$ H
  iintro H
  iapply (Entails.of_eq (WP_ret c Q).symm)
  imodintro
  iapply Hk
  iapply (Entails.of_eq (pts_read (m.access r) c fullShare ((View.read_write_univ ..).trans hg.symm)))
  iexact H

/-- Loading a rectangle of a buffer held exactly. -/
theorem load_piece (c : Dev nD) {s : Shape} {e : EltTy} (m : Memref sig .tc .vmem s e) (r : Rect s) {hl : m.view.LoadsAt r.toLoadRect}
    (q : PosShare TreeShare) (f : Buf (Elt F) ((m.access r).loc (c : Thread nD τ))) (k : (r.shape.Idx → Elt F e) → Code) (Q : PUnit → sProp 𝕄) :
    iprop(pc m r c q f ∗ (pc m r c q f -∗ WP c (k ((m.access r).read (Elt F) f)) Q)) ⊢ WP c (.op (.load m r.toLoadRect hl) k) Q := by
  iintro ⟨H, Hk⟩
  iapply (wp_load_rect 𝒱₀ (c : Thread nD τ) none Set.univ (m := m) (r := r) (hl := hl) (S := (m.access r).set) (Finset.Subset.refl _)) $$ H
  iexact Hk

variable (P : Dev nD → Fin 2 → FVec F S256x512 .bf16)

/-- Storing one row block of the partial output. -/
theorem store_piece (c : Dev nD) (w : Fin 2) (k : Fin 32) (v : FVec F S1x8x512 .bf16) (hv : chunk (P c w) k = v) (Q : PUnit → sProp 𝕄) :
    iprop((∃ f : Buf (Elt F) ((bPart.access (rP w k)).loc (c : Thread nD τ)), pc bPart (rP w k) c fullShare f)
        ∗ (pc bPart (rP w k) c fullShare (partC P c) -∗ Q ⟨⟩))
      ⊢ WP c (do
          let _ : Vec F S1x8x512 .bf16 ← Prog.lift (.load bPart (rP w k).toLoadRect (View.loadsAt_vmem h_S1x8x512))
          Prog.lift (.store bPart (rP w k) v Finset.univ (View.stores_vmem h_S1x8x512 ((Memref.isWhole_whole cc0_scratch0).storeExact_slice rfl _ (piece_packed w k)) (fun _ => rfl)) (.inl rfl))) Q := by
  subst hv
  iintro ⟨⟨%f, H⟩, Hk⟩
  iapply (load_piece c bPart (rP w k) fullShare f)
  isplitl [H]; · iexact H
  iintro H
  iapply (store_known c bPart (rP w k) (chunk (P c w) k) f (partC P c) (read_glue0 (fun w k => chunk (P c w) k) w k) Q)
  isplitl [H]; · iexact H
  iexact Hk

/-- What the five input windows hold. -/
def ins (c : Dev nD) (a0 : Memref sig .tc .vmem S2x256x512 .f32) (a1 : Memref sig .tc .vmem S512x256 .f32)
    (a2 a3 : Memref sig .tc .vmem S2x256x4x64 .f32) (a4 : Memref sig .tc .vmem S256x512 .f32)
    (x : Vec F S2x256x512 .f32) (wq : Vec F S512x256 .f32) (k v : Vec F S2x256x4x64 .f32) (wo : Vec F S256x512 .f32) : sProp 𝕄 :=
  iprop(owns (c : Thread nD τ) a0 fullShare x ∗ owns (c : Thread nD τ) a1 fullShare wq ∗ owns (c : Thread nD τ) a2 fullShare k
    ∗ owns (c : Thread nD τ) a3 fullShare v ∗ owns (c : Thread nD τ) a4 fullShare wo)

/-- The partial output for one batch entry is computed and stored, row block by row block. -/
theorem compute_spec (c : Dev nD) (a0 : Memref sig .tc .vmem S2x256x512 .f32) (a1 : Memref sig .tc .vmem S512x256 .f32)
    (a2 a3 : Memref sig .tc .vmem S2x256x4x64 .f32) (a4 : Memref sig .tc .vmem S256x512 .f32)
    (x : Vec F S2x256x512 .f32) (wq : Vec F S512x256 .f32) (k v : Vec F S2x256x4x64 .f32) (wo : Vec F S256x512 .f32) (w : Fin 2)
    (hP : P c w = part x wq k v wo w) (Q : PUnit → sProp 𝕄) :
    iprop(ins c a0 a1 a2 a3 a4 x wq k v wo
        ∗ (bigSep Finset.univ fun k : Fin 32 => iprop(∃ f : Buf (Elt F) ((bPart.access (rP w k)).loc (c : Thread nD τ)), pc bPart (rP w k) c fullShare f))
        ∗ (ins c a0 a1 a2 a3 a4 x wq k v wo -∗ loads P c 0 w -∗ Q ⟨⟩))
      ⊢ WP c (compute a0 a1 a2 a3 a4 bPart (Memref.isWhole_whole _) w) Q := by
  unfold compute ins
  iintro ⟨⟨H0, H1, H2, H3, H4⟩, Hp, Hk⟩
  iapply (load_known c a0 (rX w) x)
  isplitl [H0]; · iexact H0
  iintro H0
  iapply (load_known c a1 rWq wq)
  isplitl [H1]; · iexact H1
  iintro H1
  iapply (load_known c a2 (rKV w 0) k)
  isplitl [H2]; · iexact H2
  iintro H2
  iapply (load_known c a3 (rKV w 0) v)
  isplitl [H3]; · iexact H3
  iintro H3
  iapply (load_known c a2 (rKV w 1) k)
  isplitl [H2]; · iexact H2
  iintro H2
  iapply (load_known c a3 (rKV w 1) v)
  isplitl [H3]; · iexact H3
  iintro H3
  iapply (load_known c a2 (rKV w 2) k)
  isplitl [H2]; · iexact H2
  iintro H2
  iapply (load_known c a3 (rKV w 2) v)
  isplitl [H3]; · iexact H3
  iintro H3
  iapply (load_known c a2 (rKV w 3) k)
  isplitl [H2]; · iexact H2
  iintro H2
  iapply (load_known c a3 (rKV w 3) v)
  isplitl [H3]; · iexact H3
  iintro H3
  iapply (load_known c a4 rWo wo)
  isplitl [H4]; · iexact H4
  iintro H4
  iapply (wp_forFin c _ iprop(emp) (fun _ => iprop(emp))
    (fun k : Fin 32 => iprop(∃ f : Buf (Elt F) ((bPart.access (rP w k)).loc (c : Thread nD τ)), pc bPart (rP w k) c fullShare f))
    (fun k : Fin 32 => srcPc P 0 w c k) (fun k Q => by
      rw [srcPc_zero]
      iintro ⟨-, -, H, Hk⟩
      iapply (store_piece P c w k _ (congrArg (chunk · k) hP) Q)
      isplitl [H]; · iexact H
      iintro H
      iapply Hk $$ [] H
      iempintro) Q)
  isplitr; · iempintro
  isplitr; · iempintro
  isplitl [Hp]; · iexact Hp
  iintro - Hl
  unfold loads
  iapply Hk $$ [H0 H1 H2 H3 H4] Hl
  isplitl [H0]; · iexact H0
  isplitl [H1]; · iexact H1
  isplitl [H2]; · iexact H2
  isplitl [H3]; · iexact H3
  iexact H4

/-- A buffer's elements held whole are the 32 readers' shares of them. -/
theorem leaves_eq {ℓ : Loc nD τ sig} (I : Finset (Idx ℓ)) (f : Buf (Elt F) ℓ) :
    (bigSep (Finset.univ : Finset (Fin 32)) fun i => (ℓ ↦[I]{ShareLeaves.leaf 5 fullShare i} f : sProp 𝕄)) = (ℓ ↦[I]{fullShare} f) :=
  (ShareLeaves.pointsTo_leaves I f 5 fullShare).symm

theorem red_loads (c : Dev nD) (w : Fin 2) : loads P c 1 w = pc bRed (rB w) c fullShare (redC P c) :=
  (congrArg (bigSep Finset.univ) (funext fun k => srcPc_one P c w k)).trans
    (leaves_eq (ℓ := (bRed.access (rB w)).loc (c : Thread nD τ)) (bRed.access (rB w)).set (redC P c))

/-- One wave's row blocks are summed, and the sum is split for its 32 readers. -/
theorem reduce_spec (c : Dev nD) (w : Fin 2) (Q : PUnit → sProp 𝕄) :
    iprop(fills P c 0 w ∗ (∃ f : Buf (Elt F) ((bRed.access (rB w)).loc (c : Thread nD τ)), pc bRed (rB w) c fullShare f)
        ∗ (fills P c 0 w -∗ loads P c 1 w -∗ Q ⟨⟩))
      ⊢ WP c (reduce bComm bRed (Memref.isWhole_whole _) w) Q := by
  have hf : fills P c 0 w = pc bComm (rS w) c fullShare (commC P c) :=
    (congrArg (bigSep Finset.univ) (funext fun k => dstPc_zero P c w k)).trans (slab_pieces bComm w c fullShare (commC P c)).symm
  rw [hf, red_loads]
  unfold reduce
  iintro ⟨H, ⟨%f, Hr⟩, Hk⟩
  iapply (load_piece c bComm (rS w) fullShare (commC P c))
  isplitl [H]; · iexact H
  iintro H
  iapply (load_piece c bRed (rB w) fullShare f)
  isplitl [Hr]; · iexact Hr
  iintro Hr
  iapply (store_known c bRed (rB w) _ f (redC P c) (read_glue3 (redV P c) w) Q)
  isplitl [Hr]; · iexact Hr
  iintro Hr
  iapply Hk $$ H Hr

/-- One wave's gathered row blocks are written to the output window. -/
theorem output_spec (c : Dev nD) (w : Fin 2) (Q : PUnit → sProp 𝕄) :
    iprop(fills P c 1 w
        ∗ (bigSep Finset.univ fun k : Fin 32 => iprop(∃ f : Buf (Elt F) ((bOut.access (rO w k)).loc (c : Thread nD τ)), pc bOut (rO w k) c fullShare f))
        ∗ (fills P c 1 w -∗ (bigSep Finset.univ fun k : Fin 32 => pc bOut (rO w k) c fullShare (outC P)) -∗ Q ⟨⟩))
      ⊢ WP c (output bOut bGath w) Q := by
  unfold output
  iintro ⟨Hf, Ho, Hk⟩
  unfold fills
  iapply (wp_forFin c _ iprop(emp) (fun _ => iprop(emp))
    (fun k : Fin 32 => iprop(dstPc P 1 w c k ∗ ∃ f : Buf (Elt F) ((bOut.access (rO w k)).loc (c : Thread nD τ)), pc bOut (rO w k) c fullShare f))
    (fun k : Fin 32 => iprop(dstPc P 1 w c k ∗ pc bOut (rO w k) c fullShare (outC P))) (fun k Q => by
      rw [dstPc_one]
      iintro ⟨-, -, ⟨H, ⟨%f, Hr⟩⟩, Hk⟩
      iapply (load_piece c bGath (rP w k) fullShare (gathC P))
      isplitl [H]; · iexact H
      iintro H
      iapply (load_piece c bOut (rO w k) fullShare f)
      isplitl [Hr]; · iexact Hr
      iintro Hr
      iapply (store_known c bOut (rO w k) _ f (outC P)
        ((read_glue5 (fun w k => k0_pay1 (redV P k w)) w k).trans (congrArg k0_pay1 (read_glue2 (fun w k => redV P k w) w k).symm)) Q)
      isplitl [Hr]; · iexact Hr
      iintro Hr
      iapply Hk $$ [] [H Hr]
      · iempintro
      isplitl [H]; · iexact H
      iexact Hr) Q)
  isplitr; · iempintro
  isplitr; · iempintro
  isplitl [Hf Ho]
  · iapply (Entails.of_eq (bigSep_sep' (Finset.univ : Finset (Fin 32)) _ _).symm)
    isplitl [Hf]; · iexact Hf
    iexact Ho
  iintro - H
  ihave H2 := (Entails.of_eq (bigSep_sep' (Finset.univ : Finset (Fin 32)) _ _)) $$ H
  icases H2 with ⟨Hf, Ho⟩
  iapply Hk $$ Hf Ho

end Cert.KernelIdeal.Mine

end
-- ==== Proof.Body.lean ====
/- The kernel's whole body on one device, by one triple. -/
module

public import proofs.«01_k».proof.Proof.Local

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Code" => Prog (TpuEff nD τ sig (Elt F) Λ₀ Proc.tc) PUnit

/-! ## Two phases of two waves -/

/-- A family over the waves, written out. -/
theorem waves (Φ : Fin 2 → sProp 𝕄) : (bigSep Finset.univ fun w => Φ w) = iprop(Φ 0 ∗ Φ 1) := BI.bigSep_fin_two Φ
/-- A family over the phases and waves, written out. -/
theorem quad (Φ : Fin 2 → Fin 2 → sProp 𝕄) :
    (bigSep Finset.univ fun p => bigSep Finset.univ fun w => Φ p w) = iprop((Φ 0 0 ∗ Φ 0 1) ∗ (Φ 1 0 ∗ Φ 1 1)) := by
  rw [waves, waves, waves]
/-- A family over the peers, phases and waves, taken phase by phase and wave by wave. -/
theorem quad_peers (Φ : Fin 2 → Fin 2 → Fin 31 → sProp 𝕄) :
    (bigSep Finset.univ fun r => bigSep Finset.univ fun p => bigSep Finset.univ fun w => Φ p w r)
      = bigSep Finset.univ fun p => bigSep Finset.univ fun w => bigSep Finset.univ fun r => Φ p w r :=
  (bigSep_univ_comm fun r p => bigSep Finset.univ fun w => Φ p w r).trans
    (congrArg (bigSep Finset.univ) (funext fun p => bigSep_univ_comm fun r w => Φ p w r))

variable (P : Dev nD → Fin 2 → FVec F S256x512 .bf16) (K : GSem nD τ sig → ℕ) (c : Dev nD)

/-- The signals: each peer is given the own places meant for it. -/
theorem signals_spec (Q : PUnit → sProp 𝕄) :
    iprop(ctx P K c ∗ due c 0 ∗ (bigSep Finset.univ fun r : Fin 31 => dutyTok ER (barCell (peer c r)) 0 c)
        ∗ (bigSep Finset.univ fun p : Fin 2 => bigSep Finset.univ fun w : Fin 2 => bigSep Finset.univ fun r : Fin 31 => dstAny (F := F) p w c (peer c r))
        ∗ (due c 31 -∗ Q ⟨⟩))
      ⊢ WP c (signals c) Q := by
  unfold signals
  iintro ⟨#Hc, HO, Ht, Hd, Hk⟩
  iapply (wp_forFin c _ (ctx P K c) (fun n => due c n) (fun r : Fin 31 => iprop(dutyTok ER (barCell (peer c r)) 0 c ∗ barPay (F := F) (peer c r) c))
    (fun _ => iprop(emp)) (fun r Q => signal_step P K c r Q) Q)
  isplitr; · iexact Hc
  isplitl [HO]; · iexact HO
  isplitl [Ht Hd]
  · iapply (Entails.of_eq (bigSep_sep' (Finset.univ : Finset (Fin 31)) _ _).symm)
    isplitl [Ht]; · iexact Ht
    iapply (bigSep_with_persistent (S := Finset.univ) (R := ctx P K c)
      (Φ := fun r : Fin 31 => bigSep Finset.univ fun p : Fin 2 => bigSep Finset.univ fun w : Fin 2 => dstAny (F := F) p w c (peer c r))
      (Ψ := fun r : Fin 31 => barPay (F := F) (peer c r) c) (fun r _ => by
        unfold barPay
        rw [quad, quad]
        iintro ⟨#Hc, ⟨⟨H0, H1⟩, ⟨H2, H3⟩⟩⟩
        isplitl [H0 H1]
        · isplitl [H0]
          · isplitl [H0]; · iexact H0
            iapply (ctx_rown P K c (oRecv 0 0 (peer c r))); iexact Hc
          isplitl [H1]; · iexact H1
          iapply (ctx_rown P K c (oRecv 0 1 (peer c r))); iexact Hc
        isplitl [H2]
        · isplitl [H2]; · iexact H2
          iapply (ctx_rown P K c (oRecv 1 0 (peer c r))); iexact Hc
        isplitl [H3]; · iexact H3
        iapply (ctx_rown P K c (oRecv 1 1 (peer c r))); iexact Hc))
    isplitr; · iexact Hc
    iapply (Entails.of_eq (quad_peers fun p w r => dstAny (F := F) p w c (peer c r)).symm)
    iexact Hd
  iintro HO -
  iapply Hk $$ HO

/-- What the peers gave with their signals: their places for this device. -/
theorem doors_eq : (bigSep (Finset.univ.erase c) fun d => barPay (F := F) c d)
    = bigSep Finset.univ fun p : Fin 2 => bigSep Finset.univ fun w : Fin 2 => bigSep Finset.univ fun r : Fin 31 => door (F := F) c p w (peer c r) :=
  (erase_along (peer c) (peer_inj c) c (peer_ne c) _).trans (quad_peers fun p w r => door (F := F) c p w (peer c r))

/-! ## The buffers at entry -/

theorem some_of {α : Type} (Φ : α → sProp 𝕄) (x : α) : Idealize.SL.BI.Entails (Φ x) iprop(∃ x, Φ x) := exists_intro (Φ := Φ) x

/-- A buffer of row blocks at contents not chosen, block by block. -/
theorem comm_any (b : Memref sig .tc .vmem S32x16x512 .bf16) (hb : b.IsWhole) :
    (iprop(∃ f : Buf (Elt F) (b.view.loc (c : Thread nD τ)), b.view.loc (c : Thread nD τ) ↦{fullShare} f) : sProp 𝕄)
      ⊢ bigSep Finset.univ fun w : Fin 2 => bigSep Finset.univ fun k : Fin 32 =>
          iprop(∃ f : Buf (Elt F) ((b.access (rP w k)).loc (c : Thread nD τ)), pc b (rP w k) c fullShare f) := by
  iintro ⟨%f, H⟩
  iapply (show (b.view.loc (c : Thread nD τ) ↦{fullShare} f : sProp 𝕄) ⊢ _ from
    (Entails.of_eq (comm_pieces b hb c fullShare f)).trans (bigSep_mono fun w _ => bigSep_mono fun k _ => some_of _ f))
  iexact H
theorem out_any :
    (iprop(∃ f : Buf (Elt F) (bOut.view.loc (c : Thread nD τ)), bOut.view.loc (c : Thread nD τ) ↦{fullShare} f) : sProp 𝕄)
      ⊢ bigSep Finset.univ fun w : Fin 2 => bigSep Finset.univ fun k : Fin 32 =>
          iprop(∃ f : Buf (Elt F) ((bOut.access (rO w k)).loc (c : Thread nD τ)), pc bOut (rO w k) c fullShare f) := by
  iintro ⟨%f, H⟩
  iapply (show (bOut.view.loc (c : Thread nD τ) ↦{fullShare} f : sProp 𝕄) ⊢ _ from
    (Entails.of_eq (out_pieces bOut (hstage0_5 0) c fullShare f)).trans (bigSep_mono fun w _ => bigSep_mono fun k _ => some_of _ f))
  iexact H
theorem red_any :
    (iprop(∃ f : Buf (Elt F) (bRed.view.loc (c : Thread nD τ)), bRed.view.loc (c : Thread nD τ) ↦{fullShare} f) : sProp 𝕄)
      ⊢ bigSep Finset.univ fun w : Fin 2 =>
          iprop(∃ f : Buf (Elt F) ((bRed.access (rB w)).loc (c : Thread nD τ)), pc bRed (rB w) c fullShare f) := by
  iintro ⟨%f, H⟩
  iapply (show (bRed.view.loc (c : Thread nD τ) ↦{fullShare} f : sProp 𝕄) ⊢ _ from
    (Entails.of_eq (red_pieces bRed (Memref.isWhole_whole _) c fullShare f)).trans (bigSep_mono fun w _ => some_of _ f))
  iexact H

/-- The places of one wave of a phase: the own one, and those for the peers. -/
theorem places_eq (p w : Fin 2) : (bigSep Finset.univ fun s : Dev nD => dstAny (F := F) p w c s)
    = iprop(dstAny (F := F) p w c c ∗ bigSep Finset.univ fun r : Fin 31 => dstAny (F := F) p w c (peer c r)) := devs_peer c _

/-- The two buffers others write to are the places of every phase and wave: the own ones, and those for the peers. -/
theorem places :
    (iprop((∃ f : Buf (Elt F) (bComm.view.loc (c : Thread nD τ)), bComm.view.loc (c : Thread nD τ) ↦{fullShare} f)
        ∗ (∃ f : Buf (Elt F) (bGath.view.loc (c : Thread nD τ)), bGath.view.loc (c : Thread nD τ) ↦{fullShare} f)) : sProp 𝕄)
      ⊢ iprop((bigSep Finset.univ fun p : Fin 2 => bigSep Finset.univ fun w : Fin 2 => dstAny (F := F) p w c c)
        ∗ bigSep Finset.univ fun p : Fin 2 => bigSep Finset.univ fun w : Fin 2 => bigSep Finset.univ fun r : Fin 31 => dstAny (F := F) p w c (peer c r)) := by
  have h0 : (bigSep Finset.univ fun w : Fin 2 => bigSep Finset.univ fun k : Fin 32 =>
        (iprop(∃ f : Buf (Elt F) ((bComm.access (rP w k)).loc (c : Thread nD τ)), pc bComm (rP w k) c fullShare f) : sProp 𝕄))
      = bigSep Finset.univ fun w : Fin 2 => bigSep Finset.univ fun s : Dev nD => dstAny (F := F) 0 w c s :=
    congrArg (bigSep Finset.univ) (funext fun w => congrArg (bigSep Finset.univ) (funext fun s => (dstAny_zero c w s).symm))
  have h1 : (bigSep Finset.univ fun w : Fin 2 => bigSep Finset.univ fun k : Fin 32 =>
        (iprop(∃ f : Buf (Elt F) ((bGath.access (rP w k)).loc (c : Thread nD τ)), pc bGath (rP w k) c fullShare f) : sProp 𝕄))
      = bigSep Finset.univ fun w : Fin 2 => bigSep Finset.univ fun s : Dev nD => dstAny (F := F) 1 w c s :=
    congrArg (bigSep Finset.univ) (funext fun w => congrArg (bigSep Finset.univ) (funext fun s => (dstAny_one c w s).symm))
  rw [quad, quad]
  iintro ⟨Ha, Hb⟩
  ihave Ha := ((comm_any c bComm (Memref.isWhole_whole _)).trans (Entails.of_eq (h0.trans (waves _)))) $$ Ha
  ihave Hb := ((comm_any c bGath (Memref.isWhole_whole _)).trans (Entails.of_eq (h1.trans (waves _)))) $$ Hb
  icases Ha with ⟨H0, H1⟩
  icases Hb with ⟨H2, H3⟩
  ihave H0 := (Entails.of_eq (places_eq (F := F) c 0 0)) $$ H0
  ihave H1 := (Entails.of_eq (places_eq (F := F) c 0 1)) $$ H1
  ihave H2 := (Entails.of_eq (places_eq (F := F) c 1 0)) $$ H2
  ihave H3 := (Entails.of_eq (places_eq (F := F) c 1 1)) $$ H3
  icases H0 with ⟨A0, B0⟩
  icases H1 with ⟨A1, B1⟩
  icases H2 with ⟨A2, B2⟩
  icases H3 with ⟨A3, B3⟩
  isplitl [A0 A1 A2 A3]
  · isplitl [A0 A1]
    · isplitl [A0]; · iexact A0
      iexact A1
    isplitl [A2]; · iexact A2
    iexact A3
  isplitl [B0 B1]
  · isplitl [B0]; · iexact B0
    iexact B1
  isplitl [B2]; · iexact B2
  iexact B3

/-! ## The body -/

/-- What a wave of a phase is entered with: the rights to pay, the own positions, the credit for what arrives. -/
def kit (p w : Fin 2) : sProp 𝕄 :=
  iprop((bigSep Finset.univ fun r : Fin 31 => fare (F := F) c p w r) ∗ dutyTok ER (cell c (oLoc w)) p.val 0
    ∗ (bigSep Finset.univ fun r : Fin 31 => posn (F := F) c (oSend p w r) 0) ∗ (bigSep Finset.univ fun r : Fin 31 => posn (F := F) c (oRecv p w (src c r)) 0)
    ∗ bigSep Finset.univ fun r : Fin 31 => crRecv (F := F) c p w (src c r))
/-- What is left of it at the end. -/
def spent (p w : Fin 2) : sProp 𝕄 :=
  iprop((bigSep Finset.univ fun r : Fin 31 => posn (F := F) c (oSend p w r) 1) ∗ bigSep Finset.univ fun r : Fin 31 => posn (F := F) c (oRecv p w (src c r)) 1)

/-- The four buffers of the kernel's own, at contents not chosen. -/
def scratch : sProp 𝕄 :=
  iprop((∃ f : Buf (Elt F) (bPart.view.loc (c : Thread nD τ)), bPart.view.loc (c : Thread nD τ) ↦{fullShare} f)
    ∗ (∃ f : Buf (Elt F) (bComm.view.loc (c : Thread nD τ)), bComm.view.loc (c : Thread nD τ) ↦{fullShare} f)
    ∗ (∃ f : Buf (Elt F) (bGath.view.loc (c : Thread nD τ)), bGath.view.loc (c : Thread nD τ) ↦{fullShare} f)
    ∗ (∃ f : Buf (Elt F) (bRed.view.loc (c : Thread nD τ)), bRed.view.loc (c : Thread nD τ) ↦{fullShare} f))

/-- What the body is entered with. -/
def bodyPre : sProp 𝕄 :=
  iprop(ctx P K c ∗ due c 0 ∗ cred (tallyAt (barCell c) () 31) ∗ atPos ER (barCell c) 0 ∅ 0
    ∗ (bigSep Finset.univ fun r : Fin 31 => dutyTok ER (barCell (peer c r)) 0 c)
    ∗ (bigSep Finset.univ fun p : Fin 2 => bigSep Finset.univ fun w : Fin 2 => kit (F := F) c p w)
    ∗ (bigSep Finset.univ fun w : Fin 2 => posn (F := F) c (oLoc w) 0)
    ∗ scratch c ∗ (∃ f : Buf (Elt F) (bOut.view.loc (c : Thread nD τ)), bOut.view.loc (c : Thread nD τ) ↦{fullShare} f))
/-- What it is left with. -/
def bodyPost : sProp 𝕄 :=
  iprop(due c 155 ∗ atPos ER (barCell c) 1 ∅ 0
    ∗ (bigSep Finset.univ fun p : Fin 2 => bigSep Finset.univ fun w : Fin 2 => spent (F := F) c p w)
    ∗ (bigSep Finset.univ fun w : Fin 2 => posn (F := F) c (oLoc w) 2)
    ∗ scratch c ∗ (bOut.view.loc (c : Thread nD τ) ↦{fullShare} outC P))

/-- The two waves of a phase's sources, or fills, are the whole buffer. -/
theorem part_whole : (bigSep Finset.univ fun w : Fin 2 => loads P c 0 w) = (bPart.view.loc (c : Thread nD τ) ↦{fullShare} partC P c) := by
  rw [comm_pieces bPart (Memref.isWhole_whole _) c fullShare (partC P c)]
  exact congrArg (bigSep Finset.univ) (funext fun w => congrArg (bigSep Finset.univ) (funext fun k => srcPc_zero P c w k))
theorem comm_whole : (bigSep Finset.univ fun w : Fin 2 => fills P c 0 w) = (bComm.view.loc (c : Thread nD τ) ↦{fullShare} commC P c) := by
  rw [comm_pieces bComm (Memref.isWhole_whole _) c fullShare (commC P c)]
  exact congrArg (bigSep Finset.univ) (funext fun w => congrArg (bigSep Finset.univ) (funext fun k => dstPc_zero P c w k))
theorem gath_whole : (bigSep Finset.univ fun w : Fin 2 => fills P c 1 w) = (bGath.view.loc (c : Thread nD τ) ↦{fullShare} gathC P) := by
  rw [comm_pieces bGath (Memref.isWhole_whole _) c fullShare (gathC P)]
  exact congrArg (bigSep Finset.univ) (funext fun w => congrArg (bigSep Finset.univ) (funext fun k => dstPc_one P c w k))
theorem red_whole : (bigSep Finset.univ fun w : Fin 2 => loads P c 1 w) = (bRed.view.loc (c : Thread nD τ) ↦{fullShare} redC P c) := by
  rw [red_pieces bRed (Memref.isWhole_whole _) c fullShare (redC P c)]
  exact congrArg (bigSep Finset.univ) (funext fun w => red_loads P c w)

theorem due_eq {n n' : ℕ} (h : n = n') : (due (F := F) c n : sProp 𝕄) ⊢ due c n' := by subst h; iintro H; iexact H

theorem gear_intro (p w : Fin 2) : iprop(dstAny (F := F) p w c c ∗ dutyTok ER (cell c (oLoc w)) p.val 0
    ∗ (bigSep Finset.univ fun r : Fin 31 => door (F := F) c p w (peer c r)) ∗ (bigSep Finset.univ fun r : Fin 31 => fare (F := F) c p w r)) ⊢ gear (F := F) c p w := by
  unfold gear; iintro H; iexact H

theorem WP_deviceId (f : Dev nD → Code) (Q : PUnit → sProp 𝕄) : WP c (Prog.lift TpuEff.deviceId >>= f) Q = WP c (f c) Q := by
  rw [Prog.bind_lift]; exact wp_deviceId ..

set_option maxHeartbeats 2000000 in
/-- The whole body: from its resources and the five input windows, to the output window at its value. -/
theorem body_run (x : Vec F S2x256x512 .f32) (wq : Vec F S512x256 .f32) (k v : Vec F S2x256x4x64 .f32) (wo : Vec F S256x512 .f32)
    (hP : ∀ w, P c w = part x wq k v wo w) (Q : PUnit → sProp 𝕄) :
    iprop(bodyPre P K c ∗ ins c (st0_0 t0_0) (st0_1 t0_0) (st0_2 t0_0) (st0_3 t0_0) (st0_4 t0_0) x wq k v wo
        ∗ (bodyPost P c -∗ ins c (st0_0 t0_0) (st0_1 t0_0) (st0_2 t0_0) (st0_3 t0_0) (st0_4 t0_0) x wq k v wo -∗ Q ⟨⟩))
      ⊢ WP c (bodyAt0 (F := F) t0_0) Q := by
  have hb : bodyAt0 (F := F) t0_0 = _ := (body_eq ..).symm
  rw [hb]
  unfold clean
  refine (?_ : _ ⊢ _).trans (Entails.of_eq (WP_deviceId c _ Q).symm)
  unfold bodyPre scratch
  rw [quad (fun p w => kit (F := F) c p w), waves]
  unfold kit
  iintro ⟨⟨#Hc, HO, Hcr, Hbar, Hbt, ⟨⟨⟨F0, L0, S0, R0, C0⟩, ⟨F1, L1, S1, R1, C1⟩⟩, ⟨⟨F2, L2, S2, R2, C2⟩, ⟨F3, L3, S3, R3, C3⟩⟩⟩, ⟨M0, M1⟩, ⟨BP, BC, BG, BR⟩, BO⟩, HI, Hk⟩
  ihave BP := ((comm_any c bPart (Memref.isWhole_whole _)).trans (Entails.of_eq (waves _))) $$ BP
  icases BP with ⟨BP0, BP1⟩
  ihave BR := ((red_any c).trans (Entails.of_eq (waves _))) $$ BR
  icases BR with ⟨BR0, BR1⟩
  ihave BO := ((out_any c).trans (Entails.of_eq (waves _))) $$ BO
  icases BO with ⟨BO0, BO1⟩
  ihave BB := (places (F := F) c) $$ [BC BG]
  · isplitl [BC]; · iexact BC
    iexact BG
  icases BB with ⟨BY, BZ⟩
  ihave BY := (Entails.of_eq (quad (fun p w => dstAny (F := F) p w c c))) $$ BY
  icases BY with ⟨⟨Y0, Y1⟩, ⟨Y2, Y3⟩⟩
  -- the signals
  iapply (Entails.of_eq (WP_seq c _ _ _).symm)
  iapply (signals_spec P K c _)
  isplitr; · iexact Hc
  isplitl [HO]; · iexact HO
  isplitl [Hbt]; · iexact Hbt
  isplitl [BZ]; · iexact BZ
  iintro HO
  -- the first wave's partial output
  iapply (Entails.of_eq (WP_seq c _ _ _).symm)
  iapply (compute_spec P c _ _ _ _ _ x wq k v wo 0 (hP 0) _)
  isplitl [HI]; · iexact HI
  isplitl [BP0]; · iexact BP0
  iintro HI A0
  -- the barrier
  iapply (Entails.of_eq (WP_seq c _ _ _).symm)
  iapply (bar_step P K c _)
  isplitr; · iexact Hc
  isplitl [HO]; · iexact HO
  isplitl [Hcr]; · iexact Hcr
  isplitl [Hbar]; · iexact Hbar
  iintro HO Hbar HD
  ihave HD := (Entails.of_eq ((doors_eq (F := F) c).trans (quad _))) $$ HD
  icases HD with ⟨⟨D0, D1⟩, ⟨D2, D3⟩⟩
  -- first phase, first wave
  ihave G0 := (gear_intro (F := F) c 0 0) $$ [Y0 L0 D0 F0]
  · isplitl [Y0]; · iexact Y0
    isplitl [L0]; · iexact L0
    isplitl [D0]; · iexact D0
    iexact F0
  iapply (Entails.of_eq (WP_seq c _ _ _).symm)
  iapply (phase1_spec P K c 0 _)
  isplitr; · iexact Hc
  isplitl [HO]; · iapply (due_eq c (n := 31) (by decide)); iexact HO
  isplitl [A0]; · iexact A0
  isplitl [G0]; · iexact G0
  isplitr; · iapply (ctx_rown P K c (oLoc 0)); iexact Hc
  iintro HO E0 T0
  ihave HO := (due_eq c (n' := 62) (by decide)) $$ HO
  -- the second wave's partial output
  iapply (Entails.of_eq (WP_seq c _ _ _).symm)
  iapply (compute_spec P c _ _ _ _ _ x wq k v wo 1 (hP 1) _)
  isplitl [HI]; · iexact HI
  isplitl [BP1]; · iexact BP1
  iintro HI A1
  -- first phase, second wave
  ihave G1 := (gear_intro (F := F) c 0 1) $$ [Y1 L1 D1 F1]
  · isplitl [Y1]; · iexact Y1
    isplitl [L1]; · iexact L1
    isplitl [D1]; · iexact D1
    iexact F1
  iapply (Entails.of_eq (WP_seq c _ _ _).symm)
  iapply (phase1_spec P K c 1 _)
  isplitr; · iexact Hc
  isplitl [HO]; · iapply (due_eq c (n := 62) (by decide)); iexact HO
  isplitl [A1]; · iexact A1
  isplitl [G1]; · iexact G1
  isplitr; · iapply (ctx_rown P K c (oLoc 1)); iexact Hc
  iintro HO E1 T1
  ihave HO := (due_eq c (n' := 93) (by decide)) $$ HO
  -- the first wave's sums, and its second phase
  iapply (Entails.of_eq (WP_seq c _ _ _).symm)
  iapply (wait1_spec P K c 0 93 (by decide) _)
  isplitr; · iexact Hc
  isplitl [HO]; · iexact HO
  isplitl [C0]; · iexact C0
  isplitl [R0]; · iexact R0
  isplitl [E0]; · iexact E0
  isplitl [M0]; · iexact M0
  iintro HO W0 X0 R0 M0 #V0
  iapply (Entails.of_eq (WP_seq c _ _ _).symm)
  iapply (reduce_spec P c 0 _)
  isplitl [W0]; · iexact W0
  isplitl [BR0]; · iexact BR0
  iintro W0 A2
  ihave G2 := (gear_intro (F := F) c 1 0) $$ [Y2 L2 D2 F2]
  · isplitl [Y2]; · iexact Y2
    isplitl [L2]; · iexact L2
    isplitl [D2]; · iexact D2
    iexact F2
  iapply (Entails.of_eq (WP_seq c _ _ _).symm)
  iapply (phase2_spec P K c 0 _)
  isplitr; · iexact Hc
  isplitl [HO]; · iapply (due_eq c (n := 93) (by decide)); iexact HO
  isplitl [A2]; · iexact A2
  isplitl [G2]; · iexact G2
  isplitr; · iexact V0
  iintro HO E2 T2
  ihave HO := (due_eq c (n' := 124) (by decide)) $$ HO
  -- the second wave's sums, and its second phase
  iapply (Entails.of_eq (WP_seq c _ _ _).symm)
  iapply (wait1_spec P K c 1 124 (by decide) _)
  isplitr; · iexact Hc
  isplitl [HO]; · iexact HO
  isplitl [C1]; · iexact C1
  isplitl [R1]; · iexact R1
  isplitl [E1]; · iexact E1
  isplitl [M1]; · iexact M1
  iintro HO W1 X1 R1 M1 #V1
  iapply (Entails.of_eq (WP_seq c _ _ _).symm)
  iapply (reduce_spec P c 1 _)
  isplitl [W1]; · iexact W1
  isplitl [BR1]; · iexact BR1
  iintro W1 A3
  ihave G3 := (gear_intro (F := F) c 1 1) $$ [Y3 L3 D3 F3]
  · isplitl [Y3]; · iexact Y3
    isplitl [L3]; · iexact L3
    isplitl [D3]; · iexact D3
    iexact F3
  iapply (Entails.of_eq (WP_seq c _ _ _).symm)
  iapply (phase2_spec P K c 1 _)
  isplitr; · iexact Hc
  isplitl [HO]; · iapply (due_eq c (n := 124) (by decide)); iexact HO
  isplitl [A3]; · iexact A3
  isplitl [G3]; · iexact G3
  isplitr; · iexact V1
  iintro HO E3 T3
  ihave HO := (due_eq c (n' := 155) (by decide)) $$ HO
  -- the sums of the others
  iapply (Entails.of_eq (WP_seq c _ _ _).symm)
  iapply (wait2_spec P K c 0 155 (by decide) _)
  isplitr; · iexact Hc
  isplitl [HO]; · iexact HO
  isplitl [C2]; · iexact C2
  isplitl [R2]; · iexact R2
  isplitl [E2]; · iexact E2
  isplitl [M0]; · iexact M0
  iintro HO W2 X2 R2 M0 -
  iapply (Entails.of_eq (WP_seq c _ _ _).symm)
  iapply (wait2_spec P K c 1 155 (by decide) _)
  isplitr; · iexact Hc
  isplitl [HO]; · iexact HO
  isplitl [C3]; · iexact C3
  isplitl [R3]; · iexact R3
  isplitl [E3]; · iexact E3
  isplitl [M1]; · iexact M1
  iintro HO W3 X3 R3 M1 -
  -- the departures
  iapply (Entails.of_eq (WP_seq c _ _ _).symm)
  iapply (sent1_spec P K c 0 155 (by decide) _)
  isplitr; · iexact Hc
  isplitl [HO]; · iexact HO
  isplitl [T0]; · iexact T0
  isplitl [S0]; · iexact S0
  isplitl [X0]; · iexact X0
  iintro HO A0 S0
  iapply (Entails.of_eq (WP_seq c _ _ _).symm)
  iapply (sent1_spec P K c 1 155 (by decide) _)
  isplitr; · iexact Hc
  isplitl [HO]; · iexact HO
  isplitl [T1]; · iexact T1
  isplitl [S1]; · iexact S1
  isplitl [X1]; · iexact X1
  iintro HO A1 S1
  iapply (Entails.of_eq (WP_seq c _ _ _).symm)
  iapply (sent2_spec P K c 0 155 (by decide) _)
  isplitr; · iexact Hc
  isplitl [HO]; · iexact HO
  isplitl [T2]; · iexact T2
  isplitl [S2]; · iexact S2
  isplitl [X2]; · iexact X2
  iintro HO A2 S2
  iapply (Entails.of_eq (WP_seq c _ _ _).symm)
  iapply (sent2_spec P K c 1 155 (by decide) _)
  isplitr; · iexact Hc
  isplitl [HO]; · iexact HO
  isplitl [T3]; · iexact T3
  isplitl [S3]; · iexact S3
  isplitl [X3]; · iexact X3
  iintro HO A3 S3
  -- the output
  iapply (Entails.of_eq (WP_seq c _ _ _).symm)
  iapply (output_spec P c 0 _)
  isplitl [W2]; · iexact W2
  isplitl [BO0]; · iexact BO0
  iintro W2 O0
  iapply (output_spec P c 1 _)
  isplitl [W3]; · iexact W3
  isplitl [BO1]; · iexact BO1
  iintro W3 O1
  ispecialize Hk $$ [HO Hbar S0 R0 S1 R1 S2 R2 S3 R3 M0 M1 A0 A1 W0 W1 W2 W3 A2 A3 O0 O1]
  · unfold bodyPost
    isplitl [HO]; · iexact HO
    isplitl [Hbar]; · iexact Hbar
    isplitl [S0 R0 S1 R1 S2 R2 S3 R3]
    · iapply (Entails.of_eq (quad (fun p w => spent (F := F) c p w)).symm)
      unfold spent
      isplitl [S0 R0 S1 R1]
      · isplitl [S0 R0]
        · isplitl [S0]; · iexact S0
          iexact R0
        isplitl [S1]; · iexact S1
        iexact R1
      isplitl [S2 R2]
      · isplitl [S2]; · iexact S2
        iexact R2
      isplitl [S3]; · iexact S3
      iexact R3
    isplitl [M0 M1]
    · iapply (Entails.of_eq (waves _).symm)
      isplitl [M0]; · iexact M0
      iexact M1
    isplitl [A0 A1 W0 W1 W2 W3 A2 A3]
    · unfold scratch
      isplitl [A0 A1]
      · iexists partC P c
        iapply (Entails.of_eq ((waves _).symm.trans (part_whole P c)))
        isplitl [A0]; · iexact A0
        iexact A1
      isplitl [W0 W1]
      · iexists commC P c
        iapply (Entails.of_eq ((waves _).symm.trans (comm_whole P c)))
        isplitl [W0]; · iexact W0
        iexact W1
      isplitl [W2 W3]
      · iexists gathC P
        iapply (Entails.of_eq ((waves _).symm.trans (gath_whole P c)))
        isplitl [W2]; · iexact W2
        iexact W3
      iexists redC P c
      iapply (Entails.of_eq ((waves _).symm.trans (red_whole P c)))
      isplitl [A2]; · iexact A2
      iexact A3
    iapply (Entails.of_eq ((waves _).symm.trans (out_pieces bOut (hstage0_5 0) c fullShare (outC P)).symm))
    isplitl [O0]; · iexact O0
    iexact O1
  iapply Hk $$ HI

end Cert.KernelIdeal.Mine

end
-- ==== Proof.Open.lean ====
/- The kernel's own counters: opened at entry, closed at exit. -/
module

public import proofs.«01_k».proof.Proof.Body

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Code" => Prog (TpuEff nD τ sig (Elt F) Λ₀ Proc.tc) PUnit

/-! ## The kernel's own counters, family by family -/

theorem two_sep (Φ Ψ : Fin 2 → Fin 2 → sProp 𝕄) :
    (bigSep Finset.univ fun p => bigSep Finset.univ fun w => iprop(Φ p w ∗ Ψ p w))
      = iprop((bigSep Finset.univ fun p => bigSep Finset.univ fun w => Φ p w) ∗ bigSep Finset.univ fun p => bigSep Finset.univ fun w => Ψ p w) :=
  (congrArg (bigSep Finset.univ) (funext fun p => bigSep_sep' Finset.univ (Φ p) (Ψ p))).trans (bigSep_sep' Finset.univ _ _)

theorem two_prod {n : ℕ} (Φ : Fin 2 × Fin 2 × Fin n → sProp 𝕄) :
    bigSep Finset.univ Φ = bigSep Finset.univ fun p => bigSep Finset.univ fun w => bigSep Finset.univ fun r => Φ (p, w, r) :=
  (BI.bigSep_univ_prod Φ).trans (congrArg (bigSep Finset.univ) (funext fun p => BI.bigSep_univ_prod fun x => Φ (p, x)))

/-- A family over the own counters: sends, receives from the others, receives from oneself (never used), local copies. -/
theorem own_split (c : Dev nD) (Φ : Own → sProp 𝕄) : bigSep Finset.univ Φ
    = iprop((bigSep Finset.univ fun p : Fin 2 => bigSep Finset.univ fun w : Fin 2 => bigSep Finset.univ fun r : Fin 31 => Φ (oSend p w r))
      ∗ ((bigSep Finset.univ fun p : Fin 2 => bigSep Finset.univ fun w : Fin 2 => Φ (oRecv p w c))
        ∗ (bigSep Finset.univ fun p : Fin 2 => bigSep Finset.univ fun w : Fin 2 => bigSep Finset.univ fun r : Fin 31 => Φ (oRecv p w (src c r))))
      ∗ bigSep Finset.univ fun w : Fin 2 => Φ (oLoc w)) := by
  have h1 : bigSep Finset.univ Φ = iprop((bigSep Finset.univ fun x => Φ (.inl x)) ∗ bigSep Finset.univ fun x => Φ (.inr x)) := BI.bigSep_univ_sum Φ
  have h2 : (bigSep Finset.univ fun x => Φ (.inr x)) = iprop((bigSep Finset.univ fun x => Φ (.inr (.inl x))) ∗ bigSep Finset.univ fun x => Φ (.inr (.inr x))) :=
    BI.bigSep_univ_sum fun x => Φ (.inr x)
  have h3 : (bigSep Finset.univ fun p : Fin 2 => bigSep Finset.univ fun w : Fin 2 => bigSep Finset.univ fun s : Fin 32 => Φ (oRecv p w s))
      = bigSep Finset.univ fun p : Fin 2 => bigSep Finset.univ fun w : Fin 2 => iprop(Φ (oRecv p w c) ∗ bigSep Finset.univ fun r : Fin 31 => Φ (oRecv p w (src c r))) :=
    congrArg (bigSep Finset.univ) (funext fun p => congrArg (bigSep Finset.univ) (funext fun w => devs_src c fun s => Φ (oRecv p w s)))
  rw [h1, h2, two_prod fun x => Φ (.inl x), two_prod fun x => Φ (.inr (.inl x)), h3, two_sep]

variable (P : Dev nD → Fin 2 → FVec F S256x512 .bf16) (K : GSem nD τ sig → ℕ) (c : Dev nD)

/-- The round each own counter's position ends at. -/
def endRound : Own → ℕ
  | .inl _ => 1
  | .inr (.inl (_, _, s)) => if s = c then 0 else 1
  | .inr (.inr _) => 2

theorem no_more (k : Own) (r : ℕ) (h : endRound c k ≤ r) : (rd (F := F) P).duties (cell c k) r = ∅ := by
  apply duties_none
  rcases k with ⟨p, w, x⟩ | ⟨p, w, s⟩ | w
  · have : 1 ≤ r := h
    simp only [ownDue]; simp; omega
  · by_cases hs : s = c
    · subst hs; simp [ownDue]
    · have : 1 ≤ r := by simpa [endRound, hs] using h
      simp only [ownDue]; simp; omega
  · have : 2 ≤ r := h
    simp only [ownDue]; simp; omega

/-- The positions of the counters at the end of the body close them all. -/
theorem close_own : iprop(ctx P K c
      ∗ (bigSep Finset.univ fun p : Fin 2 => bigSep Finset.univ fun w : Fin 2 => spent (F := F) c p w)
      ∗ (bigSep Finset.univ fun p : Fin 2 => bigSep Finset.univ fun w : Fin 2 => posn (F := F) c (oRecv p w c) 0)
      ∗ (bigSep Finset.univ fun w : Fin 2 => posn (F := F) c (oLoc w) 2))
    ⊢ |={Set.univ}=> Pipeline.ownSems0 semOf c := by
  have e : (bigSep Finset.univ fun k : Own => posn (F := F) c k (endRound c k))
      = iprop((bigSep Finset.univ fun p : Fin 2 => bigSep Finset.univ fun w : Fin 2 => bigSep Finset.univ fun r : Fin 31 => posn (F := F) c (oSend p w r) 1)
        ∗ ((bigSep Finset.univ fun p : Fin 2 => bigSep Finset.univ fun w : Fin 2 => posn (F := F) c (oRecv p w c) 0)
          ∗ (bigSep Finset.univ fun p : Fin 2 => bigSep Finset.univ fun w : Fin 2 => bigSep Finset.univ fun r : Fin 31 => posn (F := F) c (oRecv p w (src c r)) 1))
        ∗ bigSep Finset.univ fun w : Fin 2 => posn (F := F) c (oLoc w) 2) := by
    rw [own_split c]
    have h0 (p w : Fin 2) : endRound c (oRecv p w c) = 0 := if_pos rfl
    have h1 (p w : Fin 2) (r : Fin 31) : endRound c (oRecv p w (src c r)) = 1 := if_neg (src_ne c r)
    simp only [h0, h1]
    rfl
  unfold spent
  rw [two_sep]
  iintro ⟨#Hc, ⟨Hs, Hr⟩, Hu, Hl⟩
  iapply (bigSep_fupd (E := Set.univ) (Finset.univ : Finset Own) fun k : Own => semVal ((c.tc : Thread nD τ), semOf k) 0)
  iapply (bigSep_with_persistent (S := Finset.univ) (R := ctx P K c) (Φ := fun k : Own => posn (F := F) c k (endRound c k)) fun k _ => by
    iintro ⟨#Hc, Hp⟩
    iapply (Rounds.cell_close ER (rd P) (κ := K (cell c k)) (g := cell c k) (R := endRound c k) (Set.mem_univ _) (fun h => h) (no_more P c k))
    isplitr; · iapply (ctx_own P K c c k); iexact Hc
    unfold posn; iexact Hp)
  isplitr; · iexact Hc
  iapply (Entails.of_eq e.symm)
  isplitl [Hs]; · iexact Hs
  isplitl [Hu Hr]
  · isplitl [Hu]; · iexact Hu
    iexact Hr
  iexact Hl

/-! ## The device's share of the launch's ghost state, and its opening -/

/-- The rights to pay of one device. -/
def toks : sProp 𝕄 :=
  iprop((bigSep Finset.univ fun r : Fin 31 => dutyTok ER (barCell (peer c r)) 0 c)
    ∗ (bigSep Finset.univ fun p : Fin 2 => bigSep Finset.univ fun w : Fin 2 => bigSep Finset.univ fun r : Fin 31 => fare (F := F) c p w r)
    ∗ bigSep Finset.univ fun p : Fin 2 => bigSep Finset.univ fun w : Fin 2 => dutyTok ER (cell c (oLoc w)) p.val 0)
/-- The credit the launch gives one device for what the others owe it. -/
def dueHere : sProp 𝕄 :=
  iprop(cred (tallyAt (barCell c) () 31)
    ∗ bigSep Finset.univ fun p : Fin 2 => bigSep Finset.univ fun w : Fin 2 => bigSep Finset.univ fun r : Fin 31 => crRecv (F := F) c p w (src c r))

/-- One device's part at launch. -/
def ghost : sProp 𝕄 :=
  iprop((invsBar P K ∗ invsOwn P K ∗ barsReached) ∗ atPos ER (barCell c) 0 ∅ 0 ∗ (bigSep Finset.univ fun k : Own => openTok ER (cell c k)) ∗ toks c)

/-- One device's part once its own counters are open. -/
def opened : sProp 𝕄 :=
  iprop(ctx P K c ∗ cred (tallyAt (barCell c) () 31) ∗ atPos ER (barCell c) 0 ∅ 0
    ∗ (bigSep Finset.univ fun r : Fin 31 => dutyTok ER (barCell (peer c r)) 0 c)
    ∗ (bigSep Finset.univ fun p : Fin 2 => bigSep Finset.univ fun w : Fin 2 => kit (F := F) c p w)
    ∗ (bigSep Finset.univ fun w : Fin 2 => posn (F := F) c (oLoc w) 0)
    ∗ bigSep Finset.univ fun p : Fin 2 => bigSep Finset.univ fun w : Fin 2 => posn (F := F) c (oRecv p w c) 0)

theorem open_own : iprop(ghost P K c ∗ dueHere c ∗ Pipeline.ownSems0 semOf c ∗ order) ⊢ |={Set.univ}=> opened P K c := by
  unfold ghost dueHere toks opened kit
  rw [two_sep, two_sep, two_sep, two_sep]
  iintro ⟨⟨⟨#HIb, #HIo, #HR⟩, Hbar, Hop, ⟨Hbt, Hf, Hl⟩⟩, ⟨Hcb, Hcr⟩, Hos, #Hord⟩
  ihave H := (bigSep_fupd (E := Set.univ) (Finset.univ : Finset Own) fun k : Own => iprop(posn (F := F) c k 0 ∗ reached ER (cell c k) 0)) $$ [Hop Hos]
  · iapply (bigSep_with_persistent (S := Finset.univ) (R := invsOwn P K) (Φ := fun k : Own => iprop(openTok ER (cell c k) ∗ semVal ((c.tc : Thread nD τ), semOf k) 0)) fun k _ => by
      unfold invsOwn
      iintro ⟨#Hc, Ho, Hv⟩
      iapply (Rounds.cell_open ER (rd P) (κ := K (cell c k)) (g := cell c k) (Set.mem_univ _))
      isplitr
      · ihave Hd := (big_elim c (fun d : Dev nD => bigSep Finset.univ fun k : Own => cellInv ER (rd P) (K (cell d k)) (cell d k))) $$ Hc
        iapply (big_elim k (fun k : Own => cellInv ER (rd P) (K (cell c k)) (cell c k))); iexact Hd
      isplitl [Ho]; · iexact Ho
      iexact Hv)
    isplitr; · iexact HIo
    iapply (Entails.of_eq (bigSep_sep' (Finset.univ : Finset Own) _ _).symm)
    isplitl [Hop]; · iexact Hop
    unfold Pipeline.ownSems0; iexact Hos
  imod H with H
  imodintro
  ihave H := (Entails.of_eq (bigSep_sep' (Finset.univ : Finset Own) (fun k : Own => posn (F := F) c k 0) fun k : Own => reached ER (cell c k) 0)) $$ H
  icases H with ⟨Hp, #Hr⟩
  ihave Hp := (Entails.of_eq (own_split c fun k : Own => posn (F := F) c k 0)) $$ Hp
  icases Hp with ⟨Hs, ⟨Hu, Hv⟩, Hloc⟩
  isplitr
  · unfold ctx ownReached
    isplitr; · iexact HIb
    isplitr; · iexact HIo
    isplitr; · iexact HR
    isplitr; · iexact Hord
    iexact Hr
  isplitl [Hcb]; · iexact Hcb
  isplitl [Hbar]; · iexact Hbar
  isplitl [Hbt]; · iexact Hbt
  isplitl [Hf Hl Hs Hv Hcr]
  · isplitl [Hf]; · iexact Hf
    isplitl [Hl]; · iexact Hl
    isplitl [Hs]; · iexact Hs
    isplitl [Hv]; · iexact Hv
    iexact Hcr
  isplitl [Hloc]; · iexact Hloc
  iexact Hu

end Cert.KernelIdeal.Mine

end
-- ==== Proof.Region.lean ====
/- The kernel's region: its data and its body's obligation. -/
module

public import proofs.«01_k».proof.Proof.Open
public import proofs.«01_k».proof.Proof.Gen.KernelIdeal.Regions
public import Idealize.ShloMosaic.Lib.Pipeline.RegionTalk

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "Code" => Prog (TpuEff nD τ sig (Elt F) Λ₀ Proc.tc) PUnit

variable (m : (ℓ : Loc nD τ sig) → Buf (Elt F) ℓ)

/-! ## What the windows hold -/

/-- The five input windows' blocks on one device. -/
def xB (c : Dev nD) : Vec F S2x256x512 .f32 := ((cfg0.win 0).blk t0_0).view.read (Elt F) (V1 m c main_arg0)
def wqB (c : Dev nD) : Vec F S512x256 .f32 := ((cfg0.win 1).blk t0_0).view.read (Elt F) (V1 m c main_v9)
def kB (c : Dev nD) : Vec F S2x256x4x64 .f32 := ((cfg0.win 2).blk t0_0).view.read (Elt F) (V1 m c main_arg2)
def vB (c : Dev nD) : Vec F S2x256x4x64 .f32 := ((cfg0.win 3).blk t0_0).view.read (Elt F) (V1 m c main_arg3)
def woB (c : Dev nD) : Vec F S256x512 .f32 := ((cfg0.win 4).blk t0_0).view.read (Elt F) (V1 m c main_v14)

/-- Every device's partial outputs, one per wave. -/
def Pm (c : Dev nD) (w : Fin 2) : FVec F S256x512 .bf16 := part (xB m c) (wqB m c) (kB m c) (vB m c) (woB m c) w

/-- What the output window is left at. -/
def outB (c : Dev nD) : Vec F S2x256x512 .f32 := bOut.view.read (Elt F) (outC (Pm m) : Buf (Elt F) (bOut.view.loc (c : Thread nD τ)))

/-- What the windows' buffers hold after the body. -/
def aft (c : Dev nD) : (w : Fin cfg0.W) → Fin cfg0.N → (cfg0.win w).block.Idx → Elt F (cfg0.win w).elt
  | 0, _ => xB m c
  | 1, _ => wqB m c
  | 2, _ => kB m c
  | 3, _ => vB m c
  | 4, _ => woB m c
  | 5, _ => outB m c

/-! ## The region's data -/

abbrev Scr (c : Dev nD) : sProp 𝕄 := Pipeline.scopedRest (Val := Elt F) (Name := ℕ) (Ix := Unit) (Lvl := ℕ) (U := UU) spec0 c

/-- What the protocol holds when the body starts. -/
def Xk (c : Dev nD) : sProp 𝕄 := iprop(∃ K, opened (Pm m) K c)
/-- What it leaves when the body ends. -/
def Yk (c : Dev nD) : sProp 𝕄 := semVal (barCell c) 0
/-- What it holds from the launch to the kernel's start. -/
def Tk (c : Dev nD) : sProp 𝕄 := iprop((∃ K, ghost (Pm m) K c) ∗ dueHere c)

def dat (c : Dev nD) : Dat τ (Elt F) Unit ℕ UU ℕ cfg0 c where
  A w := V1 m c (Pipeline.arrRef spec0 w)
  after := aft m c
  Φ t := if t.val = 0 then iprop(Xk m c ∗ Scr c ∗ ∃ r, prngReg c r) else iprop(Yk c ∗ Pipeline.ownSems0 semOf c ∗ Scr c ∗ ∃ r, prngReg c r)
  q _ := fullShare
  owed t := if t.val = 0 then owed c 0 else 0

theorem before0 (c : Dev nD) (d) : (dat m c).before 0 t0_0 d = xB m c := if_pos (fetch0_0 t0_0)
theorem before1 (c : Dev nD) (d) : (dat m c).before 1 t0_0 d = wqB m c := if_pos (fetch0_1 t0_0)
theorem before2 (c : Dev nD) (d) : (dat m c).before 2 t0_0 d = kB m c := if_pos (fetch0_2 t0_0)
theorem before3 (c : Dev nD) (d) : (dat m c).before 3 t0_0 d = vB m c := if_pos (fetch0_3 t0_0)
theorem before4 (c : Dev nD) (d) : (dat m c).before 4 t0_0 d = woB m c := if_pos (fetch0_4 t0_0)

/-- An owned whole memref, at contents not chosen. -/
theorem owns_any (c : Dev nD) (X : Vec F S2x256x512 .f32) :
    (owns (c : Thread nD τ) (st0_5 t0_0) fullShare X : sProp 𝕄) ⊢ iprop(∃ f : Buf (Elt F) (bOut.view.loc (c : Thread nD τ)), bOut.view.loc (c : Thread nD τ) ↦{fullShare} f) := by
  unfold owns
  iintro ⟨%f, -, H⟩
  iexists f
  rw [(hstage0_5 0).set_eq_univ]
  iexact H
theorem owns_out (c : Dev nD) :
    (bOut.view.loc (c : Thread nD τ) ↦{fullShare} (outC (Pm m)) : sProp 𝕄) ⊢ owns (c : Thread nD τ) (st0_5 t0_0) fullShare (outB m c) := by
  unfold owns
  iintro H
  iexists (outC (Pm m))
  isplitr; · ipureintro; rfl
  rw [(hstage0_5 0).set_eq_univ]
  iexact H

theorem owed_first (c : Dev nD) : (dat m c).owed 0 = owed c 0 := by
  show (if ((0 : Fin (cfg0.N + 1)).val = 0) then owed c 0 else 0) = owed c 0; exact if_pos rfl
theorem owed_entry (c : Dev nD) : (dat m c).owed t0_0.castSucc = owed c 0 := by
  show (if (t0_0.castSucc : Fin (cfg0.N + 1)).val = 0 then owed c 0 else 0) = owed c 0; exact if_pos rfl
theorem owed_last (c : Dev nD) : (dat m c).owed (Fin.last _) = 0 := by
  show (if (Fin.last cfg0.N).val = 0 then owed c 0 else 0) = 0
  rw [Fin.val_last, if_neg (by rw [show cfg0.N = 1 from N_0]; decide)]

theorem owes_enter (c : Dev nD) : ((dat m c).owesAt () t0_0.castSucc : sProp 𝕄) ⊢ due c 0 := by
  unfold Dat.owesAt Pipeline.owesWithin due
  rw [owed_entry]
  iintro ⟨%W, -, HO⟩; iexists W; iexact HO
theorem owes_leave (c : Dev nD) : (due c 155 : sProp 𝕄) ⊢ (dat m c).owesAt () t0_0.succ := by
  unfold Dat.owesAt Pipeline.owesWithin Dat.bound due
  rw [show (dat m c).owed t0_0.succ = 0 from owed_last m c, owed_end, show (dat m c).recorded t0_0.succ = Set.univ from rfl]
  iintro ⟨%W, HO⟩; iexists W
  isplitr; · ipureintro; exact fun _ _ => Or.inl trivial
  iexact HO

theorem scr_eq (c : Dev nD) : Scr (F := F) c = scratch c := scopedRest0_eq c

/-- The barrier's counter is closed after its round. -/
theorem close_bar (P : Dev nD → Fin 2 → FVec F S256x512 .bf16) (K : GSem nD τ sig → ℕ) (c : Dev nD) :
    iprop(ctx P K c ∗ atPos ER (barCell c) 1 ∅ 0) ⊢ |={Set.univ}=> semVal (barCell c) 0 := by
  iintro ⟨#Hc, Hp⟩
  iapply (Rounds.cell_close ER (rd P) (κ := K (barCell c)) (g := barCell c) (R := 1) (Set.mem_univ _) (fun h => h) (duties_bar_later P c))
  isplitr; · iapply (ctx_bar P K c c); iexact Hc
  iexact Hp

theorem WP_fupd (c : Dev nD) (p : Code) (Q : PUnit → sProp 𝕄) : WP c p (fun x => iprop(|={Set.univ}=> Q x)) ⊢ WP c p Q := wp_fupd _ _ _ p Q

theorem waves_of (Φ : Fin 2 → sProp 𝕄) : iprop(Φ 0 ∗ Φ 1) ⊢ bigSep Finset.univ Φ := Entails.of_eq (waves Φ).symm

theorem dat_enter (c : Dev nD) : ((dat m c).Φ t0_0.castSucc : sProp 𝕄) = iprop(Xk m c ∗ Scr c ∗ ∃ r, prngReg c r) := rfl
theorem dat_leave (c : Dev nD) : ((dat m c).Φ t0_0.succ : sProp 𝕄) = iprop(Yk c ∗ Pipeline.ownSems0 semOf c ∗ Scr c ∗ ∃ r, prngReg c r) := rfl

set_option maxHeartbeats 2000000 in
/-- The body's obligation at the region's one point. -/
theorem obligation (c : Dev nD) : BodyObligation (dat m c) defs₀ 𝒱₀ () Set.univ := fun t => by
  obtain rfl := fin_N0 t
  rw [bigSep_W0, bigSep_W0, dat_enter, dat_leave,
    show defs₀ (F := F) .tc cfg0.body (cfg0.bodyArgs t0_0 (cfg0.slots t0_0)) = bodyAt0 (F := F) t0_0 from rfl]
  simp only [before0, before1, before2, before3, before4]
  unfold Xk
  rw [scr_eq]
  iintro ⟨⟨⟨%K, Hg⟩, Hs, Hreg⟩, HO, ⟨%d0, H0⟩, ⟨%d1, H1⟩, ⟨%d2, H2⟩, ⟨%d3, H3⟩, ⟨%d4, H4⟩, ⟨%d5, H5⟩⟩
  unfold opened
  icases Hg with ⟨#Hc, Hcb, Hbar, Hbt, Hkit, Hloc, Hun⟩
  ihave HO := (owes_enter m c) $$ HO
  ihave H5 := (owns_any c _) $$ H5
  iapply (WP_fupd c (bodyAt0 (F := F) t0_0) _)
  iapply (body_run (Pm m) K c (xB m c) (wqB m c) (kB m c) (vB m c) (woB m c) (fun _ => rfl) _)
  isplitl [Hcb Hbar Hbt Hkit Hloc Hs HO H5]
  · unfold bodyPre
    isplitr; · iexact Hc
    isplitl [HO]; · iexact HO
    isplitl [Hcb]; · iexact Hcb
    isplitl [Hbar]; · iexact Hbar
    isplitl [Hbt]; · iexact Hbt
    isplitl [Hkit]; · iexact Hkit
    isplitl [Hloc]; · iexact Hloc
    isplitl [Hs]; · iexact Hs
    iexact H5
  isplitl [H0 H1 H2 H3 H4]
  · unfold ins
    isplitl [H0]; · iexact H0
    isplitl [H1]; · iexact H1
    isplitl [H2]; · iexact H2
    isplitl [H3]; · iexact H3
    iexact H4
  unfold bodyPost ins
  iintro ⟨HO, Hbar, Hsp, Hloc, Hs, Hout⟩ ⟨H0, H1, H2, H3, H4⟩
  imod (close_bar (Pm m) K c) $$ [Hbar] with Hb0
  · isplitr; · iexact Hc
    iexact Hbar
  imod (close_own (Pm m) K c) $$ [Hsp Hun Hloc] with Ho0
  · isplitr; · iexact Hc
    isplitl [Hsp]; · iexact Hsp
    isplitl [Hun]; · iexact Hun
    iexact Hloc
  imodintro
  isplitl [Hb0 Ho0 Hs Hreg]
  · isplitl [Hb0]; · unfold Yk; iexact Hb0
    isplitl [Ho0]; · iexact Ho0
    isplitl [Hs]; · iexact Hs
    iexact Hreg
  isplitl [HO]; · iapply (owes_leave m c); iexact HO
  isplitl [H0]; · iexact H0
  isplitl [H1]; · iexact H1
  isplitl [H2]; · iexact H2
  isplitl [H3]; · iexact H3
  isplitl [H4]; · iexact H4
  iapply (owns_out m c); iexact Hout

/-! ## The region's record -/

abbrev pdats : (p : Fin 1) → (c : Dev nD) → Dat τ (Elt F) Unit ℕ UU ℕ (cfgs p) c := fun | 0 => dat m

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownFacts : Pipeline.OwnSemFacts spec0 semOf := ⟨by decide +kernel, semOf_inj, by decide +kernel⟩

/-- What the region leaves in the result. -/
def outs : Outs (F := F) := fun _ r c => if h : r = main_v15 then h ▸ (dat m c).arrAt 5 cfg0.N else V1 m c r

abbrev rest : Finset (DevRef τ sig) := Pipeline.ucRefs τ sig \ Pipeline.arrRefs (τ := τ) spec0

theorem cut (c : Dev nD) (t : Fin (cfg0.N + 1)) (g : GSem nD τ sig) (i : Unit) (h : 0 < (dat m c).owed t g i) : i ∈ L g ∧ 0 < lv g i := by
  have e : (dat m c).owed t = if t.val = 0 then owed c 0 else 0 := rfl
  rw [e] at h
  split at h
  · obtain ⟨n, -, hn, rfl⟩ := owed_pos c 0 h
    have e : payCell c n = barCell (peer c ⟨n % 31, Nat.mod_lt _ (by decide)⟩) ∨ 31 ≤ n := by
      by_cases hn' : n < 31
      · exact .inl (if_pos hn')
      · exact .inr (by omega)
    rcases e with e | e
    · rw [e]; exact ⟨by rw [L_tc]; exact Finset.mem_singleton_self _, by rw [lv_bar]; decide⟩
    · refine ⟨?_, by cases i; rw [lv_pay c n e hn]; omega⟩
      have : (payCell c n).1.2 = .tc := by unfold payCell; split <;> rfl
      unfold L; rw [if_pos this]; exact Finset.mem_singleton_self _
  · exact absurd h (Nat.lt_irrefl 0)

theorem arr_in (c : Dev nD) (w : Fin 6) (h : (cfg0.win w).flush t0_0 = false) : (dat m c).arrAt w cfg0.N = (dat m c).A w := by
  show (dat m c).arrAt w (0 + 1) = _
  simp only [Dat.arrAt]
  rw [dif_pos (by decide : 0 < cfg0.N), if_neg (by rw [show (⟨0, by decide⟩ : Fin cfg0.N) = t0_0 from rfl, h]; decide)]

theorem outs_out (c : Dev nD) : outs m 2 main_v15 c = (dat m c).arrAt 5 cfg0.N := dif_pos rfl

theorem arr_out (c : Dev nD) (w : Fin 6) : (dat m c).arrAt w cfg0.N = V2 m (outs m) c (Pipeline.arrRef spec0 w) := by
  have h5 : V2 m (outs m) c (Proc.devRef .tc main_v15) = outs m 2 main_v15 c := Function.update_self ..
  exact match w with
    | 0 => (arr_in m c 0 (by decide +kernel)).trans (V2_of m (outs m) c main_arg0 (by decide)).symm
    | 1 => (arr_in m c 1 (by decide +kernel)).trans (V2_of m (outs m) c main_v9 (by decide)).symm
    | 2 => (arr_in m c 2 (by decide +kernel)).trans (V2_of m (outs m) c main_arg2 (by decide)).symm
    | 3 => (arr_in m c 3 (by decide +kernel)).trans (V2_of m (outs m) c main_arg3 (by decide)).symm
    | 4 => (arr_in m c 4 (by decide +kernel)).trans (V2_of m (outs m) c main_v14 (by decide)).symm
    | 5 => (h5.trans (outs_out m c)).symm

theorem rest_same (c : Dev nD) : ∀ b ∈ rest \ ∅, V2 m (outs m) c b = V1 m c b := fun b hb => by
  have hb' : b ≠ Proc.devRef .tc main_v15 := fun h => by
    subst h
    have : (Proc.devRef .tc main_v15 : DevRef τ sig) ∉ (rest \ ∅ : Finset (DevRef τ sig)) := by
      rw [Finset.sdiff_empty]
      intro h
      exact (Finset.mem_sdiff.mp h).2 (by decide)
    exact this hb
  exact Function.update_of_ne hb' _ _

theorem opening (c : Dev nD) : iprop(Tk m c ∗ Pipeline.ownSems0 semOf c ∗ levAts L lv) ⊢ |={Set.univ}=> Xk m c := by
  unfold Tk Xk
  iintro ⟨⟨⟨%K, Hg⟩, Hd⟩, Hos, Hl⟩
  imod (open_own (Pm m) K c) $$ [Hg Hd Hos Hl] with H
  · isplitl [Hg]; · iexact Hg
    isplitl [Hd]; · iexact Hd
    isplitl [Hos]; · iexact Hos
    unfold order; iexact Hl
  imodintro
  iexists K; iexact H

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Scr c ∗ (∃ r, prngReg c r) ∗ StableHlo.held (c.tc : Thread nD τ) ∅ (V1 m c) ∗ Xk m c) ⊢ (dat m c).Φ 0 := by
  rw [show (dat m c).Φ 0 = iprop(Xk m c ∗ Scr c ∗ ∃ r, prngReg c r) from rfl, held_none]
  iintro ⟨Hs, Hp, -, HX⟩
  isplitl [HX]; · iexact HX
  isplitl [Hs]; · iexact Hs
  iexact Hp

theorem leave (c : Dev nD) : (dat m c).Φ (Fin.last cfg0.N)
    ⊢ iprop(Scr c ∗ (∃ r, prngReg c r) ∗ StableHlo.held (c.tc : Thread nD τ) ∅ (V2 m (outs m) c) ∗ Pipeline.ownSems0 semOf c ∗ Yk c) := by
  rw [show (dat m c).Φ (Fin.last cfg0.N) = iprop(Yk c ∗ Pipeline.ownSems0 semOf c ∗ Scr c ∗ ∃ r, prngReg c r) from rfl, held_none]
  iintro ⟨HY, Ho, Hs, Hp⟩
  isplitl [Hs]; · iexact Hs
  isplitl [Hp]; · iexact Hp
  isplitr; · iempintro
  isplitl [Ho]; · iexact Ho
  iexact HY

theorem stage_low (c : Dev nD) (w : Fin 6) (s : Fin (spec0 w).nbuf) : lv ((c : Thread nD τ), .dma ((spec0 w).sem s)) () = 0 := by
  have e : kindOf (.dma ((spec0 w).sem s)) = none := dif_neg fun ⟨k, hk⟩ => ownFacts.disj k w s hk
  unfold lv
  rw [if_neg (fun h => by cases h), e]
  rfl

set_option backward.isDefEq.respectTransparency.types false in
/-- The kernel's region, from its arrays and the launch's ghost state to its arrays and a closed barrier. -/
def reg : Pipeline.RegionSeg (pcfgs (F := F)) adm (pdats m) () defs₀ 𝒱₀ L lv 0 :=
  Pipeline.RegionSeg.ofTalk (pcfgs (F := F)) adm (pdats m) () defs₀ 𝒱₀ L lv 0 semOf ownFacts
    ∅ rest (Finset.empty_subset _) kitP rfl (fun c => (obligation m c).loose)
    (fun _ => 0) (fun c => owed c 0) (fun c => (owed_first m c).trans (zero_add _).symm) (owed_last m) (fun _ => rfl)
    (fun c w => ite_self _)
    (V1 m) (V2 m (outs m)) (rest_same m)
    (Tk m) Yk (Xk m) Yk (opening m) (enter m) (leave m)
    (fun c => by iintro H; imodintro; iexact H)
    (fun _ => 0)
    ⟨fun c w s => by rw [L_tc]; exact Finset.mem_singleton_self _, fun c w s => (stage_low c w s).le, fun c t g i h => cut m c t g i h⟩
    (fun _ => iprop(emp))
    (fun c w => rfl) (arr_out m)

end Cert.KernelIdeal.Mine

end
-- ==== Proof.Launch.lean ====
/- The launch: the cells, the rights to pay, the credit, and the run. -/
module

public import proofs.«01_k».proof.Proof.Region

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ
local notation "Code" => Prog (TpuEff nD τ sig (Elt F) Λ₀ Proc.tc) PUnit

variable (m : (ℓ : Loc nD τ sig) → Buf (Elt F) ℓ) (ρ : Dev nD → PrngReg)

/-! ## The region between the thread states -/

/-- What rides beside the buffers: before the kernel the launch's part, after it the closed barrier. -/
def E : Fin 2 → Dev nD → sProp 𝕄
  | 0, c => iprop(Tk m c ∗ (∃ W, owes (c : Thread nD τ) (owed c 0) W) ∗ ∃ r, prngReg c r)
  | 1, c => iprop(semVal (barCell c) 0 ∗ ∃ W, owes (c : Thread nD τ) (0 : CellTallies nD τ sig Unit) W)

theorem arr_sub : (Pipeline.arrRefs (τ := τ) spec0 : Finset (DevRef τ sig)) ⊆ Pipeline.ucRefs τ sig := by decide

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk m c ∗ ∃ Wd, owes (c : Thread nD τ) (0 + owed c 0) Wd)
  rw [StableHlo.held_sub_split (c.tc : Thread nD τ) arr_sub (V1 m c), zero_add]
  unfold E
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) rest (V2 m (outs m) c) ∗ emp) ∗ Yk c ∗ ∃ Wd, owes (c : Thread nD τ) (0 : CellTallies nD τ sig Unit) Wd) ⊢ _
  rw [StableHlo.held_sub_split (c.tc : Thread nD τ) arr_sub (V2 m (outs m) c)]
  unfold E Yk
  iintro ⟨Ha, -, ⟨Hr, -⟩, Hb, HO⟩
  isplitl [Ha Hr]
  · isplitl [Ha]; · iexact Ha
    iexact Hr
  isplitl [Hb]; · iexact Hb
  iexact HO

/-! ## The launch's cells and rights -/

def barEmb : Dev nD ↪ GSem nD τ sig := ⟨fun c => barCell c, fun _ _ h => congrArg (fun g : GSem nD τ sig => g.1.1) h⟩
def ownEmb : Dev nD × Own ↪ GSem nD τ sig :=
  ⟨fun x => cell x.1 x.2, fun _ _ h => Prod.ext (congrArg (fun g : GSem nD τ sig => g.1.1) h) (semOf_inj (congrArg Prod.snd h))⟩
abbrev barCells : Finset (GSem nD τ sig) := Finset.univ.map barEmb
abbrev ownCells : Finset (GSem nD τ sig) := Finset.univ.map ownEmb

theorem cells_apart : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact semOf_ne_bar x.2 (congrArg Prod.snd h)

/-- The payments one device makes: its signals, its sends and their arrivals, its local copies. -/
abbrev Pay : Type := Fin 31 ⊕ (Fin 2 × Fin 2 × Fin 31) ⊕ (Fin 2 × Fin 2 × Fin 31) ⊕ (Fin 2 × Fin 2)
def payTok (c : Dev nD) : Pay → GSem nD τ sig × ℕ × Dev nD
  | .inl r => (barCell (peer c r), 0, c)
  | .inr (.inl (p, w, r)) => (cell c (oSend p w r), 0, 0)
  | .inr (.inr (.inl (p, w, r))) => (cell (peer c r) (oRecv p w c), 0, 0)
  | .inr (.inr (.inr (p, w))) => (cell c (oLoc w), p.val, 0)

theorem cell_inj {c d : Dev nD} {k l : Own} (h : cell c k = cell d l) : c = d ∧ k = l :=
  ⟨congrArg (fun g : GSem nD τ sig => g.1.1) h, semOf_inj (congrArg Prod.snd h)⟩

theorem payTok_inj : Function.Injective fun x : Dev nD × Pay => payTok x.1 x.2 := by
  rintro ⟨c, a⟩ ⟨d, b⟩ h
  have h1 := congrArg Prod.fst h
  have h2 := congrArg (fun t => t.2.1) h
  have h3 := congrArg (fun t => t.2.2) h
  rcases a with r | ⟨p, w, r⟩ | ⟨p, w, r⟩ | ⟨p, w⟩ <;> rcases b with r' | ⟨p', w', r'⟩ | ⟨p', w', r'⟩ | ⟨p', w'⟩ <;>
    simp only [payTok] at h1 h2 h3
  · subst h3
    have := peer_inj c (congrArg (fun g : GSem nD τ sig => g.1.1) h1)
    subst this; rfl
  all_goals first
    | exact absurd (congrArg Prod.snd h1) (fun h => by cases h)
    | skip
  · obtain ⟨rfl, e⟩ := cell_inj h1
    injection e with e; simp only [Prod.mk.injEq] at e; obtain ⟨rfl, rfl, rfl⟩ := e; rfl
  · have := (cell_inj h1).2; cases this
  · have := (cell_inj h1).2; cases this
  · have := (cell_inj h1).2; cases this
  · obtain ⟨e1, e⟩ := cell_inj h1
    injection e with e; injection e with e; simp only [Prod.mk.injEq] at e; obtain ⟨rfl, rfl, rfl⟩ := e
    have := peer_inj _ e1; subst this; rfl
  · have := (cell_inj h1).2; cases this
  · have := (cell_inj h1).2; cases this
  · have := (cell_inj h1).2; cases this
  · obtain ⟨rfl, e⟩ := cell_inj h1
    injection e with e; injection e with e; subst e
    have := Fin.ext h2; subst this; rfl

def payToks : Finset (GSem nD τ sig × ℕ × Dev nD) := Finset.univ.map ⟨_, payTok_inj⟩

theorem payToks_eq : bigSep payToks (fun x => (dutyTok ER x.1 x.2.1 x.2.2 : sProp 𝕄)) = bigSep Finset.univ fun c : Dev nD => toks c := by
  unfold payToks
  rw [BI.bigSep_map, BI.bigSep_univ_prod]
  refine BI.bigSep_congr fun c _ => ?_
  have h1 : (bigSep Finset.univ fun x : Pay => (dutyTok ER (payTok c x).1 (payTok c x).2.1 (payTok c x).2.2 : sProp 𝕄))
      = iprop((bigSep Finset.univ fun r : Fin 31 => dutyTok ER (barCell (peer c r)) 0 c)
        ∗ (bigSep Finset.univ fun x : Fin 2 × Fin 2 × Fin 31 => dutyTok ER (cell c (oSend x.1 x.2.1 x.2.2)) 0 0)
        ∗ (bigSep Finset.univ fun x : Fin 2 × Fin 2 × Fin 31 => dutyTok ER (cell (peer c x.2.2) (oRecv x.1 x.2.1 c)) 0 0)
        ∗ bigSep Finset.univ fun x : Fin 2 × Fin 2 => dutyTok ER (cell c (oLoc x.2)) x.1.val 0) := by
    refine (BI.bigSep_univ_sum _).trans (congrArg (fun X => iprop(_ ∗ X)) ?_)
    refine (BI.bigSep_univ_sum _).trans (congrArg (fun X => iprop(_ ∗ X)) ?_)
    exact BI.bigSep_univ_sum _
  have h2 : (bigSep Finset.univ fun p : Fin 2 => bigSep Finset.univ fun w : Fin 2 => bigSep Finset.univ fun r : Fin 31 => fare (F := F) c p w r)
      = iprop((bigSep Finset.univ fun x : Fin 2 × Fin 2 × Fin 31 => dutyTok ER (cell c (oSend x.1 x.2.1 x.2.2)) 0 0)
        ∗ bigSep Finset.univ fun x : Fin 2 × Fin 2 × Fin 31 => dutyTok ER (cell (peer c x.2.2) (oRecv x.1 x.2.1 c)) 0 0) := by
    rw [← two_prod fun x : Fin 2 × Fin 2 × Fin 31 => fare (F := F) c x.1 x.2.1 x.2.2]
    exact bigSep_sep' Finset.univ _ _
  refine h1.trans ?_
  unfold toks
  rw [h2, BI.bigSep_univ_prod fun x : Fin 2 × Fin 2 => (dutyTok ER (cell c (oLoc x.2)) x.1.val 0 : sProp 𝕄)]
  exact congrArg (fun X => iprop(_ ∗ X)) (BI.equiv_iff.mp ⟨BI.sep_assoc, BI.sep_assoc'⟩).symm

/-! ## The launch's credit -/

theorem owed_at (d : Dev nD) (g : GSem nD τ sig) : owed d 0 g () = ∑ n ∈ Finset.range 155, if g = payCell d n then payAmt n else 0 := by
  unfold owed
  rw [Finset.sum_apply, Finsupp.finset_sum_apply, ← Finset.range_eq_Ico]
  refine Finset.sum_congr rfl fun n _ => ?_
  unfold pays
  rw [tallyAt_apply]
  simp only [and_true]

theorem count_bar : ∀ c : Fin 32, (∑ d : Fin 32, ∑ n ∈ Finset.range 31, if c = peer d ⟨n % 31, Nat.mod_lt _ (by decide)⟩ then 1 else 0) = 31 := by decide +kernel
theorem peer_at (s c : Fin 32) (n : ℕ) : c = peer s ⟨n % 31, Nat.mod_lt _ (by decide)⟩ ↔ c.val = (s.val + (1 + n % 31)) % 32 := Fin.ext_iff
theorem count_recv (c s : Fin 32) (p w : Fin 2) : (∑ n ∈ Finset.range 155,
    if 31 ≤ n ∧ c = peer s ⟨n % 31, Nat.mod_lt _ (by decide)⟩ ∧ p.val = (n / 31 - 1) / 2 % 2 ∧ w.val = (n / 31 - 1) % 2 then 1 else 0) = if s = c then 0 else 1 := by
  simp only [peer_at]
  by_cases h : s = c
  · subst h
    rw [if_pos rfl]
    refine Finset.sum_eq_zero fun n _ => if_neg ?_
    rintro ⟨-, h, -⟩
    have := s.isLt
    omega
  · have h' : s.val ≠ c.val := fun e => h (Fin.ext e)
    have hs := s.isLt
    have hc := c.isLt
    have hd : (c.val + 31 - s.val) % 32 < 31 := by omega
    have e (n : ℕ) (hn : n ∈ Finset.range 155) : (if 31 ≤ n ∧ c.val = (s.val + (1 + n % 31)) % 32 ∧ p.val = (n / 31 - 1) / 2 % 2 ∧ w.val = (n / 31 - 1) % 2 then 1 else 0)
        = if 31 + 62 * p.val + 31 * w.val + (c.val + 31 - s.val) % 32 = n then 1 else 0 := by
      have hn := Finset.mem_range.mp hn
      refine if_congr ⟨fun ⟨h1, h2, h3, h4⟩ => ?_, fun h => ?_⟩ rfl rfl
      · have : n % 31 = (c.val + 31 - s.val) % 32 := by omega
        rw [← this]; omega
      · subst h
        have e1 : (31 + 62 * p.val + 31 * w.val + (c.val + 31 - s.val) % 32) % 31 = (c.val + 31 - s.val) % 32 := by omega
        have e2 : (31 + 62 * p.val + 31 * w.val + (c.val + 31 - s.val) % 32) / 31 = 1 + 2 * p.val + w.val := by omega
        rw [e1, e2]
        refine ⟨by omega, by omega, by omega, by omega⟩
    rw [Finset.sum_congr rfl e, Finset.sum_ite_eq, if_pos (Finset.mem_range.mpr (by omega)), if_neg h]

theorem bar_pays (c d : Dev nD) (n : ℕ) : barCell c = payCell d n ↔ n < 31 ∧ c = peer d ⟨n % 31, Nat.mod_lt _ (by decide)⟩ := by
  unfold payCell
  split
  · next h => exact ⟨fun e => ⟨h, congrArg (fun g : GSem nD τ sig => g.1.1) e⟩, fun e => by rw [← e.2]⟩
  · next h => exact ⟨fun e => absurd (congrArg Prod.snd e) (fun h => by cases h), fun e => absurd e.1 h⟩
theorem recv_pays (c d s : Dev nD) (p w : Fin 2) (n : ℕ) : cell c (oRecv p w s) = payCell d n
    ↔ s = d ∧ (31 ≤ n ∧ c = peer d ⟨n % 31, Nat.mod_lt _ (by decide)⟩ ∧ p.val = (n / 31 - 1) / 2 % 2 ∧ w.val = (n / 31 - 1) % 2) := by
  unfold payCell
  split
  · next h => exact ⟨fun e => absurd (congrArg Prod.snd e) (fun h => by cases h), fun e => absurd e.2.1 (by omega)⟩
  · next h =>
    constructor
    · intro e
      obtain ⟨e1, e2⟩ := cell_inj e
      injection e2 with e2; injection e2 with e2; simp only [Prod.mk.injEq] at e2
      exact ⟨e2.2.2, by omega, e1, congrArg Fin.val e2.1, congrArg Fin.val e2.2.1⟩
    · rintro ⟨rfl, -, e1, e2, e3⟩
      rw [← e1]
      exact congrArg (cell c) (congrArg (fun x => Sum.inr (Sum.inl x)) (Prod.ext (Fin.ext e2) (Prod.ext (Fin.ext e3) rfl)))

/-- All the devices' debts at launch. -/
abbrev O₀ (c : Dev nD) : CellTallies nD τ sig Unit := owed c 0

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  rw [owed_at]
  refine (Finset.sum_subset (Finset.range_subset_range.mpr (by decide)) fun n _ hn => ?_).symm.trans (Finset.sum_congr rfl fun n hn => ?_)
  · exact if_neg fun e => hn (Finset.mem_range.mpr ((bar_pays c d n).mp e).1)
  · have hn := Finset.mem_range.mp hn
    rw [show payAmt n = 1 from if_pos hn]
    exact if_congr ((bar_pays c d n).trans ⟨fun e => e.2, fun e => ⟨hn, e⟩⟩) rfl rfl

theorem launch_recv (c s : Dev nD) (hs : s ≠ c) (p w : Fin 2) :
    tallyOn (cell c (oRecv p w s)) (launchCredit (Pipeline.owing O₀) 0 (cell c (oRecv p w s))) = (tallyAt (cell c (oRecv p w s)) () N : CellTallies nD τ sig Unit) := by
  unfold tallyAt; refine congrArg _ (Finsupp.ext fun u => ?_); cases u
  rw [Pipeline.launchCredit_owing, Finsupp.single_eq_same]
  have e (d : Dev nD) : owed d 0 (cell c (oRecv p w s)) () = if s = d then N else 0 := by
    rw [owed_at]
    by_cases h : s = d
    · subst h
      rw [if_pos rfl]
      have e (n : ℕ) (_ : n ∈ Finset.range 155) : (if cell c (oRecv p w s) = payCell s n then payAmt n else 0)
          = N * if 31 ≤ n ∧ c = peer s ⟨n % 31, Nat.mod_lt _ (by decide)⟩ ∧ p.val = (n / 31 - 1) / 2 % 2 ∧ w.val = (n / 31 - 1) % 2 then 1 else 0 := by
        by_cases h : cell c (oRecv p w s) = payCell s n
        · have h' := ((recv_pays c s s p w n).mp h).2
          rw [if_pos h, if_pos h', show payAmt n = N from if_neg (by omega), Nat.mul_one]
        · rw [if_neg h, if_neg (fun h' => h ((recv_pays c s s p w n).mpr ⟨rfl, h'⟩)), Nat.mul_zero]
      rw [Finset.sum_congr rfl e, ← Finset.mul_sum, count_recv, if_neg hs, Nat.mul_one]
    · rw [if_neg h]
      exact Finset.sum_eq_zero fun n _ => if_neg fun e => h ((recv_pays c d s p w n).mp e).1
  rw [Finset.sum_congr rfl fun d _ => e d, Finset.sum_ite_eq, if_pos (Finset.mem_univ _)]

/-- The launch gives each device the credit for what the others owe it. -/
theorem creds (c : Dev nD) : (Pipeline.launchCred O₀ c : sProp 𝕄) ⊢ dueHere c := by
  have hown : (bigSep (Finset.univ.map ⟨semOf, semOf_inj⟩) fun sm : SemLoc sig => (cred (tallyOn ((c : Thread nD τ), sm) (launchCredit (Pipeline.owing O₀) 0 ((c : Thread nD τ), sm))) : sProp 𝕄))
      ⊢ bigSep Finset.univ fun p : Fin 2 => bigSep Finset.univ fun w : Fin 2 => bigSep Finset.univ fun r : Fin 31 => crRecv (F := F) c p w (src c r) := by
    rw [BI.bigSep_map, own_split c]
    iintro ⟨-, ⟨-, H⟩, -⟩
    iapply (show _ ⊢ _ from bigSep_mono fun p _ => bigSep_mono fun w _ => bigSep_mono fun r _ =>
      Entails.of_eq (congrArg (fun t => (cred t : sProp 𝕄)) (launch_recv c (src c r) (src_ne c r) p w)))
    iexact H
  unfold Pipeline.launchCred dueHere
  rw [BI.bigSep_univ_split (SemLoc.reg barS), launch_bar]
  refine (show iprop(_ ∗ _) ⊢ _ from ?_)
  iintro ⟨Hb, Ho⟩
  isplitl [Hb]; · iexact Hb
  iapply hown
  iapply (show _ ⊢ _ from BI.bigSep_subset (fun sm h => by
    obtain ⟨k, -, rfl⟩ := Finset.mem_map.mp h
    exact Finset.mem_erase.mpr ⟨semOf_ne_bar k, Finset.mem_univ _⟩))
  iexact Ho

end Cert.KernelIdeal.Mine

end
-- ==== Proof.Run.lean ====
/- The whole run: what the launch makes, and what every final state holds. -/
module

public import proofs.«01_k».proof.Proof.Launch

@[expose] public section

set_option synthInstance.maxSize 4096

noncomputable section

namespace Cert.KernelIdeal.Mine

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ
local notation "Code" => Prog (TpuEff nD τ sig (Elt F) Λ₀ Proc.tc) PUnit

variable (m : (ℓ : Loc nD τ sig) → Buf (Elt F) ℓ) (ρ : Dev nD → PrngReg)

/-! ## What the launch makes on every device -/

/-- The launch element of the two protocols. -/
def u₀ : UU :=
  (initOf (Pipeline.cells cfgs cellOf_inj) (Pipeline.launchToks cfgs cellOf_inj), launchOf barCells ownCells payToks)

/-- The rounds' launch element, parked whole on device 0. -/
def G (c : Dev nD) : sProp 𝕄 := if c = 0 then BI.own (ER (launchOf barCells ownCells payToks)) else iprop(emp)

theorem parked : bigSep Finset.univ (G (F := F)) = (BI.own (ER (launchOf barCells ownCells payToks)) : sProp 𝕄) := by
  rw [bigSep_univ_at _ (0 : Dev nD), BI.bigSep_congr (s := Finset.univ.erase (0 : Dev nD)) (Ψ := fun _ => (BI.emp : sProp 𝕄))
      (Φ := G) (fun c hc => if_neg (Finset.ne_of_mem_erase hc)), BI.bigSep_emp_const]
  unfold G; rw [if_pos rfl]
  exact BI.equiv_iff.mp sep_emp

/-- What all devices share: every counter's invariant, and that every barrier's round is reached. -/
def shared (K : GSem nD τ sig → ℕ) : sProp 𝕄 := iprop(invsBar (Pm m) K ∗ invsOwn (Pm m) K ∗ barsReached)

instance shared_persistent (K : GSem nD τ sig → ℕ) : BI.Persistent (shared m K) := by unfold shared; infer_instance

/-- What one device alone takes from the launch. -/
def alone (c : Dev nD) : sProp 𝕄 :=
  iprop((atPos ER (barCell c) 0 ∅ 0 ∗ (bigSep Finset.univ fun k : Own => openTok ER (cell c k)) ∗ toks c)
    ∗ dueHere c ∗ owes (c : Thread nD τ) (owed c 0) ∅ ∗ ∃ r, prngReg c r)

theorem first_state (K : GSem nD τ sig → ℕ) (c : Dev nD) : iprop(shared m K ∗ alone c) ⊢ E m 0 c := by
  unfold shared alone E Tk ghost
  iintro ⟨#HS, ⟨Ha, Ho, Ht⟩, Hd, HO, Hp⟩
  isplitl [Ha Ho Ht Hd]
  · isplitl [Ha Ho Ht]
    · iexists K
      isplitr; · iexact HS
      isplitl [Ha]; · iexact Ha
      isplitl [Ho] <;> iassumption
    · iexact Hd
  isplitl [HO]; · iexists ∅; iexact HO
  iexact Hp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem open_eq : bigSep ownCells (fun g => (openTok ER g : sProp 𝕄))
    = bigSep Finset.univ fun c : Dev nD => bigSep Finset.univ fun k : Own => openTok ER (cell c k) := by
  rw [BI.bigSep_map, BI.bigSep_univ_prod]; rfl

theorem invs_eq (K : GSem nD τ sig → ℕ) : bigSep (barCells ∪ ownCells) (fun g => (cellInv ER (rd (Pm m)) (K g) g : sProp 𝕄))
    = iprop(invsBar (Pm m) K ∗ invsOwn (Pm m) K) := by
  rw [BI.bigSep_union cells_apart, BI.bigSep_map, BI.bigSep_map, BI.bigSep_univ_prod]; rfl

theorem bars_eq (Φ : GSem nD τ sig → sProp 𝕄) : bigSep barCells Φ = bigSep Finset.univ fun c : Dev nD => Φ (barCell c) := BI.bigSep_map _

/-- The launch makes the state in front of the kernel on every device at once. -/
theorem init :
    iprop((bigSep Finset.univ fun c : Dev nD => iprop(unscopedSems0 c ∗ owes (c : Thread nD τ) (O₀ c) ∅
        ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((semVal (barCell c) 0 ∗ G c) ∗ dueHere c ∗ owes (c : Thread nD τ) (owed c 0) ∅ ∗ ∃ r, prngReg c r) : sProp 𝕄) := by
    rw [unscopedSems0_eq]
    iintro ⟨Hs, HO, Hcr, Hp, HG⟩
    isplitl [Hs HG]; · isplitl [Hs] <;> iassumption
    isplitl [Hcr]; · iapply (creds (F := F) c) $$ Hcr
    isplitl [HO]; · iexact HO
    iexists (ρ c); iexact Hp
  iintro ⟨H, -⟩
  ihave H' := (show _ ⊢ (bigSep Finset.univ fun c : Dev nD => iprop((semVal (barCell c) 0 ∗ G c) ∗ dueHere c ∗ owes (c : Thread nD τ) (owed c 0) ∅ ∗ ∃ r, prngReg c r) : sProp 𝕄)
    from bigSep_mono fun c _ => hcore c) $$ H
  ihave H2 := (Entails.of_eq (bigSep_sep' (Finset.univ : Finset (Dev nD)) _ _)) $$ H'; icases H2 with ⟨H3, HB⟩
  ihave H4 := (Entails.of_eq (bigSep_sep' (Finset.univ : Finset (Dev nD)) _ _)) $$ H3; icases H4 with ⟨Hv, HG⟩
  ihave Hu := (show bigSep Finset.univ (G (F := F)) ⊢ BI.own (ER (launchOf barCells ownCells payToks)) from Entails.of_eq parked) $$ HG
  imod (Rounds.fund_launch ER (rd (Pm m)) cells_apart (fun g _ h => h) payToks) $$ [Hv Hu] with ⟨%K, -, #Hinv, #Hr, Hat, Hopen, Htok⟩
  · isplitl [Hv]
    · iapply (show _ ⊢ _ from Entails.of_eq (bars_eq (F := F) fun g => semVal g 0).symm); iexact Hv
    · iexact Hu
  imodintro
  iapply (bigSep_with_persistent (S := Finset.univ) (R := shared m K) (Φ := fun c => alone c) fun c _ => first_state m K c)
  isplitr
  · unfold shared
    ihave Hi := (Entails.of_eq (invs_eq m K)) $$ Hinv
    icases Hi with ⟨#H1, #H2⟩
    isplitr; · iexact H1
    isplitr; · iexact H2
    unfold barsReached
    iapply (show _ ⊢ _ from Entails.of_eq (bars_eq (F := F) fun g => reached ER g 0)); iexact Hr
  unfold alone
  iapply (Entails.of_eq (bigSep_sep' (Finset.univ : Finset (Dev nD)) _ _).symm)
  isplitr [HB]
  · iapply (Entails.of_eq (bigSep_sep' (Finset.univ : Finset (Dev nD)) _ _).symm); isplitl [Hat]
    · iapply (show _ ⊢ _ from Entails.of_eq (bars_eq (F := F) fun g => atPos ER g 0 ∅ 0)); iexact Hat
    iapply (Entails.of_eq (bigSep_sep' (Finset.univ : Finset (Dev nD)) _ _).symm); isplitl [Hopen]
    · iapply (Entails.of_eq (open_eq (F := F))) $$ Hopen
    iapply (Entails.of_eq (payToks_eq (F := F))) $$ Htok
  · iexact HB

theorem unscoped_eq : ∀ sm : SemLoc sig, sm.isScoped .tc = false → sm = .reg barS := by decide +kernel

set_option backward.isDefEq.respectTransparency.types false in
/-- From any memory with zero counters, every fair run of all devices ends; the arguments are as launched, the result
    holds what the kernel leaves, and every counter of the machine is zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v15) = V2 m (outs m) c main_v15) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Seg.run_eq_chain,
        show (segs m 𝒱₀ L lv (E m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (hu₀ := by
      unfold u₀
      iintro Hu
      ihave H := (ownU_pair _ _) $$ Hu
      icases H with ⟨HP, HX⟩
      imodintro
      isplitl [HP]; · iexact HP
      rw [parked]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, reg_pre m c, (reg_post m c).trans ?_⟩)
    (hinit := ?_)
    (QY := fun c s => (∀ b ∈ Pipeline.ucRefs τ sig, s.mem ((c : Thread nD τ).1, b) = V2 m (outs m) c b) ∧ s.sem (barCell c) = 0)
    (hfin := fun c s' => ?_) (hQ := fun s h hs => ⟨fun c => ⟨⟨?_, ?_, ?_, ?_, ?_⟩, ?_⟩, sem_eq_zero hs fun c sm hsm => by
        obtain rfl := unscoped_eq sm hsm
        exact (h c).2⟩)
  · show iprop(_ ∗ (semVal (barCell c) 0 ∗ ∃ W, owes (c : Thread nD τ) (0 : CellTallies nD τ sig Unit) W)) ⊢ _
    iintro ⟨Hh, Hb0, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb0⟩, HSI⟩
    icombine HSI Hb0 gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨fun b hb => h b hb, by simpa using hb⟩
    iexact HSI
  · exact ((h c).1 main_arg0 (by decide)).trans (V2_main_arg0 m (outs m) c)
  · exact ((h c).1 main_arg1 (by decide)).trans (V2_main_arg1 m (outs m) c)
  · exact ((h c).1 main_arg2 (by decide)).trans (V2_main_arg2 m (outs m) c)
  · exact ((h c).1 main_arg3 (by decide)).trans (V2_main_arg3 m (outs m) c)
  · exact ((h c).1 main_arg4 (by decide)).trans (V2_main_arg4 m (outs m) c)
  · exact (h c).1 main_v15 (by decide)

end Cert.KernelIdeal.Mine

end
-- ==== Proof.Frames.lean ====
/- The frames: each program runs, leaves its arguments as they were, and every counter ends at zero. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

/-- The common text's run at the machine's words. -/
theorem frame_words (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Mine.run_main (F := Bits) m ρ)

/-- The printed kernel's body is the idealized one's text. -/
theorem same_body : @Cert.Kernel.cc0_body Bits _ Cert.Kernel.Gen.facts = @Cert.KernelIdeal.cc0_body Bits _ Cert.KernelIdeal.Gen.facts := by
  funext
  rfl

/-- So are the tables of bodies. -/
theorem same_table : @Cert.Kernel.defs₀ Bits _ Cert.Kernel.Gen.facts = @Cert.KernelIdeal.defs₀ Bits _ Cert.KernelIdeal.Gen.facts := by
  refine congrArg Defs.onTc (funext fun l => funext fun a => ?_)
  match l, a with
  | 0, (t, s) =>
    exact congrArg (fun f => f (Cert.KernelIdeal.win0_0.stage (s 0)) (Cert.KernelIdeal.Facts₀.hstage0_0 0) (Cert.KernelIdeal.win0_1.stage (s 1)) (Cert.KernelIdeal.Facts₀.hstage0_1 0) (Cert.KernelIdeal.win0_2.stage (s 2)) (Cert.KernelIdeal.Facts₀.hstage0_2 0) (Cert.KernelIdeal.win0_3.stage (s 3)) (Cert.KernelIdeal.Facts₀.hstage0_3 0) (Cert.KernelIdeal.win0_4.stage (s 4)) (Cert.KernelIdeal.Facts₀.hstage0_4 0) (Cert.KernelIdeal.win0_5.stage (s 5)) (Cert.KernelIdeal.Facts₀.hstage0_5 0) (Memref.whole Cert.KernelIdeal.cc0_scratch0) (Memref.isWhole_whole _) (Memref.whole Cert.KernelIdeal.cc0_scratch1) (Memref.isWhole_whole _) (Memref.whole Cert.KernelIdeal.cc0_scratch2) (Memref.isWhole_whole _) (Memref.whole Cert.KernelIdeal.cc0_scratch3) (Memref.isWhole_whole _) Cert.KernelIdeal.cc0_scratch4 Cert.KernelIdeal.cc0_scratch5 Cert.KernelIdeal.cc0_scratch6 Cert.KernelIdeal.cc0_scratch7 Cert.KernelIdeal.cc0_scratch8) same_body
  | ⟨_ + 1, h⟩, _ => exact absurd h (Nat.not_lt.2 (Nat.le_add_left _ _))

theorem same_defs : @Cert.Kernel.defs Bits _ Cert.Kernel.Gen.facts = @Cert.KernelIdeal.defs Bits _ Cert.KernelIdeal.Gen.facts :=
  congrArg (Pipeline.defs Cert.KernelIdeal.pcfgs) same_table

/-- The kernel as printed: the run of the common text, read at the machine's words. -/
theorem frame_kernel : Cert.quiescent_Kernel (hKernel := Cert.Kernel.Gen.facts) := fun m ρ _ => by
  have h := frame_words m ρ
  rw [← same_defs] at h
  exact h

/-- The idealized kernel: the same run over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.KernelIdeal.Mine.run_main (F := Ideal) m ρ)

/-- The reference: host operations only, no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/- The function both programs compute, of the arguments' elements: masked softmax attention per head, and the
   product with the output matrix. -/
module

public import Idealize.ShloMosaic.Lib.Pointwise

@[expose] public section

noncomputable section

namespace Cert.Attention

open Idealize.ShloMosaic

/-- Whether query row `i` may read key row `t`: the block of 64 rows of `t` is not after the one of `i`. -/
def keep (i t : Fin 256) : BitVec 1 :=
  IntOp.cmpi .sle (BitVec.ofNat 32 (t.val / 64)) (BitVec.ofNat 32 (i.val / 64))

/-- The score of query row `i` against key row `t`: the scaled product where it may be read, the large negative
    constant elsewhere. -/
def score (q k : Fin 256 → Fin 64 → EReal) (i t : Fin 256) : EReal :=
  Scalar.select (keep i t) ((∑ d : Fin 64, q i d * k t d) * Ideal.ofBits .f32 0x3E000000#32) (Ideal.ofBits .f32 0xCE6E6B28#32)

/-- The largest score of query row `i`. -/
def top (q k : Fin 256 → Fin 64 → EReal) (i : Fin 256) : EReal :=
  Finset.univ.fold max (Ideal.ofBits .f32 0xFF800000#32) fun t => score q k i t

/-- The softmax weight of key row `t` for query row `i`. -/
def weight (q k : Fin 256 → Fin 64 → EReal) (i t : Fin 256) : EReal :=
  Ideal.div (Ideal.exp (score q k i t - top q k i)) (∑ u : Fin 256, Ideal.exp (score q k i u - top q k i))

/-- One head's result at row `i`, column `d`: the values weighted. -/
def headAt (q k v : Fin 256 → Fin 64 → EReal) (i : Fin 256) (d : Fin 64) : EReal :=
  ∑ t : Fin 256, weight q k i t * v t d

theorem headOf_lt (j : Fin 8192) : j.val / 64 < 128 := by omega

/-- The head a column of the wide query matrix belongs to. -/
def headOf (j : Fin 8192) : Fin 128 := ⟨j.val / 64, headOf_lt j⟩
/-- Its column within the head. -/
def colOf (j : Fin 8192) : Fin 64 := ⟨j.val % 64, Nat.mod_lt _ (by decide)⟩
/-- The column of the wide query matrix of a head's column. -/
def wide (h : Fin 128) (d : Fin 64) : Fin 8192 := ⟨h.val * 64 + d.val, by omega⟩

/-- The attention result at batch entry `b`, row `i`, wide column `j`. -/
def ctxAt (x : Fin 2 → Fin 256 → Fin 512 → EReal) (wq : Fin 512 → Fin 8192 → EReal)
    (k v : Fin 2 → Fin 256 → Fin 128 → Fin 64 → EReal) (b : Fin 2) (i : Fin 256) (h : Fin 128) (d : Fin 64) : EReal :=
  headAt (fun r e => ∑ l : Fin 512, x b r l * wq l (wide h e)) (fun t e => k b t h e) (fun t e => v b t h e) i d

/-- The result at batch entry `b`, row `i`, column `n`. -/
def outAt (x : Fin 2 → Fin 256 → Fin 512 → EReal) (wq : Fin 512 → Fin 8192 → EReal)
    (k v : Fin 2 → Fin 256 → Fin 128 → Fin 64 → EReal) (wo : Fin 8192 → Fin 512 → EReal) (b : Fin 2) (i : Fin 256) (n : Fin 512) : EReal :=
  ∑ j : Fin 8192, ctxAt x wq k v b i (headOf j) (colOf j) * wo j n

/-- Row 0 may be read from every row. -/
theorem keep_zero : ∀ i : Fin 256, keep i 0 = 1#1 := by
  unfold keep; decide +kernel

/-- A sum over `a` blocks of `b` indices, block by block. -/
theorem sum_blocks (a b : Nat) (F : Fin (a * b) → EReal) :
    ∑ j, F j = ∑ s : Fin a, ∑ d : Fin b, F ⟨s.val * b + d.val, by
      have := Nat.mul_le_mul_right b (Nat.succ_le_of_lt s.isLt); have := d.isLt; simp only [Nat.succ_mul] at *; omega⟩ := by
  rw [← finProdFinEquiv.sum_comp, Fintype.sum_prod_type]
  refine Finset.sum_congr rfl fun s _ => Finset.sum_congr rfl fun d _ => congrArg F (Fin.ext ?_)
  show d.val + b * s.val = _
  rw [Nat.mul_comm, Nat.add_comm]

end Cert.Attention
-- ==== Proof.KMath.lean ====
/- The kernel's partial output and its result, read at an index over the extended reals. -/
module

public import proofs.«01_k».proof.Proof.Local
public import proofs.«01_k».proof.Proof.Value

@[expose] public section

set_option maxRecDepth 16384

noncomputable section

namespace Cert.KernelIdeal.Mine

open Idealize.ShloMosaic Idealize.ShloMosaic.TcCoe Cert.KernelIdeal Cert.KernelIdeal.Gen Cert.Attention

/-- The floor division of a row number by 64, as the kernel spells it, is the division of naturals. -/
theorem floor_block : ∀ x : Fin 256,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32))
            (Scalar.extui (Scalar.cmpi CmpIPredicate.slt 64#32 0#32)) : BitVec 32))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32)
      = BitVec.ofNat 32 (x.val / 64) := by decide +kernel

theorem mask_apply (i t : Fin 256) : mask (ix2 i t) = keep i t := by
  pointwise [mask, k0_pay5, k0_pay3, k0_pay4]
  exact congrArg₂ (IntOp.cmpi .sle) (floor_block t) (floor_block i)

/-- One head at an index. -/
theorem headOut_apply (q : FVec Ideal S256x64 .f32) (k v : Vec Ideal S1x256x1x64 .f32) (i : Fin 256) (d : Fin 64) :
    headOut mask q k v (ix2 i d)
      = headAt (fun r e => q (ix2 r e)) (fun t e => k (ix4 0 t 0 e)) (fun t e => v (ix4 0 t 0 e)) i d := by
  pointwise [headOut, k0_pay13]
  simp only [mask_apply]
  rfl

/-- Four blocks of 64 columns side by side, at a column of one of them. -/
theorem beside_apply (f : Fin 4 → FVec Ideal S256x64 .f32) (i : Fin 256) (h : Fin 4) (d : Fin 64) (hc : h.val * 64 + d.val < 256) :
    concatenate S256x256 1 [⟨S256x64, f 0⟩, ⟨S256x64, f 1⟩, ⟨S256x64, f 2⟩, ⟨S256x64, f 3⟩]
      concatenates_S256x64_S256x64_S256x64_S256x64_S256x256_d1 (ix2 i ⟨h.val * 64 + d.val, hc⟩) = f h (ix2 i d) := by
  pointwise
  fin_vals h with hk
  · obtain rfl : h = 0 := Fin.ext hk
    rw [dif_pos (by show 0 * 64 + d.val < 64; omega)]
    exact congrArg (fun z => f 0 (ix2 i z)) (Fin.ext (by show 0 * 64 + d.val = d.val; omega))
  · obtain rfl : h = 1 := Fin.ext hk
    rw [dif_neg (by show ¬(1 * 64 + d.val < 64); omega), dif_pos (by show 1 * 64 + d.val - 64 < 64; omega)]
    exact congrArg (fun z => f 1 (ix2 i z)) (Fin.ext (by show 1 * 64 + d.val - 64 = d.val; omega))
  · obtain rfl : h = 2 := Fin.ext hk
    rw [dif_neg (by show ¬(2 * 64 + d.val < 64); omega), dif_neg (by show ¬(2 * 64 + d.val - 64 < 64); omega),
      dif_pos (by show 2 * 64 + d.val - 64 - 64 < 64; omega)]
    exact congrArg (fun z => f 2 (ix2 i z)) (Fin.ext (by show 2 * 64 + d.val - 64 - 64 = d.val; omega))
  · obtain rfl : h = 3 := Fin.ext hk
    rw [dif_neg (by show ¬(3 * 64 + d.val < 64); omega), dif_neg (by show ¬(3 * 64 + d.val - 64 < 64); omega),
      dif_neg (by show ¬(3 * 64 + d.val - 64 - 64 < 64); omega)]
    exact congrArg (fun z => f 3 (ix2 i z)) (Fin.ext (by show 3 * 64 + d.val - 64 - 64 - 64 = d.val; omega))

theorem head_slices (h : Fin 4) : S256x256.Slices ![0, h.val * 64] S256x64 := by
  fin_cases h <;> decide

/-- The product with the output rows, at an index. -/
theorem through_apply (C : FVec Ideal S256x256 .f32) (wo : Vec Ideal S256x512 .f32) (i : Fin 256) (n : Fin 512) :
    (truncf .bf16 (matmul dot_S256x256_S256x512_S256x512_1_0_0_1_n_n none C
      (shapeCast S256x512 wo shapeCasts_S256x512_S256x512 : FVec Ideal S256x512 .f32)
      (constant S256x512 .f32 0x00000000#32)) bitsLt_bf16_f32 : FVec Ideal S256x512 .bf16) (ix2 i n) = ∑ c : Fin 256, C (ix2 i c) * wo (ix2 c n) := by
  pointwise

/-- The queries of head `h`, at an index. -/
theorem queries_apply (x : Vec Ideal S1x256x512 .f32) (wq : Vec Ideal S512x256 .f32) (h : Fin 4) (r : Fin 256) (e : Fin 64) :
    extractStridedSlice S256x64 ![0, h.val * 64] (k0_pay6 x wq) (head_slices h) (ix2 r e)
      = ∑ l : Fin 512, x (ix3 0 r l) * wq (ix2 l ⟨h.val * 64 + e.val, by omega⟩) := by
  pointwise [k0_pay6]

theorem rX_at (w : Fin 2) (r : Fin 256) (l : Fin 512) : (rX w).emb (ix3 0 r l) = ix3 w r l := by
  funext a
  match a with
  | 0 => exact Fin.ext (show w.val + 1 * 0 = w.val by omega)
  | 1 => exact Fin.ext (show 0 + 1 * r.val = r.val by omega)
  | 2 => exact Fin.ext (show 0 + 1 * l.val = l.val by omega)

theorem rKV_at (w : Fin 2) (h : Fin 4) (t : Fin 256) (e : Fin 64) : (rKV w h).emb (ix4 0 t 0 e) = ix4 w t h e := by
  funext a
  match a with
  | 0 => exact Fin.ext (show w.val + 1 * 0 = w.val by omega)
  | 1 => exact Fin.ext (show 0 + 1 * t.val = t.val by omega)
  | 2 => exact Fin.ext (show h.val + 1 * 0 = h.val by omega)
  | 3 => exact Fin.ext (show 0 + 1 * e.val = e.val by omega)

theorem rWq_at (l : Fin 512) (c : Fin 256) : rWq.emb (ix2 l c) = ix2 l c := by
  funext a
  match a with
  | 0 => exact Fin.ext (show 0 + 1 * l.val = l.val by omega)
  | 1 => exact Fin.ext (show 0 + 1 * c.val = c.val by omega)

theorem rWo_at (c : Fin 256) (n : Fin 512) : rWo.emb (ix2 c n) = ix2 c n := by
  funext a
  match a with
  | 0 => exact Fin.ext (show 0 + 1 * c.val = c.val by omega)
  | 1 => exact Fin.ext (show 0 + 1 * n.val = n.val by omega)

/-- The partial output at an index. -/
theorem part_apply (x : Vec Ideal S2x256x512 .f32) (wq : Vec Ideal S512x256 .f32) (k v : Vec Ideal S2x256x4x64 .f32)
    (wo : Vec Ideal S256x512 .f32) (w : Fin 2) (i : Fin 256) (n : Fin 512) :
    part x wq k v wo w (ix2 i n)
      = ∑ h : Fin 4, ∑ d : Fin 64, headAt (fun r e => ∑ l : Fin 512, x (ix3 w r l) * wq (ix2 l ⟨h.val * 64 + e.val, by omega⟩))
          (fun t e => k (ix4 w t h e)) (fun t e => v (ix4 w t h e)) i d * wo (ix2 ⟨h.val * 64 + d.val, by omega⟩ n) := by
  unfold part attn
  rw [through_apply, sum_blocks 4 64]
  refine Finset.sum_congr rfl fun h _ => Finset.sum_congr rfl fun d _ => ?_
  rw [rWo_at]
  refine congrArg (· * _) ((beside_apply (fun h => headOut mask (extractStridedSlice S256x64 ![0, h.val * 64]
    (k0_pay6 (fun i => x ((rX w).emb i)) (fun i => wq (rWq.emb i))) (head_slices h)) (fun i => k ((rKV w h).emb i))
    (fun i => v ((rKV w h).emb i))) i h d _).trans ?_)
  simp only [headOut_apply, queries_apply, rX_at, rKV_at, rWq_at]

/-! ## The exchange -/

theorem chunk_apply (p : FVec Ideal S256x512 .bf16) (c : Fin 32) (r : Fin 8) (n : Fin 512) :
    chunk p c (ix3 0 r n) = p (ix2 ⟨8 * c.val + r.val, by omega⟩ n) := by
  pointwise [chunk]

/-- Row `r` of every device's slot, of wave `w`, in the receive buffer. -/
theorem rS_at (w : Fin 2) (s : Fin 32) (r : Fin 8) (n : Fin 512) : (rS w).emb (ix3 s r n) = (rP w s).emb (ix3 0 r n) := by
  funext a
  match a with
  | 0 => exact Fin.ext (show 0 + 1 * s.val = s.val + 1 * 0 by omega)
  | 1 => exact Fin.ext (show 8 * w.val + 1 * r.val = 8 * w.val + 1 * r.val from rfl)
  | 2 => exact Fin.ext (show 0 + 1 * n.val = 0 + 1 * n.val from rfl)

/-- The sum over the slots, at an index. -/
theorem sum_apply (X : Vec Ideal S32x8x512 .bf16) (r : Fin 8) (n : Fin 512) :
    k0_pay101 X (ix3 0 r n) = ∑ s : Fin 32, X (ix3 s r n) := by
  pointwise [k0_pay101]

/-- What device `c` makes of the partial outputs: the sum of its rows over the devices. -/
theorem redV_apply (P : Dev nD → Fin 2 → FVec Ideal S256x512 .bf16) (c : Dev nD) (w : Fin 2) (r : Fin 8) (n : Fin 512) :
    redV P c w (ix3 0 r n) = ∑ s : Fin 32, P s w (ix2 ⟨8 * c.val + r.val, by have : c.val < 32 := c.isLt; omega⟩ n) := by
  unfold redV
  rw [sum_apply]
  refine Finset.sum_congr rfl fun s _ => ?_
  show commC P c ((rS w).emb (ix3 s r n)) = _
  rw [rS_at]
  unfold commC
  rw [glue_at]
  exact chunk_apply _ c r n

/-- The result at an index: the sum over the devices of their partial outputs. -/
theorem outC_apply (P : Dev nD → Fin 2 → FVec Ideal S256x512 .bf16) (b : Fin 2) (i : Fin 256) (n : Fin 512) :
    outC P (ix3 b i n) = ∑ s : Fin 32, P s b (ix2 i n) := by
  have h8 : i.val % 8 < 8 := Nat.mod_lt _ (by decide)
  have e : outC P (ix3 b i n) = k0_pay1 (redV P ⟨i.val / 8, (Nat.div_lt_iff_lt_mul (by decide)).mpr i.isLt⟩ b) (ix3 0 ⟨i.val % 8, h8⟩ n) := by
    unfold outC glueO
    refine congrArg (k0_pay1 (redV P _ _)) ?_
    funext a
    match a with | 0 => rfl | 1 => rfl | 2 => rfl
  rw [e]
  pointwise [k0_pay1]
  rw [redV_apply]
  exact Finset.sum_congr rfl fun s _ => congrArg (fun z => P s b (ix2 z n)) (Fin.ext (Nat.div_add_mod _ _))

end Cert.KernelIdeal.Mine
-- ==== Proof.Final.lean ====
/- What the kernel leaves in the result array, of the arguments. -/
module

public import proofs.«01_k».proof.Proof.Region
public import proofs.«01_k».proof.Proof.KMath
public import Idealize.ShloMosaic.Lib.Pipeline.ValueKit

@[expose] public section

set_option synthInstance.maxSize 4096
set_option maxRecDepth 16384

noncomputable section

namespace Cert.KernelIdeal.Mine

open Idealize.ShloMosaic Idealize.ShloMosaic.TcCoe Cert.KernelIdeal Cert.KernelIdeal.Gen Cert.Attention

variable (m : (ℓ : Loc nD τ sig) → Buf (Elt Ideal) ℓ)

/-- The pipeline leaves the kernel's result in the result array. -/
theorem arr_result (c : Dev nD) : (dat m c).arrAt 5 cfg0.N = outC (Pm m) := by
  refine (dat m c).arrAt_eq_of_after_last 5 t0_0 (by decide +kernel) _ fun j => ?_
  rfl

/-! ## The windows' blocks are the whole arrays -/

theorem xB_eq (c : Dev nD) (i : S2x256x512.Idx) : xB m c i = m ((c.tc : Thread nD τ).loc main_arg0) i := by
  unfold xB
  rw [V1_of m c main_arg0 (by decide)]
  show m ((c.tc : Thread nD τ).loc main_arg0) (((cfg0.win 0).blk t0_0).view.emb i) = m ((c.tc : Thread nD τ).loc main_arg0) i
  have h : ∀ a, win0_0.index t0_0 a = 0 := by decide +kernel
  congr 1
  blk_ext [h]

theorem wqB_eq (c : Dev nD) (i : S512x256.Idx) : wqB m c i = (V1 m c main_v9 : S512x256.Idx → EReal) i := by
  show (V1 m c main_v9 : S512x256.Idx → EReal) (((cfg0.win 1).blk t0_0).view.emb i) = (V1 m c main_v9 : S512x256.Idx → EReal) i
  have h : ∀ a, win0_1.index t0_0 a = 0 := by decide +kernel
  congr 1
  blk_ext [h]

theorem kB_eq (c : Dev nD) (i : S2x256x4x64.Idx) : kB m c i = m ((c.tc : Thread nD τ).loc main_arg2) i := by
  unfold kB
  rw [V1_of m c main_arg2 (by decide)]
  show m ((c.tc : Thread nD τ).loc main_arg2) (((cfg0.win 2).blk t0_0).view.emb i) = m ((c.tc : Thread nD τ).loc main_arg2) i
  have h : ∀ a, win0_2.index t0_0 a = 0 := by decide +kernel
  congr 1
  blk_ext [h]

theorem vB_eq (c : Dev nD) (i : S2x256x4x64.Idx) : vB m c i = m ((c.tc : Thread nD τ).loc main_arg3) i := by
  unfold vB
  rw [V1_of m c main_arg3 (by decide)]
  show m ((c.tc : Thread nD τ).loc main_arg3) (((cfg0.win 3).blk t0_0).view.emb i) = m ((c.tc : Thread nD τ).loc main_arg3) i
  have h : ∀ a, win0_3.index t0_0 a = 0 := by decide +kernel
  congr 1
  blk_ext [h]

theorem woB_eq (c : Dev nD) (i : S256x512.Idx) : woB m c i = (V1 m c main_v14 : S256x512.Idx → EReal) i := by
  show (V1 m c main_v14 : S256x512.Idx → EReal) (((cfg0.win 4).blk t0_0).view.emb i) = (V1 m c main_v14 : S256x512.Idx → EReal) i
  have h : ∀ a, win0_4.index t0_0 a = 0 := by decide +kernel
  congr 1
  blk_ext [h]

/-! ## The two slices a device takes -/

/-- The start of a device's slices: 256 times its number. -/
theorem word_dev : ∀ c : Dev nD,
    (Scalar.select (IntOp.cmpi .slt (IntOp.muli (IntOp.remui .host (IntOp.divui .host (Dev.word c) 1#32) 32#32) 256#32) 0#32)
      (IntOp.addi (IntOp.muli (IntOp.remui .host (IntOp.divui .host (Dev.word c) 1#32) 32#32) 256#32) 8192#32)
      (IntOp.muli (IntOp.remui .host (IntOp.divui .host (Dev.word c) 1#32) 32#32) 256#32)).toInt = (256 * c.val : Nat) := by
  decide +kernel

/-- Its columns of the query matrix. -/
theorem wq_slice (c : Dev nD) (l : Fin 512) (k : Fin 256) :
    (V1 m c main_v9 : S512x256.Idx → EReal) (ix2 l k)
      = (m ((c.tc : Thread nD τ).loc main_arg1) : S512x8192.Idx → EReal) (ix2 l ⟨256 * c.val + k.val, by have : c.val < 32 := c.isLt; omega⟩) := by
  have hc : c.val < 32 := c.isLt
  unfold V1
  after_results_simp
  refine (congrArg (fun f => Host.dynamicSlice S512x256 (V0 m c (Proc.tc.devRef main_arg1)) f sliceFits_S512x8192_S512x256 (ix2 l k))
    (?_ : _ = ![0, ((256 * c.val : Nat) : Int)])).trans ?_
  · funext a
    match a with
    | 0 => rfl
    | 1 => exact word_dev c
  · pointwise
    refine congrArg (m ((c.tc : Thread nD τ).loc main_arg1)) (congrArg₂ (ix2 (n0 := 512) (n1 := 8192)) (Fin.ext ?_) (Fin.ext ?_))
    · exact (congrArg (· + l.val) (Host.clampedStart_of_le _ _ _ 0 rfl (by decide))).trans (Nat.zero_add _)
    · exact congrArg (· + k.val) (Host.clampedStart_of_le _ _ _ (256 * c.val) rfl (show 256 * c.val + 256 ≤ 8192 by omega))

/-- Its rows of the output matrix. -/
theorem wo_slice (c : Dev nD) (k : Fin 256) (n : Fin 512) :
    (V1 m c main_v14 : S256x512.Idx → EReal) (ix2 k n)
      = (m ((c.tc : Thread nD τ).loc main_arg4) : S8192x512.Idx → EReal) (ix2 ⟨256 * c.val + k.val, by have : c.val < 32 := c.isLt; omega⟩ n) := by
  have hc : c.val < 32 := c.isLt
  unfold V1
  after_results_simp
  refine (congrArg (fun f => Host.dynamicSlice S256x512 (V0 m c (Proc.tc.devRef main_arg4)) f sliceFits_S8192x512_S256x512 (ix2 k n))
    (?_ : _ = ![((256 * c.val : Nat) : Int), 0])).trans ?_
  · funext a
    match a with
    | 0 => exact word_dev c
    | 1 => rfl
  · pointwise
    refine congrArg (m ((c.tc : Thread nD τ).loc main_arg4)) (congrArg₂ (ix2 (n0 := 8192) (n1 := 512)) (Fin.ext ?_) (Fin.ext ?_))
    · exact congrArg (· + k.val) (Host.clampedStart_of_le _ _ _ (256 * c.val) rfl (show 256 * c.val + 256 ≤ 8192 by omega))
    · exact (congrArg (· + n.val) (Host.clampedStart_of_le _ _ _ 0 rfl (by decide))).trans (Nat.zero_add _)

/-! ## The result -/

/-- A device's partial output at an index, of the arguments it holds. -/
theorem Pm_apply (c : Dev nD) (x : S2x256x512.Idx → EReal) (wq : S512x8192.Idx → EReal) (k v : S2x256x4x64.Idx → EReal)
    (wo : S8192x512.Idx → EReal)
    (hx : m ((c.tc : Thread nD τ).loc main_arg0) = x) (hwq : m ((c.tc : Thread nD τ).loc main_arg1) = wq)
    (hk : m ((c.tc : Thread nD τ).loc main_arg2) = k) (hv : m ((c.tc : Thread nD τ).loc main_arg3) = v)
    (hwo : m ((c.tc : Thread nD τ).loc main_arg4) = wo) (b : Fin 2) (i : Fin 256) (n : Fin 512) :
    Pm m c b (ix2 i n)
      = ∑ h : Fin 4, ∑ d : Fin 64,
          headAt (fun r e => ∑ l : Fin 512, x (ix3 b r l)
              * wq (ix2 l ⟨256 * c.val + (h.val * 64 + e.val), by have : c.val < 32 := c.isLt; omega⟩))
            (fun t e => k (ix4 b t h e)) (fun t e => v (ix4 b t h e)) i d
          * wo (ix2 ⟨256 * c.val + (h.val * 64 + d.val), by have : c.val < 32 := c.isLt; omega⟩ n) := by
  subst hx hwq hk hv hwo
  have hq : ∀ (l : Fin 512) (j : Fin 256), wqB m c (ix2 l j) = _ := fun l j => (wqB_eq m c _).trans (wq_slice m c l j)
  have ho : ∀ (j : Fin 256) (n : Fin 512), woB m c (ix2 j n) = _ := fun j n => (woB_eq m c _).trans (wo_slice m c j n)
  unfold Pm
  rw [part_apply]
  simp only [xB_eq, kB_eq, vB_eq, hq, ho]

/-- The kernel's result at an index is the function of whole arrays, when the devices hold the two replicated inputs and
    the two matrices alike and each holds its four heads of the keys and of the values. -/
theorem result_apply (x : S2x256x512.Idx → EReal) (wq : S512x8192.Idx → EReal) (k v : (⟨4, ![2, 256, 128, 64]⟩ : Shape).Idx → EReal)
    (wo : S8192x512.Idx → EReal)
    (hx : ∀ c : Dev nD, m ((c.tc : Thread nD τ).loc main_arg0) = x) (hwq : ∀ c : Dev nD, m ((c.tc : Thread nD τ).loc main_arg1) = wq)
    (hk : ∀ c : Dev nD, m ((c.tc : Thread nD τ).loc main_arg2) = Layout.block ⟨4, ![2, 256, 4, 64]⟩ ⟨4, ![2, 256, 128, 64]⟩ 2 32 c k)
    (hv : ∀ c : Dev nD, m ((c.tc : Thread nD τ).loc main_arg3) = Layout.block ⟨4, ![2, 256, 4, 64]⟩ ⟨4, ![2, 256, 128, 64]⟩ 2 32 c v)
    (hwo : ∀ c : Dev nD, m ((c.tc : Thread nD τ).loc main_arg4) = wo) (b : Fin 2) (i : Fin 256) (n : Fin 512) :
    outC (Pm m) (ix3 b i n)
      = outAt (fun b i l => x (ix3 b i l)) (fun l j => wq (ix2 l j)) (fun b t h d => k (ix4 b t h d)) (fun b t h d => v (ix4 b t h d))
          (fun j n => wo (ix2 j n)) b i n := by
  rw [outC_apply]
  unfold outAt
  rw [sum_blocks 128 64, sum_blocks 32 4]
  refine Finset.sum_congr rfl fun s _ => ?_
  rw [Pm_apply m s x wq _ _ wo (hx s) (hwq s) (hk s) (hv s) (hwo s)]
  refine Finset.sum_congr rfl fun h _ => Finset.sum_congr rfl fun d _ => ?_
  have hH : headOf ⟨(s.val * 4 + h.val) * 64 + d.val, by omega⟩ = ⟨s.val * 4 + h.val, by omega⟩ := Fin.ext (by simp only [headOf]; omega)
  have hC : colOf ⟨(s.val * 4 + h.val) * 64 + d.val, by omega⟩ = d := Fin.ext (by simp only [colOf]; omega)
  have hW : ∀ e : Fin 64, (⟨256 * s.val + (h.val * 64 + e.val), by omega⟩ : Fin 8192) = wide ⟨s.val * 4 + h.val, by omega⟩ e :=
    fun e => Fin.ext (by simp only [wide]; omega)
  have hI : ∀ (t : Fin 256) (e : Fin 64) (T : Layout.Tiles ⟨4, ![2, 256, 4, 64]⟩ ⟨4, ![2, 256, 128, 64]⟩ 2 32),
      T.idx s (ix4 b t h e) = ix4 b t ⟨s.val * 4 + h.val, by omega⟩ e := fun t e T => by
    funext a
    match a with
    | 0 => rfl
    | 1 => rfl
    | 2 => exact Fin.ext rfl
    | 3 => rfl
  rw [hH, hC]
  unfold ctxAt
  simp only [Layout.block_apply, hI, hW]
  rfl

end Cert.KernelIdeal.Mine
-- ==== Proof.RefMath.lean ====
/- The reference's result, read at an index. -/
module

public import proofs.«01_k».proof.Proof.Gen.ReferenceIdeal.Run
public import proofs.«01_k».proof.Proof.Value

@[expose] public section

set_option maxRecDepth 16384

noncomputable section

namespace Cert.ReferenceIdeal.Mine

open Idealize.ShloMosaic Idealize.ShloMosaic.TcCoe Cert.ReferenceIdeal Cert.ReferenceIdeal.Gen Cert.Attention

/-! ## The reference's steps, of its arguments -/

/-- The block of 64 rows of each row number. -/
def rowBlock : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- Which rows may read which. -/
def keepM : IVec S256x256 1 :=
  cmpi .sle (broadcastInDim S256x256 ![0, 1] bcast_S1x256_S256x256_0_1 (broadcastInDim S1x256 ![1] bcast_S256_S1x256_1 rowBlock))
    (broadcastInDim S256x256 ![0, 1] bcast_S256x1_S256x256_0_1 (broadcastInDim S256x1 ![0] bcast_S256_S256x1_0 rowBlock))

/-- Whether a row may read any. -/
def keepAny : IVec S256 1 := Host.reduce IntOp.ori keepM (constantI S_ 1 0#1) reducesTo_S256x256_S256_d1 h_S_

/-- The masked scores. -/
def scoreM (x : FVec Ideal S2x256x512 .f32) (wq : FVec Ideal S512x8192 .f32) (k : FVec Ideal S2x256x128x64 .f32) :
    FVec Ideal S2x128x256x256 .f32 :=
  select (broadcastInDim S2x128x256x256 ![0, 1, 2, 3] bcast_S1x1x256x256_S2x128x256x256_0_1_2_3
      (broadcastInDim S1x1x256x256 ![2, 3] bcast_S256x256_S1x1x256x256_2_3 keepM))
    (mulf (Host.dotGeneral dot_S2x256x128x64_S2x256x128x64_S2x128x256x256_3_3_1_1_02_02 none
        (shapeCast _ (Host.dotGeneral dot_S2x256x512_S512x8192_S2x256x8192_2_0_01_1_n_n none x wq) shapeCasts_S2x256x8192_S2x256x128x64) k)
      (broadcastInDim S2x128x256x256 ![] bcast_S_S2x128x256x256 (constant S_ .f32 0x3E000000#32)))
    (broadcastInDim S2x128x256x256 ![] bcast_S_S2x128x256x256 (constant S_ .f32 0xCE6E6B28#32))

/-- The exponentials of the scores less their row's largest. -/
def expM (s : FVec Ideal S2x128x256x256 .f32) : FVec Ideal S2x128x256x256 .f32 :=
  Host.exp (subf s (broadcastInDim S2x128x256x256 ![0, 1, 2, 3] bcast_S2x128x256x1_S2x128x256x256_0_1_2_3
    (broadcastInDim S2x128x256x1 ![0, 1, 2] bcast_S2x128x256_S2x128x256x1_0_1_2
      (Host.reduce FloatOps.maximumf s (constant S_ .f32 0xFF800000#32) reducesTo_S2x128x256x256_S2x128x256_d3 h_S_))))

/-- The weights. -/
def weightM (e : FVec Ideal S2x128x256x256 .f32) : FVec Ideal S2x128x256x256 .f32 :=
  select (broadcastInDim S2x128x256x256 ![0, 1, 2, 3] bcast_S1x1x256x1_S2x128x256x256_0_1_2_3
      (broadcastInDim S1x1x256x1 ![2] bcast_S256_S1x1x256x1_2 keepAny))
    (Host.divf e (broadcastInDim S2x128x256x256 ![0, 1, 2, 3] bcast_S2x128x256x1_S2x128x256x256_0_1_2_3
      (select (broadcastInDim S2x128x256x1 ![0, 1, 2, 3] bcast_S1x1x256x1_S2x128x256x1_0_1_2_3
          (broadcastInDim S1x1x256x1 ![2] bcast_S256_S1x1x256x1_2 keepAny))
        (broadcastInDim S2x128x256x1 ![0, 1, 2] bcast_S2x128x256_S2x128x256x1_0_1_2
          (Host.reduceAdd e (constant S_ .f32 0x00000000#32) reducesTo_S2x128x256x256_S2x128x256_d3 h_S_))
        (broadcastInDim S2x128x256x1 ![] bcast_S_S2x128x256x1 (constant S_ .f32 0x3F800000#32)))))
    (broadcastInDim S2x128x256x256 ![] bcast_S_S2x128x256x256 (constant S_ .f32 0x00000000#32))

/-- The result, of the weights. -/
def outM (w : FVec Ideal S2x128x256x256 .f32) (v : FVec Ideal S2x256x128x64 .f32) (wo : FVec Ideal S8192x512 .f32) :
    FVec Ideal S2x256x512 .f32 :=
  Host.dotGeneral dot_S2x256x8192_S8192x512_S2x256x512_2_0_01_1_n_n none
    (shapeCast _ (transpose S2x256x128x64 [0, 3, 1, 2]
      (Host.dotGeneral dot_S2x256x128x64_S2x128x256x256_S2x128x64x256_1_3_3_2_02_01 none v w)
      transposes_S2x128x64x256_S2x256x128x64_0_3_1_2) shapeCasts_S2x256x128x64_S2x256x8192) wo

/-- The reference's result is these steps of its arguments. -/
theorem res_eq (m : (ℓ : Loc nD τ sig) → Buf (Elt Ideal) ℓ) (c : Dev nD) :
    Value.res_main_v33 m c = outM (weightM (expM (scoreM (m ((c.tc : Thread nD τ).loc main_arg0)) (m ((c.tc : Thread nD τ).loc main_arg1))
      (m ((c.tc : Thread nD τ).loc main_arg2))))) (m ((c.tc : Thread nD τ).loc main_arg3)) (m ((c.tc : Thread nD τ).loc main_arg4)) := rfl

/-! ## Each step at an index -/

/-- The floor division of a row number by 64 is the division of naturals. -/
theorem floor_block : ∀ x : Fin 256,
    Scalar.select
      (IntOp.andi
        (IntOp.cmpi CmpIPredicate.ne
          (if BitVec.ofNat 32 x.val = 0 then (0 : BitVec 32) else if (BitVec.ofNat 32 x.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 x.val) 64#32) 0#32))
      (IntOp.subi (IntOp.divsi ArithUnit.host (BitVec.ofNat 32 x.val) 64#32) 1#32)
      (IntOp.divsi ArithUnit.host (BitVec.ofNat 32 x.val) 64#32)
      = BitVec.ofNat 32 (x.val / 64) := by decide +kernel

theorem rowBlock_apply (x : Fin 256) : rowBlock (ix1 x) = BitVec.ofNat 32 (x.val / 64) := by
  pointwise [rowBlock]
  exact floor_block x

theorem keepM_apply (i t : Fin 256) : keepM (ix2 i t) = keep i t := by
  pointwise [keepM]
  rw [rowBlock_apply, rowBlock_apply]; rfl

theorem keepAny_apply (i : Fin 256) : keepAny (ix1 i) = 1#1 := by
  pointwise [keepAny]
  rw [← Finset.insert_erase (Finset.mem_univ (0 : Fin 256)), Finset.fold_insert (Finset.notMem_erase _ _), keepM_apply, keep_zero]
  generalize Finset.fold IntOp.ori (0#1) (fun x => keepM (ix2 i x)) _ = y
  revert y; decide

theorem scoreM_apply (x : FVec Ideal S2x256x512 .f32) (wq : FVec Ideal S512x8192 .f32) (k : FVec Ideal S2x256x128x64 .f32)
    (b : Fin 2) (h : Fin 128) (i t : Fin 256) :
    scoreM x wq k (ix4 b h i t)
      = score (fun r e => ∑ l : Fin 512, x (ix3 b r l) * wq (ix2 l (wide h e))) (fun t e => k (ix4 b t h e)) i t := by
  pointwise [scoreM, score, wide]
  rw [keepM_apply]

theorem expM_apply (s : FVec Ideal S2x128x256x256 .f32) (b : Fin 2) (h : Fin 128) (i t : Fin 256) :
    expM s (ix4 b h i t) = Ideal.exp (s (ix4 b h i t) - Finset.univ.fold max (Ideal.ofBits .f32 0xFF800000#32) fun u => s (ix4 b h i u)) := by
  pointwise [expM]

theorem weightM_apply (e : FVec Ideal S2x128x256x256 .f32) (b : Fin 2) (h : Fin 128) (i t : Fin 256) :
    weightM e (ix4 b h i t) = Ideal.div (e (ix4 b h i t)) (∑ u : Fin 256, e (ix4 b h i u)) := by
  pointwise [weightM]
  simp only [keepAny_apply]
  pointwise

theorem outM_apply (w : FVec Ideal S2x128x256x256 .f32) (v : FVec Ideal S2x256x128x64 .f32) (wo : FVec Ideal S8192x512 .f32)
    (b : Fin 2) (i : Fin 256) (n : Fin 512) :
    outM w v wo (ix3 b i n)
      = ∑ j : Fin 8192, (∑ t : Fin 256, w (ix4 b (headOf j) i t) * v (ix4 b t (headOf j) (colOf j))) * wo (ix2 j n) := by
  pointwise [outM, headOf, colOf]
  exact Finset.sum_congr rfl fun j _ => congrArg (· * _) (Finset.sum_congr rfl fun t _ => mul_comm _ _)

/-- The reference's result at an index. -/
theorem res_apply (m : (ℓ : Loc nD τ sig) → Buf (Elt Ideal) ℓ) (c : Dev nD) (b : Fin 2) (i : Fin 256) (n : Fin 512) :
    (Value.res_main_v33 m c : S2x256x512.Idx → EReal) (ix3 b i n)
      = outAt (fun b i l => (m ((c.tc : Thread nD τ).loc main_arg0) : S2x256x512.Idx → EReal) (ix3 b i l))
          (fun l j => (m ((c.tc : Thread nD τ).loc main_arg1) : S512x8192.Idx → EReal) (ix2 l j))
          (fun b t h d => (m ((c.tc : Thread nD τ).loc main_arg2) : S2x256x128x64.Idx → EReal) (ix4 b t h d))
          (fun b t h d => (m ((c.tc : Thread nD τ).loc main_arg3) : S2x256x128x64.Idx → EReal) (ix4 b t h d))
          (fun j n => (m ((c.tc : Thread nD τ).loc main_arg4) : S8192x512.Idx → EReal) (ix2 j n)) b i n := by
  rw [res_eq, outM_apply]
  simp only [weightM_apply, expM_apply, scoreM_apply]
  rfl

end Cert.ReferenceIdeal.Mine
-- ==== Proof.Algebraic.lean ====
/- The value claim: over the extended reals the kernel's result on every device is the reference's. -/
module

public import proofs.«01_k».proof.Defs
public import proofs.«01_k».proof.Proof.Run
public import proofs.«01_k».proof.Proof.Final
public import proofs.«01_k».proof.Proof.RefMath

@[expose] public section

noncomputable section

namespace Cert.Proof

open Idealize.ShloMosaic Idealize.ShloMosaic.TcCoe Idealize.SL.Sem

/-- What a device's result array holds after the run: what the kernel leaves there. -/
theorem kernel_result (m : (ℓ : Loc Cert.KernelIdeal.nD Cert.KernelIdeal.τ Cert.KernelIdeal.sig) → Buf (Elt Ideal) ℓ) (c : Dev Cert.KernelIdeal.nD) :
    Cert.KernelIdeal.Gen.V2 m (Cert.KernelIdeal.Mine.outs m) c Cert.KernelIdeal.main_v15
      = Cert.KernelIdeal.Mine.outC (Cert.KernelIdeal.Mine.Pm m) := by
  have h : Cert.KernelIdeal.Gen.V2 m (Cert.KernelIdeal.Mine.outs m) c (Proc.devRef .tc Cert.KernelIdeal.main_v15)
      = Cert.KernelIdeal.Mine.outs m 2 Cert.KernelIdeal.main_v15 c := Function.update_self ..
  exact (h.trans (Cert.KernelIdeal.Mine.outs_out m c)).trans (Cert.KernelIdeal.Mine.arr_result m c)

/-- On memories that agree as the claim asks, the kernel's result is the reference's, on every device. -/
theorem algebraic_ideal_reference :
    Cert.algebraic_KernelIdeal_ReferenceIdeal (hKernelIdeal := Cert.KernelIdeal.Gen.facts) (hReferenceIdeal := Cert.ReferenceIdeal.Gen.facts) := by
  intro m g m' g' _ hin
  have heq : Cert.KernelIdeal.Mine.outC (Cert.KernelIdeal.Mine.Pm m) = Cert.ReferenceIdeal.Value.res_main_v33 m' 0 := by
    funext j
    obtain ⟨b, i, n, rfl⟩ : ∃ (b : Fin 2) (i : Fin 256) (n : Fin 512), j = ix3 b i n := ⟨j 0, j 1, j 2, eq_ix3 j⟩
    exact (Cert.KernelIdeal.Mine.result_apply m _ _ _ _ _ (fun c => (hin c).1) (fun c => (hin c).2.1) (fun c => (hin c).2.2.1)
      (fun c => (hin c).2.2.2.1) (fun c => (hin c).2.2.2.2) b i n).trans (Cert.ReferenceIdeal.Mine.res_apply m' 0 b i n).symm
  refine ⟨Cert.ReferenceIdeal.Value.res_main_v33 m' 0, ?_, ?_⟩
  · exact (θ_run Cert.KernelIdeal.defs _ _).mono
      (fun _ h c => ⟨((h.1 c).2.trans (kernel_result m c)).trans heq, (h.1 c).1⟩) (Cert.KernelIdeal.Mine.run_main (F := Ideal) m g)
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, trivial, algebraic_ideal_reference⟩

end Cert.Proof

end
